-- ==== Defs.lean ====
def Pre_QuantIn (m : (ℓ : Loc Cert.QuantIn.nD Cert.QuantIn.τ Cert.QuantIn.sig) → Buf (Elt Bits) ℓ) : Prop :=
  True

def Pre_QuantInIdeal (m : (ℓ : Loc Cert.QuantInIdeal.nD Cert.QuantInIdeal.τ Cert.QuantInIdeal.sig) → Buf (Elt Ideal) ℓ) : Prop :=
  True

def Pre_QuantInRefIdeal (m : (ℓ : Loc Cert.QuantInRefIdeal.nD Cert.QuantInRefIdeal.τ Cert.QuantInRefIdeal.sig) → Buf (Elt Ideal) ℓ) : Prop :=
  True

def Pre_QuantMid (m : (ℓ : Loc Cert.QuantMid.nD Cert.QuantMid.τ Cert.QuantMid.sig) → Buf (Elt Bits) ℓ) : Prop :=
  True

def Pre_QuantMidIdeal (m : (ℓ : Loc Cert.QuantMidIdeal.nD Cert.QuantMidIdeal.τ Cert.QuantMidIdeal.sig) → Buf (Elt Ideal) ℓ) : Prop :=
  True

def Pre_QuantMidRefIdeal (m : (ℓ : Loc Cert.QuantMidRefIdeal.nD Cert.QuantMidRefIdeal.τ Cert.QuantMidRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_QuantDown (m : (ℓ : Loc Cert.QuantDown.nD Cert.QuantDown.τ Cert.QuantDown.sig) → Buf (Elt Bits) ℓ) : Prop :=
  True

def Pre_QuantDownIdeal (m : (ℓ : Loc Cert.QuantDownIdeal.nD Cert.QuantDownIdeal.τ Cert.QuantDownIdeal.sig) → Buf (Elt Ideal) ℓ) : Prop :=
  True

def Pre_QuantDownRefIdeal (m : (ℓ : Loc Cert.QuantDownRefIdeal.nD Cert.QuantDownRefIdeal.τ Cert.QuantDownRefIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjRefIdeal (m : (ℓ : Loc Cert.DownProjRefIdeal.nD Cert.DownProjRefIdeal.τ Cert.DownProjRefIdeal.sig) → Buf (Elt Ideal) ℓ) : Prop :=
  True

def quiescent_QuantIn [hQuantIn : Cert.QuantIn.Facts] : Prop :=
  ∀ (m : (ℓ : Loc Cert.QuantIn.nD Cert.QuantIn.τ Cert.QuantIn.sig) → Buf (Elt Bits) ℓ) (g : Dev Cert.QuantIn.nD → PrngReg), Pre_QuantIn m →
    θ_run (Cert.QuantIn.defs (F := Bits)) (onTc (τ := Cert.QuantIn.τ) (Cert.QuantIn.main (F := Bits))) ⟨m, fun _ => 0, g⟩ (fun r => (∀ c : Dev Cert.QuantIn.nD,
      r.2.mem ((c.tc : Thread Cert.QuantIn.nD Cert.QuantIn.τ).loc Cert.QuantIn.main_arg0) = m ((c.tc : Thread Cert.QuantIn.nD Cert.QuantIn.τ).loc Cert.QuantIn.main_arg0)
      ∧ r.2.mem ((c.tc : Thread Cert.QuantIn.nD Cert.QuantIn.τ).loc Cert.QuantIn.main_arg1) = m ((c.tc : Thread Cert.QuantIn.nD Cert.QuantIn.τ).loc Cert.QuantIn.main_arg1))
      ∧ r.2.sem = fun _ => 0)

def quiescent_QuantInIdeal [hQuantInIdeal : Cert.QuantInIdeal.Facts] : Prop :=
  ∀ (m : (ℓ : Loc Cert.QuantInIdeal.nD Cert.QuantInIdeal.τ Cert.QuantInIdeal.sig) → Buf (Elt Ideal) ℓ) (g : Dev Cert.QuantInIdeal.nD → PrngReg), Pre_QuantInIdeal m →
    θ_run (Cert.QuantInIdeal.defs (F := Ideal)) (onTc (τ := Cert.QuantInIdeal.τ) (Cert.QuantInIdeal.main (F := Ideal))) ⟨m, fun _ => 0, g⟩ (fun r => (∀ c : Dev Cert.QuantInIdeal.nD,
      r.2.mem ((c.tc : Thread Cert.QuantInIdeal.nD Cert.QuantInIdeal.τ).loc Cert.QuantInIdeal.main_arg0) = m ((c.tc : Thread Cert.QuantInIdeal.nD Cert.QuantInIdeal.τ).loc Cert.QuantInIdeal.main_arg0)
      ∧ r.2.mem ((c.tc : Thread Cert.QuantInIdeal.nD Cert.QuantInIdeal.τ).loc Cert.QuantInIdeal.main_arg1) = m ((c.tc : Thread Cert.QuantInIdeal.nD Cert.QuantInIdeal.τ).loc Cert.QuantInIdeal.main_arg1))
      ∧ r.2.sem = fun _ => 0)

def quiescent_QuantInRefIdeal [hQuantInRefIdeal : Cert.QuantInRefIdeal.Facts] : Prop :=
  ∀ (m : (ℓ : Loc Cert.QuantInRefIdeal.nD Cert.QuantInRefIdeal.τ Cert.QuantInRefIdeal.sig) → Buf (Elt Ideal) ℓ) (g : Dev Cert.QuantInRefIdeal.nD → PrngReg), Pre_QuantInRefIdeal m →
    θ_run (Cert.QuantInRefIdeal.defs (F := Ideal)) (onTc (τ := Cert.QuantInRefIdeal.τ) (Cert.QuantInRefIdeal.main (F := Ideal))) ⟨m, fun _ => 0, g⟩ (fun r => (∀ c : Dev Cert.QuantInRefIdeal.nD,
      r.2.mem ((c.tc : Thread Cert.QuantInRefIdeal.nD Cert.QuantInRefIdeal.τ).loc Cert.QuantInRefIdeal.main_arg0) = m ((c.tc : Thread Cert.QuantInRefIdeal.nD Cert.QuantInRefIdeal.τ).loc Cert.QuantInRefIdeal.main_arg0)
      ∧ r.2.mem ((c.tc : Thread Cert.QuantInRefIdeal.nD Cert.QuantInRefIdeal.τ).loc Cert.QuantInRefIdeal.main_arg1) = m ((c.tc : Thread Cert.QuantInRefIdeal.nD Cert.QuantInRefIdeal.τ).loc Cert.QuantInRefIdeal.main_arg1))
      ∧ r.2.sem = fun _ => 0)

def quiescent_QuantMid [hQuantMid : Cert.QuantMid.Facts] : Prop :=
  ∀ (m : (ℓ : Loc Cert.QuantMid.nD Cert.QuantMid.τ Cert.QuantMid.sig) → Buf (Elt Bits) ℓ) (g : Dev Cert.QuantMid.nD → PrngReg), Pre_QuantMid m →
    θ_run (Cert.QuantMid.defs (F := Bits)) (onTc (τ := Cert.QuantMid.τ) (Cert.QuantMid.main (F := Bits))) ⟨m, fun _ => 0, g⟩ (fun r => (∀ c : Dev Cert.QuantMid.nD,
      r.2.mem ((c.tc : Thread Cert.QuantMid.nD Cert.QuantMid.τ).loc Cert.QuantMid.main_arg0) = m ((c.tc : Thread Cert.QuantMid.nD Cert.QuantMid.τ).loc Cert.QuantMid.main_arg0)
      ∧ r.2.mem ((c.tc : Thread Cert.QuantMid.nD Cert.QuantMid.τ).loc Cert.QuantMid.main_arg1) = m ((c.tc : Thread Cert.QuantMid.nD Cert.QuantMid.τ).loc Cert.QuantMid.main_arg1))
      ∧ r.2.sem = fun _ => 0)

def quiescent_QuantMidIdeal [hQuantMidIdeal : Cert.QuantMidIdeal.Facts] : Prop :=
  ∀ (m : (ℓ : Loc Cert.QuantMidIdeal.nD Cert.QuantMidIdeal.τ Cert.QuantMidIdeal.sig) → Buf (Elt Ideal) ℓ) (g : Dev Cert.QuantMidIdeal.nD → PrngReg), Pre_QuantMidIdeal m →
    θ_run (Cert.QuantMidIdeal.defs (F := Ideal)) (onTc (τ := Cert.QuantMidIdeal.τ) (Cert.QuantMidIdeal.main (F := Ideal))) ⟨m, fun _ => 0, g⟩ (fun r => (∀ c : Dev Cert.QuantMidIdeal.nD,
      r.2.mem ((c.tc : Thread Cert.QuantMidIdeal.nD Cert.QuantMidIdeal.τ).loc Cert.QuantMidIdeal.main_arg0) = m ((c.tc : Thread Cert.QuantMidIdeal.nD Cert.QuantMidIdeal.τ).loc Cert.QuantMidIdeal.main_arg0)
      ∧ r.2.mem ((c.tc : Thread Cert.QuantMidIdeal.nD Cert.QuantMidIdeal.τ).loc Cert.QuantMidIdeal.main_arg1) = m ((c.tc : Thread Cert.QuantMidIdeal.nD Cert.QuantMidIdeal.τ).loc Cert.QuantMidIdeal.main_arg1))
      ∧ r.2.sem = fun _ => 0)

def quiescent_QuantMidRefIdeal [hQuantMidRefIdeal : Cert.QuantMidRefIdeal.Facts] : Prop :=
  ∀ (m : (ℓ : Loc Cert.QuantMidRefIdeal.nD Cert.QuantMidRefIdeal.τ Cert.QuantMidRefIdeal.sig) → Buf (Elt Ideal) ℓ) (g : Dev Cert.QuantMidRefIdeal.nD → PrngReg), Pre_QuantMidRefIdeal m →
    θ_run (Cert.QuantMidRefIdeal.defs (F := Ideal)) (onTc (τ := Cert.QuantMidRefIdeal.τ) (Cert.QuantMidRefIdeal.main (F := Ideal))) ⟨m, fun _ => 0, g⟩ (fun r => (∀ c : Dev Cert.QuantMidRefIdeal.nD,
      r.2.mem ((c.tc : Thread Cert.QuantMidRefIdeal.nD Cert.QuantMidRefIdeal.τ).loc Cert.QuantMidRefIdeal.main_arg0) = m ((c.tc : Thread Cert.QuantMidRefIdeal.nD Cert.QuantMidRefIdeal.τ).loc Cert.QuantMidRefIdeal.main_arg0)
      ∧ r.2.mem ((c.tc : Thread Cert.QuantMidRefIdeal.nD Cert.QuantMidRefIdeal.τ).loc Cert.QuantMidRefIdeal.main_arg1) = m ((c.tc : Thread Cert.QuantMidRefIdeal.nD Cert.QuantMidRefIdeal.τ).loc Cert.QuantMidRefIdeal.main_arg1))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3))
      ∧ r.2.sem = fun _ => 0)

def quiescent_QuantDown [hQuantDown : Cert.QuantDown.Facts] : Prop :=
  ∀ (m : (ℓ : Loc Cert.QuantDown.nD Cert.QuantDown.τ Cert.QuantDown.sig) → Buf (Elt Bits) ℓ) (g : Dev Cert.QuantDown.nD → PrngReg), Pre_QuantDown m →
    θ_run (Cert.QuantDown.defs (F := Bits)) (onTc (τ := Cert.QuantDown.τ) (Cert.QuantDown.main (F := Bits))) ⟨m, fun _ => 0, g⟩ (fun r => (∀ c : Dev Cert.QuantDown.nD,
      r.2.mem ((c.tc : Thread Cert.QuantDown.nD Cert.QuantDown.τ).loc Cert.QuantDown.main_arg0) = m ((c.tc : Thread Cert.QuantDown.nD Cert.QuantDown.τ).loc Cert.QuantDown.main_arg0)
      ∧ r.2.mem ((c.tc : Thread Cert.QuantDown.nD Cert.QuantDown.τ).loc Cert.QuantDown.main_arg1) = m ((c.tc : Thread Cert.QuantDown.nD Cert.QuantDown.τ).loc Cert.QuantDown.main_arg1))
      ∧ r.2.sem = fun _ => 0)

def quiescent_QuantDownIdeal [hQuantDownIdeal : Cert.QuantDownIdeal.Facts] : Prop :=
  ∀ (m : (ℓ : Loc Cert.QuantDownIdeal.nD Cert.QuantDownIdeal.τ Cert.QuantDownIdeal.sig) → Buf (Elt Ideal) ℓ) (g : Dev Cert.QuantDownIdeal.nD → PrngReg), Pre_QuantDownIdeal m →
    θ_run (Cert.QuantDownIdeal.defs (F := Ideal)) (onTc (τ := Cert.QuantDownIdeal.τ) (Cert.QuantDownIdeal.main (F := Ideal))) ⟨m, fun _ => 0, g⟩ (fun r => (∀ c : Dev Cert.QuantDownIdeal.nD,
      r.2.mem ((c.tc : Thread Cert.QuantDownIdeal.nD Cert.QuantDownIdeal.τ).loc Cert.QuantDownIdeal.main_arg0) = m ((c.tc : Thread Cert.QuantDownIdeal.nD Cert.QuantDownIdeal.τ).loc Cert.QuantDownIdeal.main_arg0)
      ∧ r.2.mem ((c.tc : Thread Cert.QuantDownIdeal.nD Cert.QuantDownIdeal.τ).loc Cert.QuantDownIdeal.main_arg1) = m ((c.tc : Thread Cert.QuantDownIdeal.nD Cert.QuantDownIdeal.τ).loc Cert.QuantDownIdeal.main_arg1))
      ∧ r.2.sem = fun _ => 0)

def quiescent_QuantDownRefIdeal [hQuantDownRefIdeal : Cert.QuantDownRefIdeal.Facts] : Prop :=
  ∀ (m : (ℓ : Loc Cert.QuantDownRefIdeal.nD Cert.QuantDownRefIdeal.τ Cert.QuantDownRefIdeal.sig) → Buf (Elt Ideal) ℓ) (g : Dev Cert.QuantDownRefIdeal.nD → PrngReg), Pre_QuantDownRefIdeal m →
    θ_run (Cert.QuantDownRefIdeal.defs (F := Ideal)) (onTc (τ := Cert.QuantDownRefIdeal.τ) (Cert.QuantDownRefIdeal.main (F := Ideal))) ⟨m, fun _ => 0, g⟩ (fun r => (∀ c : Dev Cert.QuantDownRefIdeal.nD,
      r.2.mem ((c.tc : Thread Cert.QuantDownRefIdeal.nD Cert.QuantDownRefIdeal.τ).loc Cert.QuantDownRefIdeal.main_arg0) = m ((c.tc : Thread Cert.QuantDownRefIdeal.nD Cert.QuantDownRefIdeal.τ).loc Cert.QuantDownRefIdeal.main_arg0)
      ∧ r.2.mem ((c.tc : Thread Cert.QuantDownRefIdeal.nD Cert.QuantDownRefIdeal.τ).loc Cert.QuantDownRefIdeal.main_arg1) = m ((c.tc : Thread Cert.QuantDownRefIdeal.nD Cert.QuantDownRefIdeal.τ).loc Cert.QuantDownRefIdeal.main_arg1))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2)
      ∧ r.2.mem ((c.tc : Thread Cert.DownProj.nD Cert.DownProj.τ).loc Cert.DownProj.main_arg3) = m ((c.tc : Thread Cert.DownProj.nD Cert.DownProj.τ).loc Cert.DownProj.main_arg3)
      ∧ r.2.mem ((c.tc : Thread Cert.DownProj.nD Cert.DownProj.τ).loc Cert.DownProj.main_arg4) = m ((c.tc : Thread Cert.DownProj.nD Cert.DownProj.τ).loc Cert.DownProj.main_arg4))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2)
      ∧ r.2.mem ((c.tc : Thread Cert.DownProjIdeal.nD Cert.DownProjIdeal.τ).loc Cert.DownProjIdeal.main_arg3) = m ((c.tc : Thread Cert.DownProjIdeal.nD Cert.DownProjIdeal.τ).loc Cert.DownProjIdeal.main_arg3)
      ∧ r.2.mem ((c.tc : Thread Cert.DownProjIdeal.nD Cert.DownProjIdeal.τ).loc Cert.DownProjIdeal.main_arg4) = m ((c.tc : Thread Cert.DownProjIdeal.nD Cert.DownProjIdeal.τ).loc Cert.DownProjIdeal.main_arg4))
      ∧ r.2.sem = fun _ => 0)

def quiescent_DownProjRefIdeal [hDownProjRefIdeal : Cert.DownProjRefIdeal.Facts] : Prop :=
  ∀ (m : (ℓ : Loc Cert.DownProjRefIdeal.nD Cert.DownProjRefIdeal.τ Cert.DownProjRefIdeal.sig) → Buf (Elt Ideal) ℓ) (g : Dev Cert.DownProjRefIdeal.nD → PrngReg), Pre_DownProjRefIdeal m →
    θ_run (Cert.DownProjRefIdeal.defs (F := Ideal)) (onTc (τ := Cert.DownProjRefIdeal.τ) (Cert.DownProjRefIdeal.main (F := Ideal))) ⟨m, fun _ => 0, g⟩ (fun r => (∀ c : Dev Cert.DownProjRefIdeal.nD,
      r.2.mem ((c.tc : Thread Cert.DownProjRefIdeal.nD Cert.DownProjRefIdeal.τ).loc Cert.DownProjRefIdeal.main_arg0) = m ((c.tc : Thread Cert.DownProjRefIdeal.nD Cert.DownProjRefIdeal.τ).loc Cert.DownProjRefIdeal.main_arg0)
      ∧ r.2.mem ((c.tc : Thread Cert.DownProjRefIdeal.nD Cert.DownProjRefIdeal.τ).loc Cert.DownProjRefIdeal.main_arg1) = m ((c.tc : Thread Cert.DownProjRefIdeal.nD Cert.DownProjRefIdeal.τ).loc Cert.DownProjRefIdeal.main_arg1)
      ∧ r.2.mem ((c.tc : Thread Cert.DownProjRefIdeal.nD Cert.DownProjRefIdeal.τ).loc Cert.DownProjRefIdeal.main_arg2) = m ((c.tc : Thread Cert.DownProjRefIdeal.nD Cert.DownProjRefIdeal.τ).loc Cert.DownProjRefIdeal.main_arg2)
      ∧ r.2.mem ((c.tc : Thread Cert.DownProjRefIdeal.nD Cert.DownProjRefIdeal.τ).loc Cert.DownProjRefIdeal.main_arg3) = m ((c.tc : Thread Cert.DownProjRefIdeal.nD Cert.DownProjRefIdeal.τ).loc Cert.DownProjRefIdeal.main_arg3)
      ∧ r.2.mem ((c.tc : Thread Cert.DownProjRefIdeal.nD Cert.DownProjRefIdeal.τ).loc Cert.DownProjRefIdeal.main_arg4) = m ((c.tc : Thread Cert.DownProjRefIdeal.nD Cert.DownProjRefIdeal.τ).loc Cert.DownProjRefIdeal.main_arg4))
      ∧ r.2.sem = fun _ => 0)

def preserves_QuantIn_QuantInIdeal : Prop :=
  True

def algebraic_QuantInIdeal_QuantInRefIdeal [hQuantInIdeal : Cert.QuantInIdeal.Facts] [hQuantInRefIdeal : Cert.QuantInRefIdeal.Facts] : Prop :=
  ∀ (m : (ℓ : Loc Cert.QuantInIdeal.nD Cert.QuantInIdeal.τ Cert.QuantInIdeal.sig) → Buf (Elt Ideal) ℓ) (g : Dev Cert.QuantInIdeal.nD → PrngReg)
    (m' : (ℓ : Loc Cert.QuantInRefIdeal.nD Cert.QuantInRefIdeal.τ Cert.QuantInRefIdeal.sig) → Buf (Elt Ideal) ℓ) (g' : Dev Cert.QuantInRefIdeal.nD → PrngReg), Pre_QuantInIdeal m →
    (∀ c : Dev Cert.QuantInIdeal.nD,
      m' ((c.tc : Thread Cert.QuantInRefIdeal.nD Cert.QuantInRefIdeal.τ).loc Cert.QuantInRefIdeal.main_arg0) = m ((c.tc : Thread Cert.QuantInIdeal.nD Cert.QuantInIdeal.τ).loc Cert.QuantInIdeal.main_arg0)
      ∧ m' ((c.tc : Thread Cert.QuantInRefIdeal.nD Cert.QuantInRefIdeal.τ).loc Cert.QuantInRefIdeal.main_arg1) = m ((c.tc : Thread Cert.QuantInIdeal.nD Cert.QuantInIdeal.τ).loc Cert.QuantInIdeal.main_arg1)) →
    ∃ (v0 : (c : Dev Cert.QuantInIdeal.nD) → Buf (Elt Ideal) ((c.tc : Thread Cert.QuantInIdeal.nD Cert.QuantInIdeal.τ).loc Cert.QuantInIdeal.main_v2_0)) (v1 : (c : Dev Cert.QuantInIdeal.nD) → Buf (Elt Ideal) ((c.tc : Thread Cert.QuantInIdeal.nD Cert.QuantInIdeal.τ).loc Cert.QuantInIdeal.main_v2_1)) (v2 : (c : Dev Cert.QuantInIdeal.nD) → Buf (Elt Ideal) ((c.tc : Thread Cert.QuantInIdeal.nD Cert.QuantInIdeal.τ).loc Cert.QuantInIdeal.main_v2_2)),
      θ_run (Cert.QuantInIdeal.defs (F := Ideal)) (onTc (τ := Cert.QuantInIdeal.τ) (Cert.QuantInIdeal.main (F := Ideal))) ⟨m, fun _ => 0, g⟩ (fun r => ∀ c : Dev Cert.QuantInIdeal.nD,
          r.2.mem ((c.tc : Thread Cert.QuantInIdeal.nD Cert.QuantInIdeal.τ).loc Cert.QuantInIdeal.main_v2_0) = v0 c
          ∧ r.2.mem ((c.tc : Thread Cert.QuantInIdeal.nD Cert.QuantInIdeal.τ).loc Cert.QuantInIdeal.main_v2_1) = v1 c
          ∧ r.2.mem ((c.tc : Thread Cert.QuantInIdeal.nD Cert.QuantInIdeal.τ).loc Cert.QuantInIdeal.main_v2_2) = v2 c
          ∧ r.2.mem ((c.tc : Thread Cert.QuantInIdeal.nD Cert.QuantInIdeal.τ).loc Cert.QuantInIdeal.main_arg0) = m ((c.tc : Thread Cert.QuantInIdeal.nD Cert.QuantInIdeal.τ).loc Cert.QuantInIdeal.main_arg0)
          ∧ r.2.mem ((c.tc : Thread Cert.QuantInIdeal.nD Cert.QuantInIdeal.τ).loc Cert.QuantInIdeal.main_arg1) = m ((c.tc : Thread Cert.QuantInIdeal.nD Cert.QuantInIdeal.τ).loc Cert.QuantInIdeal.main_arg1))
      ∧ θ_run (Cert.QuantInRefIdeal.defs (F := Ideal)) (onTc (τ := Cert.QuantInRefIdeal.τ) (Cert.QuantInRefIdeal.main (F := Ideal))) ⟨m', fun _ => 0, g'⟩ (fun r => ∀ c : Dev Cert.QuantInRefIdeal.nD,
          r.2.mem ((c.tc : Thread Cert.QuantInRefIdeal.nD Cert.QuantInRefIdeal.τ).loc Cert.QuantInRefIdeal.main_v2_0) = v0 c
          ∧ r.2.mem ((c.tc : Thread Cert.QuantInRefIdeal.nD Cert.QuantInRefIdeal.τ).loc Cert.QuantInRefIdeal.main_v2_1) = v1 c
          ∧ r.2.mem ((c.tc : Thread Cert.QuantInRefIdeal.nD Cert.QuantInRefIdeal.τ).loc Cert.QuantInRefIdeal.main_v2_2) = v2 c
          ∧ r.2.mem ((c.tc : Thread Cert.QuantInRefIdeal.nD Cert.QuantInRefIdeal.τ).loc Cert.QuantInRefIdeal.main_arg0) = m' ((c.tc : Thread Cert.QuantInRefIdeal.nD Cert.QuantInRefIdeal.τ).loc Cert.QuantInRefIdeal.main_arg0)
          ∧ r.2.mem ((c.tc : Thread Cert.QuantInRefIdeal.nD Cert.QuantInRefIdeal.τ).loc Cert.QuantInRefIdeal.main_arg1) = m' ((c.tc : Thread Cert.QuantInRefIdeal.nD Cert.QuantInRefIdeal.τ).loc Cert.QuantInRefIdeal.main_arg1))

def preserves_QuantMid_QuantMidIdeal : Prop :=
  True

def algebraic_QuantMidIdeal_QuantMidRefIdeal [hQuantMidIdeal : Cert.QuantMidIdeal.Facts] [hQuantMidRefIdeal : Cert.QuantMidRefIdeal.Facts] : Prop :=
  ∀ (m : (ℓ : Loc Cert.QuantMidIdeal.nD Cert.QuantMidIdeal.τ Cert.QuantMidIdeal.sig) → Buf (Elt Ideal) ℓ) (g : Dev Cert.QuantMidIdeal.nD → PrngReg)
    (m' : (ℓ : Loc Cert.QuantMidRefIdeal.nD Cert.QuantMidRefIdeal.τ Cert.QuantMidRefIdeal.sig) → Buf (Elt Ideal) ℓ) (g' : Dev Cert.QuantMidRefIdeal.nD → PrngReg), Pre_QuantMidIdeal m →
    (∀ c : Dev Cert.QuantMidIdeal.nD,
      m' ((c.tc : Thread Cert.QuantMidRefIdeal.nD Cert.QuantMidRefIdeal.τ).loc Cert.QuantMidRefIdeal.main_arg0) = m ((c.tc : Thread Cert.QuantMidIdeal.nD Cert.QuantMidIdeal.τ).loc Cert.QuantMidIdeal.main_arg0)
      ∧ m' ((c.tc : Thread Cert.QuantMidRefIdeal.nD Cert.QuantMidRefIdeal.τ).loc Cert.QuantMidRefIdeal.main_arg1) = m ((c.tc : Thread Cert.QuantMidIdeal.nD Cert.QuantMidIdeal.τ).loc Cert.QuantMidIdeal.main_arg1)) →
    ∃ (v0 : (c : Dev Cert.QuantMidIdeal.nD) → Buf (Elt Ideal) ((c.tc : Thread Cert.QuantMidIdeal.nD Cert.QuantMidIdeal.τ).loc Cert.QuantMidIdeal.main_v1_0)) (v1 : (c : Dev Cert.QuantMidIdeal.nD) → Buf (Elt Ideal) ((c.tc : Thread Cert.QuantMidIdeal.nD Cert.QuantMidIdeal.τ).loc Cert.QuantMidIdeal.main_v1_1)) (v2 : (c : Dev Cert.QuantMidIdeal.nD) → Buf (Elt Ideal) ((c.tc : Thread Cert.QuantMidIdeal.nD Cert.QuantMidIdeal.τ).loc Cert.QuantMidIdeal.main_v1_2)),
      θ_run (Cert.QuantMidIdeal.defs (F := Ideal)) (onTc (τ := Cert.QuantMidIdeal.τ) (Cert.QuantMidIdeal.main (F := Ideal))) ⟨m, fun _ => 0, g⟩ (fun r => ∀ c : Dev Cert.QuantMidIdeal.nD,
          r.2.mem ((c.tc : Thread Cert.QuantMidIdeal.nD Cert.QuantMidIdeal.τ).loc Cert.QuantMidIdeal.main_v1_0) = v0 c
          ∧ r.2.mem ((c.tc : Thread Cert.QuantMidIdeal.nD Cert.QuantMidIdeal.τ).loc Cert.QuantMidIdeal.main_v1_1) = v1 c
          ∧ r.2.mem ((c.tc : Thread Cert.QuantMidIdeal.nD Cert.QuantMidIdeal.τ).loc Cert.QuantMidIdeal.main_v1_2) = v2 c
          ∧ r.2.mem ((c.tc : Thread Cert.QuantMidIdeal.nD Cert.QuantMidIdeal.τ).loc Cert.QuantMidIdeal.main_arg0) = m ((c.tc : Thread Cert.QuantMidIdeal.nD Cert.QuantMidIdeal.τ).loc Cert.QuantMidIdeal.main_arg0)
          ∧ r.2.mem ((c.tc : Thread Cert.QuantMidIdeal.nD Cert.QuantMidIdeal.τ).loc Cert.QuantMidIdeal.main_arg1) = m ((c.tc : Thread Cert.QuantMidIdeal.nD Cert.QuantMidIdeal.τ).loc Cert.QuantMidIdeal.main_arg1))
      ∧ θ_run (Cert.QuantMidRefIdeal.defs (F := Ideal)) (onTc (τ := Cert.QuantMidRefIdeal.τ) (Cert.QuantMidRefIdeal.main (F := Ideal))) ⟨m', fun _ => 0, g'⟩ (fun r => ∀ c : Dev Cert.QuantMidRefIdeal.nD,
          r.2.mem ((c.tc : Thread Cert.QuantMidRefIdeal.nD Cert.QuantMidRefIdeal.τ).loc Cert.QuantMidRefIdeal.main_v1_0) = v0 c
          ∧ r.2.mem ((c.tc : Thread Cert.QuantMidRefIdeal.nD Cert.QuantMidRefIdeal.τ).loc Cert.QuantMidRefIdeal.main_v1_1) = v1 c
          ∧ r.2.mem ((c.tc : Thread Cert.QuantMidRefIdeal.nD Cert.QuantMidRefIdeal.τ).loc Cert.QuantMidRefIdeal.main_v1_2) = v2 c
          ∧ r.2.mem ((c.tc : Thread Cert.QuantMidRefIdeal.nD Cert.QuantMidRefIdeal.τ).loc Cert.QuantMidRefIdeal.main_arg0) = m' ((c.tc : Thread Cert.QuantMidRefIdeal.nD Cert.QuantMidRefIdeal.τ).loc Cert.QuantMidRefIdeal.main_arg0)
          ∧ r.2.mem ((c.tc : Thread Cert.QuantMidRefIdeal.nD Cert.QuantMidRefIdeal.τ).loc Cert.QuantMidRefIdeal.main_arg1) = m' ((c.tc : Thread Cert.QuantMidRefIdeal.nD Cert.QuantMidRefIdeal.τ).loc Cert.QuantMidRefIdeal.main_arg1))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)) →
    ∃ (v0 : (c : Dev Cert.OProjIdeal.nD) → Buf (Elt Ideal) ((c.tc : Thread Cert.OProjIdeal.nD Cert.OProjIdeal.τ).loc Cert.OProjIdeal.main_v1)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v1) = v0 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v1) = v0 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3))

def preserves_QuantDown_QuantDownIdeal : Prop :=
  True

def algebraic_QuantDownIdeal_QuantDownRefIdeal [hQuantDownIdeal : Cert.QuantDownIdeal.Facts] [hQuantDownRefIdeal : Cert.QuantDownRefIdeal.Facts] : Prop :=
  ∀ (m : (ℓ : Loc Cert.QuantDownIdeal.nD Cert.QuantDownIdeal.τ Cert.QuantDownIdeal.sig) → Buf (Elt Ideal) ℓ) (g : Dev Cert.QuantDownIdeal.nD → PrngReg)
    (m' : (ℓ : Loc Cert.QuantDownRefIdeal.nD Cert.QuantDownRefIdeal.τ Cert.QuantDownRefIdeal.sig) → Buf (Elt Ideal) ℓ) (g' : Dev Cert.QuantDownRefIdeal.nD → PrngReg), Pre_QuantDownIdeal m →
    (∀ c : Dev Cert.QuantDownIdeal.nD,
      m' ((c.tc : Thread Cert.QuantDownRefIdeal.nD Cert.QuantDownRefIdeal.τ).loc Cert.QuantDownRefIdeal.main_arg0) = m ((c.tc : Thread Cert.QuantDownIdeal.nD Cert.QuantDownIdeal.τ).loc Cert.QuantDownIdeal.main_arg0)
      ∧ m' ((c.tc : Thread Cert.QuantDownRefIdeal.nD Cert.QuantDownRefIdeal.τ).loc Cert.QuantDownRefIdeal.main_arg1) = m ((c.tc : Thread Cert.QuantDownIdeal.nD Cert.QuantDownIdeal.τ).loc Cert.QuantDownIdeal.main_arg1)) →
    ∃ (v0 : (c : Dev Cert.QuantDownIdeal.nD) → Buf (Elt Ideal) ((c.tc : Thread Cert.QuantDownIdeal.nD Cert.QuantDownIdeal.τ).loc Cert.QuantDownIdeal.main_v1_0)) (v1 : (c : Dev Cert.QuantDownIdeal.nD) → Buf (Elt Ideal) ((c.tc : Thread Cert.QuantDownIdeal.nD Cert.QuantDownIdeal.τ).loc Cert.QuantDownIdeal.main_v1_1)) (v2 : (c : Dev Cert.QuantDownIdeal.nD) → Buf (Elt Ideal) ((c.tc : Thread Cert.QuantDownIdeal.nD Cert.QuantDownIdeal.τ).loc Cert.QuantDownIdeal.main_v1_2)),
      θ_run (Cert.QuantDownIdeal.defs (F := Ideal)) (onTc (τ := Cert.QuantDownIdeal.τ) (Cert.QuantDownIdeal.main (F := Ideal))) ⟨m, fun _ => 0, g⟩ (fun r => ∀ c : Dev Cert.QuantDownIdeal.nD,
          r.2.mem ((c.tc : Thread Cert.QuantDownIdeal.nD Cert.QuantDownIdeal.τ).loc Cert.QuantDownIdeal.main_v1_0) = v0 c
          ∧ r.2.mem ((c.tc : Thread Cert.QuantDownIdeal.nD Cert.QuantDownIdeal.τ).loc Cert.QuantDownIdeal.main_v1_1) = v1 c
          ∧ r.2.mem ((c.tc : Thread Cert.QuantDownIdeal.nD Cert.QuantDownIdeal.τ).loc Cert.QuantDownIdeal.main_v1_2) = v2 c
          ∧ r.2.mem ((c.tc : Thread Cert.QuantDownIdeal.nD Cert.QuantDownIdeal.τ).loc Cert.QuantDownIdeal.main_arg0) = m ((c.tc : Thread Cert.QuantDownIdeal.nD Cert.QuantDownIdeal.τ).loc Cert.QuantDownIdeal.main_arg0)
          ∧ r.2.mem ((c.tc : Thread Cert.QuantDownIdeal.nD Cert.QuantDownIdeal.τ).loc Cert.QuantDownIdeal.main_arg1) = m ((c.tc : Thread Cert.QuantDownIdeal.nD Cert.QuantDownIdeal.τ).loc Cert.QuantDownIdeal.main_arg1))
      ∧ θ_run (Cert.QuantDownRefIdeal.defs (F := Ideal)) (onTc (τ := Cert.QuantDownRefIdeal.τ) (Cert.QuantDownRefIdeal.main (F := Ideal))) ⟨m', fun _ => 0, g'⟩ (fun r => ∀ c : Dev Cert.QuantDownRefIdeal.nD,
          r.2.mem ((c.tc : Thread Cert.QuantDownRefIdeal.nD Cert.QuantDownRefIdeal.τ).loc Cert.QuantDownRefIdeal.main_v1_0) = v0 c
          ∧ r.2.mem ((c.tc : Thread Cert.QuantDownRefIdeal.nD Cert.QuantDownRefIdeal.τ).loc Cert.QuantDownRefIdeal.main_v1_1) = v1 c
          ∧ r.2.mem ((c.tc : Thread Cert.QuantDownRefIdeal.nD Cert.QuantDownRefIdeal.τ).loc Cert.QuantDownRefIdeal.main_v1_2) = v2 c
          ∧ r.2.mem ((c.tc : Thread Cert.QuantDownRefIdeal.nD Cert.QuantDownRefIdeal.τ).loc Cert.QuantDownRefIdeal.main_arg0) = m' ((c.tc : Thread Cert.QuantDownRefIdeal.nD Cert.QuantDownRefIdeal.τ).loc Cert.QuantDownRefIdeal.main_arg0)
          ∧ r.2.mem ((c.tc : Thread Cert.QuantDownRefIdeal.nD Cert.QuantDownRefIdeal.τ).loc Cert.QuantDownRefIdeal.main_arg1) = m' ((c.tc : Thread Cert.QuantDownRefIdeal.nD Cert.QuantDownRefIdeal.τ).loc Cert.QuantDownRefIdeal.main_arg1))

def preserves_DownProj_DownProjIdeal : Prop :=
  True

def algebraic_DownProjIdeal_DownProjRefIdeal [hDownProjIdeal : Cert.DownProjIdeal.Facts] [hDownProjRefIdeal : Cert.DownProjRefIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjRefIdeal.nD Cert.DownProjRefIdeal.τ Cert.DownProjRefIdeal.sig) → Buf (Elt Ideal) ℓ) (g' : Dev Cert.DownProjRefIdeal.nD → PrngReg), Pre_DownProjIdeal m →
    (∀ c : Dev Cert.DownProjIdeal.nD,
      m' ((c.tc : Thread Cert.DownProjRefIdeal.nD Cert.DownProjRefIdeal.τ).loc Cert.DownProjRefIdeal.main_arg0) = m ((c.tc : Thread Cert.DownProjIdeal.nD Cert.DownProjIdeal.τ).loc Cert.DownProjIdeal.main_arg0)
      ∧ m' ((c.tc : Thread Cert.DownProjRefIdeal.nD Cert.DownProjRefIdeal.τ).loc Cert.DownProjRefIdeal.main_arg1) = m ((c.tc : Thread Cert.DownProjIdeal.nD Cert.DownProjIdeal.τ).loc Cert.DownProjIdeal.main_arg1)
      ∧ m' ((c.tc : Thread Cert.DownProjRefIdeal.nD Cert.DownProjRefIdeal.τ).loc Cert.DownProjRefIdeal.main_arg2) = m ((c.tc : Thread Cert.DownProjIdeal.nD Cert.DownProjIdeal.τ).loc Cert.DownProjIdeal.main_arg2)
      ∧ m' ((c.tc : Thread Cert.DownProjRefIdeal.nD Cert.DownProjRefIdeal.τ).loc Cert.DownProjRefIdeal.main_arg3) = m ((c.tc : Thread Cert.DownProjIdeal.nD Cert.DownProjIdeal.τ).loc Cert.DownProjIdeal.main_arg3)
      ∧ m' ((c.tc : Thread Cert.DownProjRefIdeal.nD Cert.DownProjRefIdeal.τ).loc Cert.DownProjRefIdeal.main_arg4) = m ((c.tc : Thread Cert.DownProjIdeal.nD Cert.DownProjIdeal.τ).loc Cert.DownProjIdeal.main_arg4)) →
    ∃ (v0 : (c : Dev Cert.DownProjIdeal.nD) → Buf (Elt Ideal) ((c.tc : Thread Cert.DownProjIdeal.nD Cert.DownProjIdeal.τ).loc Cert.DownProjIdeal.main_v1)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v1) = v0 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2)
          ∧ r.2.mem ((c.tc : Thread Cert.DownProjIdeal.nD Cert.DownProjIdeal.τ).loc Cert.DownProjIdeal.main_arg3) = m ((c.tc : Thread Cert.DownProjIdeal.nD Cert.DownProjIdeal.τ).loc Cert.DownProjIdeal.main_arg3)
          ∧ r.2.mem ((c.tc : Thread Cert.DownProjIdeal.nD Cert.DownProjIdeal.τ).loc Cert.DownProjIdeal.main_arg4) = m ((c.tc : Thread Cert.DownProjIdeal.nD Cert.DownProjIdeal.τ).loc Cert.DownProjIdeal.main_arg4))
      ∧ θ_run (Cert.DownProjRefIdeal.defs (F := Ideal)) (onTc (τ := Cert.DownProjRefIdeal.τ) (Cert.DownProjRefIdeal.main (F := Ideal))) ⟨m', fun _ => 0, g'⟩ (fun r => ∀ c : Dev Cert.DownProjRefIdeal.nD,
          r.2.mem ((c.tc : Thread Cert.DownProjRefIdeal.nD Cert.DownProjRefIdeal.τ).loc Cert.DownProjRefIdeal.main_v1) = v0 c
          ∧ r.2.mem ((c.tc : Thread Cert.DownProjRefIdeal.nD Cert.DownProjRefIdeal.τ).loc Cert.DownProjRefIdeal.main_arg0) = m' ((c.tc : Thread Cert.DownProjRefIdeal.nD Cert.DownProjRefIdeal.τ).loc Cert.DownProjRefIdeal.main_arg0)
          ∧ r.2.mem ((c.tc : Thread Cert.DownProjRefIdeal.nD Cert.DownProjRefIdeal.τ).loc Cert.DownProjRefIdeal.main_arg1) = m' ((c.tc : Thread Cert.DownProjRefIdeal.nD Cert.DownProjRefIdeal.τ).loc Cert.DownProjRefIdeal.main_arg1)
          ∧ r.2.mem ((c.tc : Thread Cert.DownProjRefIdeal.nD Cert.DownProjRefIdeal.τ).loc Cert.DownProjRefIdeal.main_arg2) = m' ((c.tc : Thread Cert.DownProjRefIdeal.nD Cert.DownProjRefIdeal.τ).loc Cert.DownProjRefIdeal.main_arg2)
          ∧ r.2.mem ((c.tc : Thread Cert.DownProjRefIdeal.nD Cert.DownProjRefIdeal.τ).loc Cert.DownProjRefIdeal.main_arg3) = m' ((c.tc : Thread Cert.DownProjRefIdeal.nD Cert.DownProjRefIdeal.τ).loc Cert.DownProjRefIdeal.main_arg3)
          ∧ r.2.mem ((c.tc : Thread Cert.DownProjRefIdeal.nD Cert.DownProjRefIdeal.τ).loc Cert.DownProjRefIdeal.main_arg4) = m' ((c.tc : Thread Cert.DownProjRefIdeal.nD Cert.DownProjRefIdeal.τ).loc Cert.DownProjRefIdeal.main_arg4))

def Claim : Prop :=
  ∃ (hQuantIn : Cert.QuantIn.Facts) (hQuantInIdeal : Cert.QuantInIdeal.Facts) (hQuantInRefIdeal : Cert.QuantInRefIdeal.Facts) (hQuantMid : Cert.QuantMid.Facts) (hQuantMidIdeal : Cert.QuantMidIdeal.Facts) (hQuantMidRefIdeal : Cert.QuantMidRefIdeal.Facts) (hOProj : Cert.OProj.Facts) (hOProjIdeal : Cert.OProjIdeal.Facts) (hOProjRefIdeal : Cert.OProjRefIdeal.Facts) (hGateUp : Cert.GateUp.Facts) (hGateUpIdeal : Cert.GateUpIdeal.Facts) (hGateUpRefIdeal : Cert.GateUpRefIdeal.Facts) (hQuantDown : Cert.QuantDown.Facts) (hQuantDownIdeal : Cert.QuantDownIdeal.Facts) (hQuantDownRefIdeal : Cert.QuantDownRefIdeal.Facts) (hDownProj : Cert.DownProj.Facts) (hDownProjIdeal : Cert.DownProjIdeal.Facts) (hDownProjRefIdeal : Cert.DownProjRefIdeal.Facts),
    quiescent_QuantIn (hQuantIn := hQuantIn)
    ∧ quiescent_QuantInIdeal (hQuantInIdeal := hQuantInIdeal)
    ∧ quiescent_QuantInRefIdeal (hQuantInRefIdeal := hQuantInRefIdeal)
    ∧ quiescent_QuantMid (hQuantMid := hQuantMid)
    ∧ quiescent_QuantMidIdeal (hQuantMidIdeal := hQuantMidIdeal)
    ∧ quiescent_QuantMidRefIdeal (hQuantMidRefIdeal := hQuantMidRefIdeal)
    ∧ quiescent_OProj (hOProj := hOProj)
    ∧ quiescent_OProjIdeal (hOProjIdeal := hOProjIdeal)
    ∧ quiescent_OProjRefIdeal (hOProjRefIdeal := hOProjRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_QuantDown (hQuantDown := hQuantDown)
    ∧ quiescent_QuantDownIdeal (hQuantDownIdeal := hQuantDownIdeal)
    ∧ quiescent_QuantDownRefIdeal (hQuantDownRefIdeal := hQuantDownRefIdeal)
    ∧ quiescent_DownProj (hDownProj := hDownProj)
    ∧ quiescent_DownProjIdeal (hDownProjIdeal := hDownProjIdeal)
    ∧ quiescent_DownProjRefIdeal (hDownProjRefIdeal := hDownProjRefIdeal)
    ∧ preserves_QuantIn_QuantInIdeal
    ∧ algebraic_QuantInIdeal_QuantInRefIdeal (hQuantInIdeal := hQuantInIdeal) (hQuantInRefIdeal := hQuantInRefIdeal)
    ∧ preserves_QuantMid_QuantMidIdeal
    ∧ algebraic_QuantMidIdeal_QuantMidRefIdeal (hQuantMidIdeal := hQuantMidIdeal) (hQuantMidRefIdeal := hQuantMidRefIdeal)
    ∧ preserves_OProj_OProjIdeal
    ∧ algebraic_OProjIdeal_OProjRefIdeal (hOProjIdeal := hOProjIdeal) (hOProjRefIdeal := hOProjRefIdeal)
    ∧ preserves_GateUp_GateUpIdeal
    ∧ algebraic_GateUpIdeal_GateUpRefIdeal (hGateUpIdeal := hGateUpIdeal) (hGateUpRefIdeal := hGateUpRefIdeal)
    ∧ preserves_QuantDown_QuantDownIdeal
    ∧ algebraic_QuantDownIdeal_QuantDownRefIdeal (hQuantDownIdeal := hQuantDownIdeal) (hQuantDownRefIdeal := hQuantDownRefIdeal)
    ∧ preserves_DownProj_DownProjIdeal
    ∧ algebraic_DownProjIdeal_DownProjRefIdeal (hDownProjIdeal := hDownProjIdeal) (hDownProjRefIdeal := hDownProjRefIdeal)
-- ==== QuantIn.lean ====
abbrev S3x4096x3072 : Shape := ⟨3, ![3, 4096, 3072]⟩
abbrev S3072 : Shape := ⟨1, ![3072]⟩
abbrev S12288x3072 : Shape := ⟨2, ![12288, 3072]⟩
abbrev S1x3072 : Shape := ⟨2, ![1, 3072]⟩
abbrev S12288x1 : Shape := ⟨2, ![12288, 1]⟩
abbrev S512x3072 : Shape := ⟨2, ![512, 3072]⟩
abbrev S512x1 : Shape := ⟨2, ![512, 1]⟩
abbrev S512 : Shape := ⟨1, ![512]⟩

abbrev nBuf : Space → Nat
  | .hbm => 7
  | .vmem => 9
  | .smem => 0
  | _ => 0

abbrev bufTy : (tb : Table) → Fin (tcTables nBuf tb) → BufTy
  | .hbm, ⟨0, _⟩ => ⟨S3x4096x3072, .bf16⟩
  | .hbm, ⟨1, _⟩ => ⟨S3072, .f32⟩
  | .hbm, ⟨2, _⟩ => ⟨S12288x3072, .bf16⟩
  | .hbm, ⟨3, _⟩ => ⟨S1x3072, .f32⟩
  | .hbm, ⟨4, _⟩ => ⟨S12288x3072, .i8⟩
  | .hbm, ⟨5, _⟩ => ⟨S12288x1, .f32⟩
  | .hbm, ⟨6, _⟩ => ⟨S12288x1, .f32⟩
  | .local _ .vmem, ⟨0, _⟩ => ⟨S512x3072, .bf16⟩
  | .local _ .vmem, ⟨1, _⟩ => ⟨S512x3072, .bf16⟩
  | .local _ .vmem, ⟨2, _⟩ => ⟨S1x3072, .f32⟩
  | .local _ .vmem, ⟨3, _⟩ => ⟨S512x3072, .i8⟩
  | .local _ .vmem, ⟨4, _⟩ => ⟨S512x3072, .i8⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | _, _ => ⟨S3x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QuantInRefIdeal.lean ====
abbrev S3x4096x3072 : Shape := ⟨3, ![3, 4096, 3072]⟩
abbrev S3072 : Shape := ⟨1, ![3072]⟩
abbrev S12288x3072 : Shape := ⟨2, ![12288, 3072]⟩
abbrev S1x3072 : Shape := ⟨2, ![1, 3072]⟩
abbrev S12288x1 : Shape := ⟨2, ![12288, 1]⟩
abbrev S12288 : Shape := ⟨1, ![12288]⟩

abbrev nBuf : Space → Nat
  | .hbm => 7
  | .vmem => 5
  | .smem => 0
  | _ => 0

abbrev bufTy : (tb : Table) → Fin (tcTables nBuf tb) → BufTy
  | .hbm, ⟨0, _⟩ => ⟨S3x4096x3072, .bf16⟩
  | .hbm, ⟨1, _⟩ => ⟨S3072, .f32⟩
  | .hbm, ⟨2, _⟩ => ⟨S12288x3072, .bf16⟩
  | .hbm, ⟨3, _⟩ => ⟨S1x3072, .f32⟩
  | .hbm, ⟨4, _⟩ => ⟨S12288x3072, .i8⟩
  | .hbm, ⟨5, _⟩ => ⟨S12288x1, .f32⟩
  | .hbm, ⟨6, _⟩ => ⟨S12288x1, .f32⟩
  | .local _ .vmem, ⟨0, _⟩ => ⟨S12288x3072, .bf16⟩
  | .local _ .vmem, ⟨1, _⟩ => ⟨S1x3072, .f32⟩
  | .local _ .vmem, ⟨2, _⟩ => ⟨S12288x3072, .i8⟩
  | .local _ .vmem, ⟨3, _⟩ => ⟨S12288x1, .f32⟩
  | .local _ .vmem, ⟨4, _⟩ => ⟨S12288x1, .f32⟩
  | _, _ => ⟨S3x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S12288x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x3072 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== QuantMid.lean ====
abbrev S12288x3072 : Shape := ⟨2, ![12288, 3072]⟩
abbrev S3072 : Shape := ⟨1, ![3072]⟩
abbrev S1x3072 : Shape := ⟨2, ![1, 3072]⟩
abbrev S12288x1 : Shape := ⟨2, ![12288, 1]⟩
abbrev S512x3072 : Shape := ⟨2, ![512, 3072]⟩
abbrev S512x1 : Shape := ⟨2, ![512, 1]⟩
abbrev S512 : Shape := ⟨1, ![512]⟩

abbrev nBuf : Space → Nat
  | .hbm => 6
  | .vmem => 9
  | .smem => 0
  | _ => 0

abbrev bufTy : (tb : Table) → Fin (tcTables nBuf tb) → BufTy
  | .hbm, ⟨0, _⟩ => ⟨S12288x3072, .f32⟩
  | .hbm, ⟨1, _⟩ => ⟨S3072, .f32⟩
  | .hbm, ⟨2, _⟩ => ⟨S1x3072, .f32⟩
  | .hbm, ⟨3, _⟩ => ⟨S12288x3072, .i8⟩
  | .hbm, ⟨4, _⟩ => ⟨S12288x1, .f32⟩
  | .hbm, ⟨5, _⟩ => ⟨S12288x1, .f32⟩
  | .local _ .vmem, ⟨0, _⟩ => ⟨S512x3072, .f32⟩
  | .local _ .vmem, ⟨1, _⟩ => ⟨S512x3072, .f32⟩
  | .local _ .vmem, ⟨2, _⟩ => ⟨S1x3072, .f32⟩
  | .local _ .vmem, ⟨3, _⟩ => ⟨S512x3072, .i8⟩
  | .local _ .vmem, ⟨4, _⟩ => ⟨S512x3072, .i8⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | _, _ => ⟨S12288x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QuantMidRefIdeal.lean ====
abbrev S12288x3072 : Shape := ⟨2, ![12288, 3072]⟩
abbrev S3072 : Shape := ⟨1, ![3072]⟩
abbrev S1x3072 : Shape := ⟨2, ![1, 3072]⟩
abbrev S12288x1 : Shape := ⟨2, ![12288, 1]⟩
abbrev S12288 : Shape := ⟨1, ![12288]⟩

abbrev nBuf : Space → Nat
  | .hbm => 6
  | .vmem => 5
  | .smem => 0
  | _ => 0

abbrev bufTy : (tb : Table) → Fin (tcTables nBuf tb) → BufTy
  | .hbm, ⟨0, _⟩ => ⟨S12288x3072, .f32⟩
  | .hbm, ⟨1, _⟩ => ⟨S3072, .f32⟩
  | .hbm, ⟨2, _⟩ => ⟨S1x3072, .f32⟩
  | .hbm, ⟨3, _⟩ => ⟨S12288x3072, .i8⟩
  | .hbm, ⟨4, _⟩ => ⟨S12288x1, .f32⟩
  | .hbm, ⟨5, _⟩ => ⟨S12288x1, .f32⟩
  | .local _ .vmem, ⟨0, _⟩ => ⟨S12288x3072, .f32⟩
  | .local _ .vmem, ⟨1, _⟩ => ⟨S1x3072, .f32⟩
  | .local _ .vmem, ⟨2, _⟩ => ⟨S12288x3072, .i8⟩
  | .local _ .vmem, ⟨3, _⟩ => ⟨S12288x1, .f32⟩
  | .local _ .vmem, ⟨4, _⟩ => ⟨S12288x1, .f32⟩
  | _, _ => ⟨S12288x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S12288x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x3072 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== OProj.lean ====
abbrev S12288x3072 : Shape := ⟨2, ![12288, 3072]⟩
abbrev S12288x1 : Shape := ⟨2, ![12288, 1]⟩
abbrev S768x3072 : Shape := ⟨2, ![768, 3072]⟩
abbrev S_ : Shape := ⟨0, ![]⟩
abbrev S1 : Shape := ⟨1, ![1]⟩
abbrev S1024x3072 : Shape := ⟨2, ![1024, 3072]⟩
abbrev S1024x1 : Shape := ⟨2, ![1024, 1]⟩
abbrev S768x512 : Shape := ⟨2, ![768, 512]⟩
abbrev S1024x512 : Shape := ⟨2, ![1024, 512]⟩
abbrev S7x512x1536 : Shape := ⟨3, ![7, 512, 1536]⟩
abbrev S7x1536x256 : Shape := ⟨3, ![7, 1536, 256]⟩
abbrev S7x512x256 : Shape := ⟨3, ![7, 512, 256]⟩
abbrev S64x1536 : Shape := ⟨2, ![64, 1536]⟩
abbrev S1x64x1536 : Shape := ⟨3, ![1, 64, 1536]⟩
abbrev S768x256 : Shape := ⟨2, ![768, 256]⟩
abbrev S192x256 : Shape := ⟨2, ![192, 256]⟩
abbrev S1x768x256 : Shape := ⟨3, ![1, 768, 256]⟩
abbrev S1x512x1536 : Shape := ⟨3, ![1, 512, 1536]⟩
abbrev S512x1536 : Shape := ⟨2, ![512, 1536]⟩
abbrev S1x1536x256 : Shape := ⟨3, ![1, 1536, 256]⟩
abbrev S1536x256 : Shape := ⟨2, ![1536, 256]⟩
abbrev S512x256 : Shape := ⟨2, ![512, 256]⟩
abbrev S1x512x256 : Shape := ⟨3, ![1, 512, 256]⟩
abbrev S1x64x256 : Shape := ⟨3, ![1, 64, 256]⟩
abbrev S64x256 : Shape := ⟨2, ![64, 256]⟩
abbrev S64x1 : Shape := ⟨2, ![64, 1]⟩

abbrev nBuf : Space → Nat
  | .hbm => 7
  | .vmem => 13
  | .smem => 1
  | _ => 0

abbrev bufTy : (tb : Table) → Fin (tcTables nBuf tb) → BufTy
  | .hbm, ⟨0, _⟩ => ⟨S12288x3072, .i8⟩
  | .hbm, ⟨1, _⟩ => ⟨S12288x1, .f32⟩
  | .hbm, ⟨2, _⟩ => ⟨S768x3072, .i8⟩
  | .hbm, ⟨3, _⟩ => ⟨S12288x3072, .bf16⟩
  | .hbm, ⟨4, _⟩ => ⟨S_, .f32⟩
  | .hbm, ⟨5, _⟩ => ⟨S1, .f32⟩
  | .hbm, ⟨6, _⟩ => ⟨S12288x3072, .f32⟩
  | .local _ .vmem, ⟨0, _⟩ => ⟨S1024x3072, .i8⟩
  | .local _ .vmem, ⟨1, _⟩ => ⟨S1024x3072, .i8⟩
  | .local _ .vmem, ⟨2, _⟩ => ⟨S1024x1, .f32⟩
  | .local _ .vmem, ⟨3, _⟩ => ⟨S1024x1, .f32⟩
  | .local _ .vmem, ⟨4, _⟩ => ⟨S768x512, .i8⟩
  | .local _ .vmem, ⟨5, _⟩ => ⟨S768x512, .i8⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S7x512x1536, .bf16⟩
  | .local _ .vmem, ⟨11, _⟩ => ⟨S7x1536x256, .bf16⟩
  | .local _ .vmem, ⟨12, _⟩ => ⟨S7x512x256, .f32⟩
  | .local _ .smem, ⟨0, _⟩ => ⟨S1, .f32⟩
  | _, _ => ⟨S12288x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![12, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OProjRefIdeal.lean ====
abbrev S12288x3072 : Shape := ⟨2, ![12288, 3072]⟩
abbrev S12288x1 : Shape := ⟨2, ![12288, 1]⟩
abbrev S768x3072 : Shape := ⟨2, ![768, 3072]⟩
abbrev S_ : Shape := ⟨0, ![]⟩
abbrev S1 : Shape := ⟨1, ![1]⟩
abbrev S12288x768 : Shape := ⟨2, ![12288, 768]⟩

abbrev nBuf : Space → Nat
  | .hbm => 7
  | .vmem => 5
  | .smem => 1
  | _ => 0

abbrev bufTy : (tb : Table) → Fin (tcTables nBuf tb) → BufTy
  | .hbm, ⟨0, _⟩ => ⟨S12288x3072, .i8⟩
  | .hbm, ⟨1, _⟩ => ⟨S12288x1, .f32⟩
  | .hbm, ⟨2, _⟩ => ⟨S768x3072, .i8⟩
  | .hbm, ⟨3, _⟩ => ⟨S12288x3072, .bf16⟩
  | .hbm, ⟨4, _⟩ => ⟨S_, .f32⟩
  | .hbm, ⟨5, _⟩ => ⟨S1, .f32⟩
  | .hbm, ⟨6, _⟩ => ⟨S12288x3072, .f32⟩
  | .local _ .vmem, ⟨0, _⟩ => ⟨S12288x3072, .i8⟩
  | .local _ .vmem, ⟨1, _⟩ => ⟨S12288x1, .f32⟩
  | .local _ .vmem, ⟨2, _⟩ => ⟨S768x3072, .i8⟩
  | .local _ .vmem, ⟨3, _⟩ => ⟨S12288x3072, .bf16⟩
  | .local _ .vmem, ⟨4, _⟩ => ⟨S12288x3072, .f32⟩
  | .local _ .smem, ⟨0, _⟩ => ⟨S1, .f32⟩
  | _, _ => ⟨S12288x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x3072 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x3072 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== GateUp.lean ====
abbrev S12288x3072 : Shape := ⟨2, ![12288, 3072]⟩
abbrev S12288x1 : Shape := ⟨2, ![12288, 1]⟩
abbrev S768x16384 : Shape := ⟨2, ![768, 16384]⟩
abbrev S2 : Shape := ⟨1, ![2]⟩
abbrev S12288x8192 : Shape := ⟨2, ![12288, 8192]⟩
abbrev S1024x3072 : Shape := ⟨2, ![1024, 3072]⟩
abbrev S1024x1 : Shape := ⟨2, ![1024, 1]⟩
abbrev S768x256 : Shape := ⟨2, ![768, 256]⟩
abbrev S1024x256 : Shape := ⟨2, ![1024, 256]⟩
abbrev S7x512x1536 : Shape := ⟨3, ![7, 512, 1536]⟩
abbrev S7x1536x256 : Shape := ⟨3, ![7, 1536, 256]⟩
abbrev S7x512x256 : Shape := ⟨3, ![7, 512, 256]⟩
abbrev S1 : Shape := ⟨1, ![1]⟩
abbrev S64x1536 : Shape := ⟨2, ![64, 1536]⟩
abbrev S1x64x1536 : Shape := ⟨3, ![1, 64, 1536]⟩
abbrev S192x256 : Shape := ⟨2, ![192, 256]⟩
abbrev S1x768x256 : Shape := ⟨3, ![1, 768, 256]⟩
abbrev S1x512x1536 : Shape := ⟨3, ![1, 512, 1536]⟩
abbrev S512x1536 : Shape := ⟨2, ![512, 1536]⟩
abbrev S1x1536x256 : Shape := ⟨3, ![1, 1536, 256]⟩
abbrev S1536x256 : Shape := ⟨2, ![1536, 256]⟩
abbrev S512x256 : Shape := ⟨2, ![512, 256]⟩
abbrev S1x512x256 : Shape := ⟨3, ![1, 512, 256]⟩
abbrev S1x64x256 : Shape := ⟨3, ![1, 64, 256]⟩
abbrev S64x256 : Shape := ⟨2, ![64, 256]⟩
abbrev S64x1 : Shape := ⟨2, ![64, 1]⟩

abbrev nBuf : Space → Nat
  | .hbm => 5
  | .vmem => 13
  | .smem => 1
  | _ => 0

abbrev bufTy : (tb : Table) → Fin (tcTables nBuf tb) → BufTy
  | .hbm, ⟨0, _⟩ => ⟨S12288x3072, .i8⟩
  | .hbm, ⟨1, _⟩ => ⟨S12288x1, .f32⟩
  | .hbm, ⟨2, _⟩ => ⟨S768x16384, .i8⟩
  | .hbm, ⟨3, _⟩ => ⟨S2, .f32⟩
  | .hbm, ⟨4, _⟩ => ⟨S12288x8192, .f32⟩
  | .local _ .vmem, ⟨0, _⟩ => ⟨S1024x3072, .i8⟩
  | .local _ .vmem, ⟨1, _⟩ => ⟨S1024x3072, .i8⟩
  | .local _ .vmem, ⟨2, _⟩ => ⟨S1024x1, .f32⟩
  | .local _ .vmem, ⟨3, _⟩ => ⟨S1024x1, .f32⟩
  | .local _ .vmem, ⟨4, _⟩ => ⟨S768x256, .i8⟩
  | .local _ .vmem, ⟨5, _⟩ => ⟨S768x256, .i8⟩
  | .local _ .vmem, ⟨6, _⟩ => ⟨S768x256, .i8⟩
  | .local _ .vmem, ⟨7, _⟩ => ⟨S768x256, .i8⟩
  | .local _ .vmem, ⟨8, _⟩ => ⟨S1024x256, .f32⟩
  | .local _ .vmem, ⟨9, _⟩ => ⟨S1024x256, .f32⟩
  | .local _ .vmem, ⟨10, _⟩ => ⟨S7x512x1536, .bf16⟩
  | .local _ .vmem, ⟨11, _⟩ => ⟨S7x1536x256, .bf16⟩
  | .local _ .vmem, ⟨12, _⟩ => ⟨S7x512x256, .f32⟩
  | .local _ .smem, ⟨0, _⟩ => ⟨S2, .f32⟩
  | _, _ => ⟨S12288x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![12, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c0_i32 : BitVec 32 := 0#32
  let c0_i32_0 : BitVec 32 := 0#32
  ![c0_i32.toNat, v0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .smem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpRefIdeal.lean ====
abbrev S12288x3072 : Shape := ⟨2, ![12288, 3072]⟩
abbrev S12288x1 : Shape := ⟨2, ![12288, 1]⟩
abbrev S768x16384 : Shape := ⟨2, ![768, 16384]⟩
abbrev S2 : Shape := ⟨1, ![2]⟩
abbrev S12288x8192 : Shape := ⟨2, ![12288, 8192]⟩
abbrev S12288x768 : Shape := ⟨2, ![12288, 768]⟩
abbrev S12288x16384 : Shape := ⟨2, ![12288, 16384]⟩
abbrev S1 : Shape := ⟨1, ![1]⟩

abbrev nBuf : Space → Nat
  | .hbm => 5
  | .vmem => 4
  | .smem => 1
  | _ => 0

abbrev bufTy : (tb : Table) → Fin (tcTables nBuf tb) → BufTy
  | .hbm, ⟨0, _⟩ => ⟨S12288x3072, .i8⟩
  | .hbm, ⟨1, _⟩ => ⟨S12288x1, .f32⟩
  | .hbm, ⟨2, _⟩ => ⟨S768x16384, .i8⟩
  | .hbm, ⟨3, _⟩ => ⟨S2, .f32⟩
  | .hbm, ⟨4, _⟩ => ⟨S12288x8192, .f32⟩
  | .local _ .vmem, ⟨0, _⟩ => ⟨S12288x3072, .i8⟩
  | .local _ .vmem, ⟨1, _⟩ => ⟨S12288x1, .f32⟩
  | .local _ .vmem, ⟨2, _⟩ => ⟨S768x16384, .i8⟩
  | .local _ .vmem, ⟨3, _⟩ => ⟨S12288x8192, .f32⟩
  | .local _ .smem, ⟨0, _⟩ => ⟨S2, .f32⟩
  | _, _ => ⟨S12288x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S12288x3072 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x16384 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== QuantDown.lean ====
abbrev S12288x8192 : Shape := ⟨2, ![12288, 8192]⟩
abbrev S8192 : Shape := ⟨1, ![8192]⟩
abbrev S1x8192 : Shape := ⟨2, ![1, 8192]⟩
abbrev S12288x1 : Shape := ⟨2, ![12288, 1]⟩
abbrev S256x8192 : Shape := ⟨2, ![256, 8192]⟩
abbrev S256x1 : Shape := ⟨2, ![256, 1]⟩
abbrev S256 : Shape := ⟨1, ![256]⟩

abbrev nBuf : Space → Nat
  | .hbm => 6
  | .vmem => 9
  | .smem => 0
  | _ => 0

abbrev bufTy : (tb : Table) → Fin (tcTables nBuf tb) → BufTy
  | .hbm, ⟨0, _⟩ => ⟨S12288x8192, .f32⟩
  | .hbm, ⟨1, _⟩ => ⟨S8192, .f32⟩
  | .hbm, ⟨2, _⟩ => ⟨S1x8192, .f32⟩
  | .hbm, ⟨3, _⟩ => ⟨S12288x8192, .i8⟩
  | .hbm, ⟨4, _⟩ => ⟨S12288x1, .f32⟩
  | .hbm, ⟨5, _⟩ => ⟨S12288x1, .f32⟩
  | .local _ .vmem, ⟨0, _⟩ => ⟨S256x8192, .f32⟩
  | .local _ .vmem, ⟨1, _⟩ => ⟨S256x8192, .f32⟩
  | .local _ .vmem, ⟨2, _⟩ => ⟨S1x8192, .f32⟩
  | .local _ .vmem, ⟨3, _⟩ => ⟨S256x8192, .i8⟩
  | .local _ .vmem, ⟨4, _⟩ => ⟨S256x8192, .i8⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | _, _ => ⟨S12288x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QuantDownRefIdeal.lean ====
abbrev S12288x8192 : Shape := ⟨2, ![12288, 8192]⟩
abbrev S8192 : Shape := ⟨1, ![8192]⟩
abbrev S1x8192 : Shape := ⟨2, ![1, 8192]⟩
abbrev S12288x1 : Shape := ⟨2, ![12288, 1]⟩
abbrev S12288 : Shape := ⟨1, ![12288]⟩

abbrev nBuf : Space → Nat
  | .hbm => 6
  | .vmem => 5
  | .smem => 0
  | _ => 0

abbrev bufTy : (tb : Table) → Fin (tcTables nBuf tb) → BufTy
  | .hbm, ⟨0, _⟩ => ⟨S12288x8192, .f32⟩
  | .hbm, ⟨1, _⟩ => ⟨S8192, .f32⟩
  | .hbm, ⟨2, _⟩ => ⟨S1x8192, .f32⟩
  | .hbm, ⟨3, _⟩ => ⟨S12288x8192, .i8⟩
  | .hbm, ⟨4, _⟩ => ⟨S12288x1, .f32⟩
  | .hbm, ⟨5, _⟩ => ⟨S12288x1, .f32⟩
  | .local _ .vmem, ⟨0, _⟩ => ⟨S12288x8192, .f32⟩
  | .local _ .vmem, ⟨1, _⟩ => ⟨S1x8192, .f32⟩
  | .local _ .vmem, ⟨2, _⟩ => ⟨S12288x8192, .i8⟩
  | .local _ .vmem, ⟨3, _⟩ => ⟨S12288x1, .f32⟩
  | .local _ .vmem, ⟨4, _⟩ => ⟨S12288x1, .f32⟩
  | _, _ => ⟨S12288x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S12288x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== DownProj.lean ====
abbrev S12288x8192 : Shape := ⟨2, ![12288, 8192]⟩
abbrev S12288x1 : Shape := ⟨2, ![12288, 1]⟩
abbrev S2048x3072 : Shape := ⟨2, ![2048, 3072]⟩
abbrev S12288x3072 : Shape := ⟨2, ![12288, 3072]⟩
abbrev S_ : Shape := ⟨0, ![]⟩
abbrev S1 : Shape := ⟨1, ![1]⟩
abbrev S512x8192 : Shape := ⟨2, ![512, 8192]⟩
abbrev S512x1 : Shape := ⟨2, ![512, 1]⟩
abbrev S2048x512 : Shape := ⟨2, ![2048, 512]⟩
abbrev S512x512 : Shape := ⟨2, ![512, 512]⟩
abbrev S7x256x4096 : Shape := ⟨3, ![7, 256, 4096]⟩
abbrev S7x4096x256 : Shape := ⟨3, ![7, 4096, 256]⟩
abbrev S7x256x256 : Shape := ⟨3, ![7, 256, 256]⟩
abbrev S64x4096 : Shape := ⟨2, ![64, 4096]⟩
abbrev S1x64x4096 : Shape := ⟨3, ![1, 64, 4096]⟩
abbrev S2048x256 : Shape := ⟨2, ![2048, 256]⟩
abbrev S512x256 : Shape := ⟨2, ![512, 256]⟩
abbrev S1x2048x256 : Shape := ⟨3, ![1, 2048, 256]⟩
abbrev S1x256x4096 : Shape := ⟨3, ![1, 256, 4096]⟩
abbrev S256x4096 : Shape := ⟨2, ![256, 4096]⟩
abbrev S1x4096x256 : Shape := ⟨3, ![1, 4096, 256]⟩
abbrev S4096x256 : Shape := ⟨2, ![4096, 256]⟩
abbrev S256x256 : Shape := ⟨2, ![256, 256]⟩
abbrev S1x256x256 : Shape := ⟨3, ![1, 256, 256]⟩
abbrev S1x64x256 : Shape := ⟨3, ![1, 64, 256]⟩
abbrev S64x256 : Shape := ⟨2, ![64, 256]⟩
abbrev S64x1 : Shape := ⟨2, ![64, 1]⟩

abbrev nBuf : Space → Nat
  | .hbm => 7
  | .vmem => 13
  | .smem => 1
  | _ => 0

abbrev bufTy : (tb : Table) → Fin (tcTables nBuf tb) → BufTy
  | .hbm, ⟨0, _⟩ => ⟨S12288x8192, .i8⟩
  | .hbm, ⟨1, _⟩ => ⟨S12288x1, .f32⟩
  | .hbm, ⟨2, _⟩ => ⟨S2048x3072, .i8⟩
  | .hbm, ⟨3, _⟩ => ⟨S12288x3072, .f32⟩
  | .hbm, ⟨4, _⟩ => ⟨S_, .f32⟩
  | .hbm, ⟨5, _⟩ => ⟨S1, .f32⟩
  | .hbm, ⟨6, _⟩ => ⟨S12288x3072, .bf16⟩
  | .local _ .vmem, ⟨0, _⟩ => ⟨S512x8192, .i8⟩
  | .local _ .vmem, ⟨1, _⟩ => ⟨S512x8192, .i8⟩
  | .local _ .vmem, ⟨2, _⟩ => ⟨S512x1, .f32⟩
  | .local _ .vmem, ⟨3, _⟩ => ⟨S512x1, .f32⟩
  | .local _ .vmem, ⟨4, _⟩ => ⟨S2048x512, .i8⟩
  | .local _ .vmem, ⟨5, _⟩ => ⟨S2048x512, .i8⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S7x256x4096, .bf16⟩
  | .local _ .vmem, ⟨11, _⟩ => ⟨S7x4096x256, .bf16⟩
  | .local _ .vmem, ⟨12, _⟩ => ⟨S7x256x256, .f32⟩
  | .local _ .smem, ⟨0, _⟩ => ⟨S1, .f32⟩
  | _, _ => ⟨S12288x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![24, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8192 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownProjRefIdeal.lean ====
abbrev S12288x8192 : Shape := ⟨2, ![12288, 8192]⟩
abbrev S12288x1 : Shape := ⟨2, ![12288, 1]⟩
abbrev S2048x3072 : Shape := ⟨2, ![2048, 3072]⟩
abbrev S12288x3072 : Shape := ⟨2, ![12288, 3072]⟩
abbrev S_ : Shape := ⟨0, ![]⟩
abbrev S1 : Shape := ⟨1, ![1]⟩
abbrev S12288x2048 : Shape := ⟨2, ![12288, 2048]⟩

abbrev nBuf : Space → Nat
  | .hbm => 7
  | .vmem => 5
  | .smem => 1
  | _ => 0

abbrev bufTy : (tb : Table) → Fin (tcTables nBuf tb) → BufTy
  | .hbm, ⟨0, _⟩ => ⟨S12288x8192, .i8⟩
  | .hbm, ⟨1, _⟩ => ⟨S12288x1, .f32⟩
  | .hbm, ⟨2, _⟩ => ⟨S2048x3072, .i8⟩
  | .hbm, ⟨3, _⟩ => ⟨S12288x3072, .f32⟩
  | .hbm, ⟨4, _⟩ => ⟨S_, .f32⟩
  | .hbm, ⟨5, _⟩ => ⟨S1, .f32⟩
  | .hbm, ⟨6, _⟩ => ⟨S12288x3072, .bf16⟩
  | .local _ .vmem, ⟨0, _⟩ => ⟨S12288x8192, .i8⟩
  | .local _ .vmem, ⟨1, _⟩ => ⟨S12288x1, .f32⟩
  | .local _ .vmem, ⟨2, _⟩ => ⟨S2048x3072, .i8⟩
  | .local _ .vmem, ⟨3, _⟩ => ⟨S12288x3072, .f32⟩
  | .local _ .vmem, ⟨4, _⟩ => ⟨S12288x3072, .bf16⟩
  | .local _ .smem, ⟨0, _⟩ => ⟨S1, .f32⟩
  | _, _ => ⟨S12288x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x8192 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x3072 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Ternary.Quant.lean ====
/- The quantiser of one row: the reciprocal root of the mean square, the normalised row, its scale (the largest magnitude
   over 127, or one) and the rounded and clipped codes. Then the vector operations that compute them for many rows at once,
   read at an element: with the row statistics kept as a column, or as a vector reshaped to a column afterwards. -/
module

public import Idealize.ShloMosaic.Lib.Pointwise
public import Idealize.ShloMosaic.Lib.ValueLayout
public import Idealize.ShloMosaic.PureOps.Ideal.Laws

@[expose] public section

noncomputable section

namespace Ternary

open Idealize.ShloMosaic

/-- The reciprocal root of a row's mean square, `c` being the word of the row's length. -/
def rstd {n : ℕ} (c : BitVec 32) (v : Fin n → EReal) : EReal :=
  Ideal.rsqrt (Ideal.div (∑ k, v k * v k) (Ideal.ofBits .f32 c) + Ideal.ofBits .f32 0x3727C5AC#32)

/-- The normalised row, times the gain. -/
def normed {n : ℕ} (c : BitVec 32) (v g : Fin n → EReal) (k : Fin n) : EReal := v k * rstd c v * g k

/-- A row's largest magnitude. -/
def largest {n : ℕ} (y : Fin n → EReal) : EReal :=
  (Finset.univ : Finset (Fin n)).fold max (Ideal.ofBits .f32 0xFF800000#32) fun k => (FloatOps.absf (y k : Ideal .f32) : Ideal .f32)

/-- A row's scale: the largest magnitude over 127, or one if that magnitude is zero. -/
def scale {n : ℕ} (y : Fin n → EReal) : EReal :=
  Scalar.select (Ideal.cmp .oeq (largest y) (Ideal.ofBits .f32 0x00000000#32)) (Ideal.ofBits .f32 0x3F800000#32)
    (Ideal.div (largest y) (Ideal.ofBits .f32 0x42FE0000#32))

/-- An element's code: over the scale, rounded half to even, clipped to ±127. -/
def level (y s : EReal) : BitVec 8 :=
  Ideal.fptosi 8 (min ((((127#32 : BitVec 32).toInt : ℝ)) : EReal)
    (max ((((4294967169#32 : BitVec 32).toInt : ℝ)) : EReal) (Ideal.liftRound Ideal.roundHalfEven (Ideal.div y s))))

variable {R n : ℕ}

/-- A vector reshaped to a column. -/
theorem column_of {α : Type} (x : (⟨1, ![R]⟩ : Shape).Idx → α) (h : (⟨1, ![R]⟩ : Shape).ShapeCasts ⟨2, ![R, 1]⟩) (r : Fin R) (l : Fin 1) :
    shapeCast ⟨2, ![R, 1]⟩ x h (ix2 r l) = x (ix1 r) := by
  refine shapeCast_apply x h _ _ ?_
  rw [Shape.rowMajor_val_one, Shape.rowMajor_val_two]
  have := l.isLt
  show r.val = r.val * 1 + l.val
  omega

/-- A column broadcast along the rows. -/
theorem spread_of {α : Type} (x : (⟨2, ![R, 1]⟩ : Shape).Idx → α) (h : (⟨2, ![R, 1]⟩ : Shape).Broadcasts ⟨2, ![R, n]⟩) (r : Fin R) (k : Fin n) :
    broadcastTo ⟨2, ![R, n]⟩ x h (ix2 r k) = x (ix2 r 0) := by
  refine broadcastTo_apply x h (ix2 r k) (ix2 r 0) fun ax => ?_
  match ax with
  | ⟨0, _⟩ =>
    show r.val = if R = 1 then 0 else r.val
    split
    · have := r.isLt; omega
    · rfl
  | ⟨1, _⟩ => rfl

/-- A row's sum. -/
theorem row_sum (x : FVec Ideal ⟨2, ![R, n]⟩ .f32) (a : BitVec 32) (h : (⟨2, ![R, n]⟩ : Shape).Reduces [1] ⟨1, ![R]⟩)
    (hφ : FKind.Formats .f32) (ha : a = FKind.add.neutral .f32 hφ) (r : Fin R) :
    multiReduction .add [1] ⟨1, ![R]⟩ x a h hφ ha (ix1 r) = ∑ k : Fin n, (x (ix2 r k) : EReal) := by
  refine (Ideal.multiReduction_add_single x a h hφ ha (ix1 r)).trans (Finset.sum_congr rfl fun k _ => congrArg x ?_)
  funext d
  match d with
  | ⟨0, _⟩ => rfl
  | ⟨1, _⟩ => rfl

/-- A row's largest magnitude. -/
theorem row_largest (x : FVec Ideal ⟨2, ![R, n]⟩ .f32) (h : (⟨2, ![R, n]⟩ : Shape).Reduces [1] ⟨1, ![R]⟩)
    (hφ : FKind.Formats .f32) (ha : 0xFF800000#32 = FKind.maximumf.neutral .f32 hφ) (r : Fin R) :
    multiReduction .maximumf [1] ⟨1, ![R]⟩ (absf x) 0xFF800000#32 h hφ ha (ix1 r) = largest fun k : Fin n => (x (ix2 r k) : EReal) := by
  refine (Ideal.multiReduction_maximumf_single (absf x) _ h hφ ha (ix1 r)).trans ?_
  unfold largest
  refine Finset.fold_congr fun k _ => ?_
  show absf x (h.lift (ix1 r) k) = absf x (ix2 r k)
  congr 1
  funext d
  match d with
  | ⟨0, _⟩ => rfl
  | ⟨1, _⟩ => rfl

section
variable (x : FVec Ideal ⟨2, ![R, n]⟩ .f32) (red : (⟨2, ![R, n]⟩ : Shape).Reduces [1] ⟨1, ![R]⟩) (hφ : FKind.Formats .f32)
  (sc : (⟨1, ![R]⟩ : Shape).ShapeCasts ⟨2, ![R, 1]⟩)

/-- The reciprocal roots, as a vector … -/
theorem rstd_vector (c : BitVec 32) (ha : 0x00000000#32 = FKind.add.neutral .f32 hφ) (r : Fin R) :
    rsqrt (addf (divf (multiReduction .add [1] ⟨1, ![R]⟩ (mulf x x) 0x00000000#32 red hφ ha)
      (broadcast ⟨1, ![R]⟩ (Scalar.ofBits .f32 c : Ideal .f32))) (broadcast ⟨1, ![R]⟩ (Scalar.ofBits .f32 0x3727C5AC#32 : Ideal .f32))) (ix1 r)
      = rstd c fun k : Fin n => (x (ix2 r k) : EReal) :=
  congrArg (fun s : EReal => Ideal.rsqrt (Ideal.div s (Ideal.ofBits .f32 c) + Ideal.ofBits .f32 0x3727C5AC#32)) (row_sum (mulf x x) _ red hφ ha r)

/-- … and as a column. -/
theorem rstd_column (c : BitVec 32) (ha : 0x00000000#32 = FKind.add.neutral .f32 hφ) (r : Fin R) (l : Fin 1) :
    rsqrt (addf (divf (shapeCast ⟨2, ![R, 1]⟩ (multiReduction .add [1] ⟨1, ![R]⟩ (mulf x x) 0x00000000#32 red hφ ha) sc)
      (broadcast ⟨2, ![R, 1]⟩ (Scalar.ofBits .f32 c : Ideal .f32))) (broadcast ⟨2, ![R, 1]⟩ (Scalar.ofBits .f32 0x3727C5AC#32 : Ideal .f32))) (ix2 r l)
      = rstd c fun k : Fin n => (x (ix2 r k) : EReal) :=
  congrArg (fun s : EReal => Ideal.rsqrt (Ideal.div s (Ideal.ofBits .f32 c) + Ideal.ofBits .f32 0x3727C5AC#32))
    ((column_of _ sc r l).trans (row_sum (mulf x x) _ red hφ ha r))

/-- The scales, as a vector … -/
theorem scale_vector (ha : 0xFF800000#32 = FKind.maximumf.neutral .f32 hφ) (r : Fin R) :
    select (cmpf .oeq (multiReduction .maximumf [1] ⟨1, ![R]⟩ (absf x) 0xFF800000#32 red hφ ha)
      (broadcast ⟨1, ![R]⟩ (Scalar.ofBits .f32 0x00000000#32 : Ideal .f32))) (broadcast ⟨1, ![R]⟩ (Scalar.ofBits .f32 0x3F800000#32 : Ideal .f32))
      (divf (multiReduction .maximumf [1] ⟨1, ![R]⟩ (absf x) 0xFF800000#32 red hφ ha)
        (broadcast ⟨1, ![R]⟩ (Scalar.ofBits .f32 0x42FE0000#32 : Ideal .f32))) (ix1 r)
      = scale fun k : Fin n => (x (ix2 r k) : EReal) :=
  congrArg (fun s : EReal => Scalar.select (Ideal.cmp .oeq s (Ideal.ofBits .f32 0x00000000#32)) (Ideal.ofBits .f32 0x3F800000#32)
    (Ideal.div s (Ideal.ofBits .f32 0x42FE0000#32))) (row_largest x red hφ ha r)

/-- … and as a column. -/
theorem scale_column (ha : 0xFF800000#32 = FKind.maximumf.neutral .f32 hφ) (r : Fin R) (l : Fin 1) :
    select (cmpf .oeq (shapeCast ⟨2, ![R, 1]⟩ (multiReduction .maximumf [1] ⟨1, ![R]⟩ (absf x) 0xFF800000#32 red hφ ha) sc)
      (broadcast ⟨2, ![R, 1]⟩ (Scalar.ofBits .f32 0x00000000#32 : Ideal .f32))) (broadcast ⟨2, ![R, 1]⟩ (Scalar.ofBits .f32 0x3F800000#32 : Ideal .f32))
      (divf (shapeCast ⟨2, ![R, 1]⟩ (multiReduction .maximumf [1] ⟨1, ![R]⟩ (absf x) 0xFF800000#32 red hφ ha) sc)
        (broadcast ⟨2, ![R, 1]⟩ (Scalar.ofBits .f32 0x42FE0000#32 : Ideal .f32))) (ix2 r l)
      = scale fun k : Fin n => (x (ix2 r k) : EReal) :=
  congrArg (fun s : EReal => Scalar.select (Ideal.cmp .oeq s (Ideal.ofBits .f32 0x00000000#32)) (Ideal.ofBits .f32 0x3F800000#32)
    (Ideal.div s (Ideal.ofBits .f32 0x42FE0000#32))) ((column_of _ sc r l).trans (row_largest x red hφ ha r))

/-- The normalised rows, from the column of reciprocal roots. -/
theorem normed_column (p : FVec Ideal ⟨2, ![R, 1]⟩ .f32) (g : FVec Ideal ⟨2, ![1, n]⟩ .f32) (hp : (⟨2, ![R, 1]⟩ : Shape).Broadcasts ⟨2, ![R, n]⟩)
    (hg : (⟨2, ![1, n]⟩ : Shape).Broadcasts ⟨2, ![R, n]⟩) (c : BitVec 32) (r : Fin R)
    (e : (p (ix2 r 0) : EReal) = rstd c fun k : Fin n => (x (ix2 r k) : EReal)) (k : Fin n) :
    mulf (mulf x (broadcastTo ⟨2, ![R, n]⟩ p hp)) (broadcastTo ⟨2, ![R, n]⟩ g hg) (ix2 r k)
      = normed c (fun k : Fin n => (x (ix2 r k) : EReal)) (fun k : Fin n => (g (ix2 0 k) : EReal)) k :=
  congrArg₂ (fun a b : EReal => (x (ix2 r k) : EReal) * a * b) ((spread_of p hp r k).trans e) (ValueIdx.broadcastTo_1b_ab_apply g hg r k)

/-- The codes, from the column of scales. -/
theorem level_column (s : FVec Ideal ⟨2, ![R, 1]⟩ .f32) (hs : (⟨2, ![R, 1]⟩ : Shape).Broadcasts ⟨2, ![R, n]⟩) (r : Fin R) (k : Fin n) :
    fptosi 8 (minimumf (broadcast ⟨2, ![R, n]⟩ (Scalar.sitofp .f32 (127#32 : BitVec 32) : Ideal .f32))
      (maximumf (broadcast ⟨2, ![R, n]⟩ (Scalar.sitofp .f32 (4294967169#32 : BitVec 32) : Ideal .f32))
        (roundeven (divf x (broadcastTo ⟨2, ![R, n]⟩ s hs))))) (ix2 r k)
      = level (x (ix2 r k)) (s (ix2 r 0)) :=
  congrArg (level (x (ix2 r k))) (spread_of s hs r k)

end

/-! ## Arrays -/

/-- A row of an array. -/
def row (X : (⟨2, ![R, n]⟩ : Shape).Idx → EReal) (r : Fin R) (k : Fin n) : EReal := X (ix2 r k)

/-- The normalised row `r` of an array, the gains being an array of one row. -/
def normedRow (c : BitVec 32) (X : (⟨2, ![R, n]⟩ : Shape).Idx → EReal) (G : (⟨2, ![1, n]⟩ : Shape).Idx → EReal) (r : Fin R) : Fin n → EReal :=
  normed c (row X r) (row G 0)

/-- The codes of an array's rows. -/
def codes (c : BitVec 32) (X : (⟨2, ![R, n]⟩ : Shape).Idx → EReal) (G : (⟨2, ![1, n]⟩ : Shape).Idx → EReal) :
    (⟨2, ![R, n]⟩ : Shape).Idx → BitVec 8 :=
  fun i => level (normedRow c X G (i 0) (i 1)) (scale (normedRow c X G (i 0)))

/-- The scales of an array's rows, as a column. -/
def scales (c : BitVec 32) (X : (⟨2, ![R, n]⟩ : Shape).Idx → EReal) (G : (⟨2, ![1, n]⟩ : Shape).Idx → EReal) :
    (⟨2, ![R, 1]⟩ : Shape).Idx → EReal :=
  fun i => scale (normedRow c X G (i 0))

/-- The reciprocal roots of an array's rows, as a column. -/
def rstds (c : BitVec 32) (X : (⟨2, ![R, n]⟩ : Shape).Idx → EReal) : (⟨2, ![R, 1]⟩ : Shape).Idx → EReal :=
  fun i => rstd c (row X (i 0))

section
variable {b : ℕ} {c : BitVec 32} {x : (⟨2, ![b, n]⟩ : Shape).Idx → EReal} {X : (⟨2, ![R, n]⟩ : Shape).Idx → EReal}
  {g G : (⟨2, ![1, n]⟩ : Shape).Idx → EReal}

/-- A block of whole rows has the array's codes at its place … -/
theorem codes_block (y : (⟨2, ![b, n]⟩ : Shape).Idx) (i : (⟨2, ![R, n]⟩ : Shape).Idx) (hx : row x (y 0) = row X (i 0)) (hg : g = G)
    (h : (y 1).val = (i 1).val) : codes c x g y = codes c X G i := by
  subst hg
  have h : y 1 = i 1 := Fin.ext h
  unfold codes normedRow
  rw [hx, h]

/-- … its scales … -/
theorem scales_block (y : (⟨2, ![b, 1]⟩ : Shape).Idx) (i : (⟨2, ![R, 1]⟩ : Shape).Idx) (hx : row x (y 0) = row X (i 0)) (hg : g = G) :
    scales c x g y = scales c X G i := by
  subst hg
  unfold scales normedRow
  rw [hx]

/-- … and its reciprocal roots. -/
theorem rstds_block (y : (⟨2, ![b, 1]⟩ : Shape).Idx) (i : (⟨2, ![R, 1]⟩ : Shape).Idx) (hx : row x (y 0) = row X (i 0)) :
    rstds c x y = rstds c X i := by
  unfold rstds
  rw [hx]

end

end Ternary
-- ==== Proof.Ternary.Words.lean ====
/- The four two-bit fields of a weight byte. A byte array is read four rows at a time as 32-bit words, the words are
   shifted right by `2 f` bits and masked with `0x03030303`, and read as bytes again: that is field `f` of each byte, the
   neighbouring bytes' bits that the shift brings in being masked away. A plain reading widens the byte, shifts it and
   keeps its low two bits. Both are the number `field f w`. -/
module

public import Idealize.ShloMosaic.Lib.Pointwise
public import Idealize.ShloMosaic.Lib.BitcastFour

@[expose] public section

namespace Ternary

open Idealize.ShloMosaic

/-- Field `f` of a byte of four two-bit fields. -/
def field (f : ℕ) (w : BitVec 8) : ℕ := w.toNat >>> (2 * f) % 4

/-- Element `(r, c)` of a rank-2 array, at natural coordinates. -/
def at2 {R C : ℕ} {α : Type} [Inhabited α] (x : (⟨2, ![R, C]⟩ : Shape).Idx → α) (r c : ℕ) : α :=
  if h : r < R ∧ c < C then x (ValueIdx.ix2 ⟨r, h.1⟩ ⟨c, h.2⟩) else default

theorem at2_of {R C : ℕ} {α : Type} [Inhabited α] (x : (⟨2, ![R, C]⟩ : Shape).Idx → α) (j : (⟨2, ![R, C]⟩ : Shape).Idx)
    (r c : ℕ) (hr : (j 0).val = r) (hc : (j 1).val = c) : x j = at2 x r c := by
  subst hr hc
  unfold at2
  rw [dif_pos ⟨(j 0).isLt, (j 1).isLt⟩]
  congr 1
  funext a
  match a with
  | ⟨0, _⟩ => rfl
  | ⟨1, _⟩ => rfl

/-- A rank-2 index is its two coordinates. -/
theorem pair {R C : ℕ} (y : (⟨2, ![R, C]⟩ : Shape).Idx) : ∃ (r : Fin R) (l : Fin C), y = Idealize.ShloMosaic.ix2 r l :=
  ⟨y 0, y 1, by
    funext a
    match a with
    | ⟨0, _⟩ => rfl
    | ⟨1, _⟩ => rfl⟩

/-- The mask keeps the low two bits of each byte. -/
theorem mask_bit (b p : ℕ) (hb : b < 4) (hp : p < 8) : (50529027#32 : BitVec 32).getLsbD (8 * b + p) = decide (p < 2) := by
  interval_cases b <;> interval_cases p <;> rfl

/-- A field's bits are the byte's, two of them. -/
theorem field_bit (f p : ℕ) (w : BitVec 8) (hp : p < 8) :
    (BitVec.ofNat 8 (field f w)).getLsbD p = (decide (p < 2) && w.getLsbD (2 * f + p)) := by
  rw [BitVec.getLsbD_ofNat, decide_eq_true hp, Bool.true_and]
  unfold field
  rw [show (4 : ℕ) = 2 ^ 2 from rfl, Nat.testBit_mod_two_pow, Nat.testBit_shiftRight]
  rfl

/-- The words' reading is the field. -/
theorem field_words {R r n : ℕ} (hR : R = 4 * r) (w : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (g : (⟨2, ![r, n]⟩ : Shape).Idx → BitVec 32) (f : ℕ) (hf : f < 4)
    (hg : ∀ j, g j = (bitcast ⟨2, ![r, n]⟩ 32 w h j >>> (2 * f)) &&& 50529027#32) (a : Fin R) (l : Fin n) :
    bitcast ⟨2, ![R, n]⟩ 8 g h' (ValueIdx.ix2 a l) = BitVec.ofNat 8 (field f (w (ValueIdx.ix2 a l))) := by
  have ha := a.isLt
  have hrow : (⟨2, ![R, n]⟩ : Shape).row (ValueIdx.ix2 a l) = a.val := rfl
  refine BitVec.eq_of_getLsbD_eq fun p hp => ?_
  rw [field_bit f p _ hp, bitcast_getLsbD g h' _ p hp (by decide)]
  have hsrc : ∀ hh, h'.srcIdx (ValueIdx.ix2 a l) (((⟨2, ![R, n]⟩ : Shape).row (ValueIdx.ix2 a l) * 8 + p) / 32) hh
      = ValueIdx.ix2 (⟨a.val / 4, by omega⟩ : Fin r) l := by
    intro hh
    funext c
    match c with
    | ⟨0, _⟩ =>
      refine Fin.ext ((h'.srcIdx_row _ _ _ ⟨0, Nat.zero_lt_two⟩ rfl).trans ?_)
      rw [hrow]; show _ = a.val / 4; omega
    | ⟨1, _⟩ => exact Fin.ext (h'.srcIdx_other _ _ _ ⟨1, Nat.one_lt_two⟩ (by show ¬ 1 + 2 = 2; omega))
  have hbit : ((⟨2, ![R, n]⟩ : Shape).row (ValueIdx.ix2 a l) * 8 + p) % 32 = 8 * (a.val % 4) + p := by rw [hrow]; omega
  rw [hsrc, hg, hbit, BitVec.getLsbD_and, BitVec.getLsbD_ushiftRight, mask_bit _ _ (Nat.mod_lt _ (by decide)) hp, Bool.and_comm]
  by_cases h2 : p < 2
  · rw [decide_eq_true h2, Bool.true_and, Bool.true_and, bitcast_8_32_getLsbD_ix2 w h _ _ _ (by omega) a (by
      show a.val = 4 * (a.val / 4) + (2 * f + (8 * (a.val % 4) + p)) / 8; omega)]
    congr 1; omega
  · rw [decide_eq_false h2, Bool.false_and, Bool.false_and]

/-- A field is less than four. -/
theorem field_lt (f : ℕ) (w : BitVec 8) : field f w < 4 := Nat.mod_lt _ (by decide)

/-- A field's byte, read as a number. -/
theorem field_toInt (f : ℕ) (w : BitVec 8) : (BitVec.ofNat 8 (field f w)).toInt = (field f w : ℤ) := by
  have := field_lt f w
  generalize field f w = n at this ⊢
  interval_cases n <;> rfl

end Ternary
-- ==== Proof.Ternary.Block.lean ====
/- Reading what a step stores: an array stored piece by piece is ONE function of the element's coordinates, given piece by
   piece; and a ternary weight as a number. -/
module

public import Idealize.ShloMosaic.Lib.Pointwise
public import proofs.«01_k».proof.Proof.Ternary.Words

@[expose] public section

namespace Ternary

open Idealize.ShloMosaic

/-- The weight of row `k` and column `c`: row `k` is field `k / k4` of byte row `k % k4`, less one. -/
noncomputable def weight {R C : ℕ} (w : (⟨2, ![R, C]⟩ : Shape).Idx → BitVec 8) (k4 k c : ℕ) : ℝ :=
  (field (k / k4) (at2 w (k % k4) c) : ℝ) - 1

/-- The code of row `r` and column `k`, as a number. -/
noncomputable def code {R C : ℕ} (x : (⟨2, ![R, C]⟩ : Shape).Idx → BitVec 8) (r k : ℕ) : ℝ := ((at2 x r k).toInt : ℝ)

/-- Field `f`'s weights are rows `f * k4` and on. -/
theorem weight_of {R C : ℕ} (w : (⟨2, ![R, C]⟩ : Shape).Idx → BitVec 8) (k4 f k c : ℕ) (hk : k < k4) :
    weight w k4 (f * k4 + k) c = (field f (at2 w k c) : ℝ) - 1 := by
  unfold weight
  rw [Nat.mul_comm f, Nat.mul_add_div (by omega), Nat.mul_add_mod, Nat.div_eq_of_lt hk, Nat.mod_eq_of_lt hk, Nat.add_zero]

/-- The words' weight field, as a number. -/
theorem sitofp_words {R r n : ℕ} (hR : R = 4 * r) (w : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (g : (⟨2, ![r, n]⟩ : Shape).Idx → BitVec 32) (f : ℕ) (hf : f < 4)
    (hg : ∀ j, g j = (bitcast ⟨2, ![r, n]⟩ 32 w h j >>> (2 * f)) &&& 50529027#32) (j : (⟨2, ![R, n]⟩ : Shape).Idx)
    (k c : ℕ) (hk : (j 0).val = k) (hc : (j 1).val = c) :
    (FloatOps.sitofp .bf16 (bitcast ⟨2, ![R, n]⟩ 8 g h' j) : Ideal .bf16) = ((field f (at2 w k c) : ℝ) : EReal) := by
  have hj : j = ValueIdx.ix2 (⟨k, by rw [← hk]; exact (j 0).isLt⟩ : Fin R) (⟨c, by rw [← hc]; exact (j 1).isLt⟩ : Fin n) := by
    subst hk hc
    funext a
    match a with
    | ⟨0, _⟩ => rfl
    | ⟨1, _⟩ => rfl
  rw [hj, field_words hR w h h' g f hf hg, at2_of w _ k c rfl rfl]
  show (((BitVec.ofNat 8 (field f (at2 w k c))).toInt : ℝ) : EReal) = _
  rw [field_toInt, Int.cast_natCast]

/-- The words' weight, as a number: field `f` of the byte rows is rows `f * R` and on of the weights. -/
theorem sitofp_weight {R r n : ℕ} (hR : R = 4 * r) (w : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (b : BitVec 32) (f : ℕ) (hf : f < 4) (hb : b = BitVec.ofNat 32 (2 * f)) (j : (⟨2, ![R, n]⟩ : Shape).Idx)
    (K c : ℕ) (hK : f * R + (j 0).val = K) (hc : (j 1).val = c) :
    (FloatOps.sitofp .bf16 (bitcast ⟨2, ![R, n]⟩ 8 (andi (shrui (bitcast ⟨2, ![r, n]⟩ 32 w h) (broadcast _ b))
        (broadcast _ 50529027#32)) h' j) : Ideal .bf16) - 1 = ((weight w R K c : ℝ) : EReal) := by
  rw [sitofp_words hR w h h' _ f hf (fun i => ?_) j (j 0).val c rfl hc, ← hK, weight_of w R f _ c (j 0).isLt, EReal.coe_sub]
  · rfl
  · show IntOp.shrui .vector (bitcast ⟨2, ![r, n]⟩ 32 w h i) b &&& 50529027#32 = _
    rw [hb]
    have h32 : (BitVec.ofNat 32 (2 * f)).toNat = 2 * f := by rw [BitVec.toNat_ofNat]; omega
    unfold IntOp.shrui
    rw [if_pos (by rw [h32]; omega), BitVec.ushiftRight_eq', h32]

/-- A code read as a float. -/
theorem sitofp_code {R C : ℕ} (x : (⟨2, ![R, C]⟩ : Shape).Idx → BitVec 8) (j : (⟨2, ![R, C]⟩ : Shape).Idx) :
    (FloatOps.sitofp .bf16 (x j) : Ideal .bf16) = ((code x (j 0).val (j 1).val : ℝ) : EReal) := by
  unfold code; rw [at2_of x j _ _ rfl rfl]; rfl

theorem zero2 : (![0, 0] : Fin 2 → ℕ) = fun _ => 0 := by funext a; match a with | 0 => rfl | 1 => rfl

/-- A piece of a rank-3 array, one plane thick, at its own coordinates. -/
theorem plane {α : Type} {N0 N1 N2 n1 n2 o0 o1 o2 : ℕ} (G : ℕ → ℕ → ℕ → α)
    (inb : ∀ a, (![o0, o1, o2] : Fin 3 → ℕ) a + (⟨3, ![1, n1, n2]⟩ : Shape).size a ≤ (⟨3, ![N0, N1, N2]⟩ : Shape).size a)
    (w : (⟨3, ![1, n1, n2]⟩ : Shape).Idx → α)
    (h : ∀ x : (⟨3, ![1, n1, n2]⟩ : Shape).Idx, w x = G o0 (o1 + (x 1).val) (o2 + (x 2).val))
    (x : (⟨3, ![1, n1, n2]⟩ : Shape).Idx) :
    w x = G ((Rect.unit (s := ⟨3, ![N0, N1, N2]⟩) ![o0, o1, o2] (⟨3, ![1, n1, n2]⟩ : Shape).size inb).emb x 0).val
      ((Rect.unit (s := ⟨3, ![N0, N1, N2]⟩) ![o0, o1, o2] (⟨3, ![1, n1, n2]⟩ : Shape).size inb).emb x 1).val
      ((Rect.unit (s := ⟨3, ![N0, N1, N2]⟩) ![o0, o1, o2] (⟨3, ![1, n1, n2]⟩ : Shape).size inb).emb x 2).val := by
  have h0 : (x 0).val = 0 := Nat.lt_one_iff.mp (x 0).isLt
  have e0 : ((Rect.unit (s := ⟨3, ![N0, N1, N2]⟩) ![o0, o1, o2] (⟨3, ![1, n1, n2]⟩ : Shape).size inb).emb x 0).val = o0 := by
    show o0 + 1 * (x 0).val = o0; omega
  have e1 : ((Rect.unit (s := ⟨3, ![N0, N1, N2]⟩) ![o0, o1, o2] (⟨3, ![1, n1, n2]⟩ : Shape).size inb).emb x 1).val = o1 + (x 1).val := by
    show o1 + 1 * (x 1).val = _; omega
  have e2 : ((Rect.unit (s := ⟨3, ![N0, N1, N2]⟩) ![o0, o1, o2] (⟨3, ![1, n1, n2]⟩ : Shape).size inb).emb x 2).val = o2 + (x 2).val := by
    show o2 + 1 * (x 2).val = _; omega
  rw [e0, e1, e2]; exact h x

/-- A piece of a rank-2 array at its own coordinates. -/
theorem patch {α : Type} {N0 N1 n0 n1 o0 o1 : ℕ} (G : ℕ → ℕ → α)
    (inb : ∀ a, (![o0, o1] : Fin 2 → ℕ) a + (⟨2, ![n0, n1]⟩ : Shape).size a ≤ (⟨2, ![N0, N1]⟩ : Shape).size a)
    (w : (⟨2, ![n0, n1]⟩ : Shape).Idx → α)
    (h : ∀ x : (⟨2, ![n0, n1]⟩ : Shape).Idx, w x = G (o0 + (x 0).val) (o1 + (x 1).val))
    (x : (⟨2, ![n0, n1]⟩ : Shape).Idx) :
    w x = G ((Rect.unit (s := ⟨2, ![N0, N1]⟩) ![o0, o1] (⟨2, ![n0, n1]⟩ : Shape).size inb).emb x 0).val
      ((Rect.unit (s := ⟨2, ![N0, N1]⟩) ![o0, o1] (⟨2, ![n0, n1]⟩ : Shape).size inb).emb x 1).val := by
  have e0 : ((Rect.unit (s := ⟨2, ![N0, N1]⟩) ![o0, o1] (⟨2, ![n0, n1]⟩ : Shape).size inb).emb x 0).val = o0 + (x 0).val := by
    show o0 + 1 * (x 0).val = _; omega
  have e1 : ((Rect.unit (s := ⟨2, ![N0, N1]⟩) ![o0, o1] (⟨2, ![n0, n1]⟩ : Shape).size inb).emb x 1).val = o1 + (x 1).val := by
    show o1 + 1 * (x 1).val = _; omega
  rw [e0, e1]; exact h x

/-- A rank-3 array stored piece by piece. -/
theorem canon3 {N0 N1 N2 : ℕ} {e : EltTy} (G : ℕ → ℕ → ℕ → Elt Ideal e) (L : List (View.Piece (Elt Ideal) ⟨3, ![N0, N1, N2]⟩ e))
    (h : ∀ p ∈ L, ∀ x : p.1.shape.Idx, p.2 x = G (p.1.emb x 0).val (p.1.emb x 1).val (p.1.emb x 2).val)
    (hc : ∀ y : (⟨3, ![N0, N1, N2]⟩ : Shape).Idx, ∃ p ∈ L, y ∈ p.1.set) (y : (⟨3, ![N0, N1, N2]⟩ : Shape).Idx) :
    View.canon L y = G (y 0).val (y 1).val (y 2).val :=
  View.canon_apply_of_pieces (fun y => G (y 0).val (y 1).val (y 2).val) L h y (hc y)

/-- A rank-2 array stored piece by piece. -/
theorem canon2 {N0 N1 : ℕ} {e : EltTy} (G : ℕ → ℕ → Elt Ideal e) (L : List (View.Piece (Elt Ideal) ⟨2, ![N0, N1]⟩ e))
    (h : ∀ p ∈ L, ∀ x : p.1.shape.Idx, p.2 x = G (p.1.emb x 0).val (p.1.emb x 1).val)
    (hc : ∀ y : (⟨2, ![N0, N1]⟩ : Shape).Idx, ∃ p ∈ L, y ∈ p.1.set) (y : (⟨2, ![N0, N1]⟩ : Shape).Idx) :
    View.canon L y = G (y 0).val (y 1).val :=
  View.canon_apply_of_pieces (fun y => G (y 0).val (y 1).val) L h y (hc y)

end Ternary
-- ==== Proof.Ternary.Strassen.lean ====
/- The two-by-two Strassen identity for a product of a block of rows with two column blocks, over the reals, and the
   passage of the extended reals' sums and products of finite numbers to it.

   The rows are cut into an upper and a lower half (`hm` rows each), the contraction into a first and a second half
   (`hk` each), and the result's columns into a left and a right block, whose weights are `L` and `R`. Seven products of
   sums of quarters give the four quarters of the result. -/
module

public import Mathlib.Data.EReal.Operations
public import Mathlib.Algebra.BigOperators.Fin
public import Mathlib.Tactic.Ring

@[expose] public section

namespace Ternary

open Finset

/-- The left factor of product `q` at row `r` of a half and position `k` of half the contraction. -/
def leftFactor (A : ℕ → ℕ → ℝ) (hm hk : ℕ) (q r k : ℕ) : ℝ :=
  match q with
  | 0 => A r k + A (hm + r) (hk + k)
  | 1 => A (hm + r) k + A (hm + r) (hk + k)
  | 2 => A r k
  | 3 => A (hm + r) (hk + k)
  | 4 => A r k + A r (hk + k)
  | 5 => A (hm + r) k - A r k
  | _ => A r (hk + k) - A (hm + r) (hk + k)

/-- The right factor of product `q` at position `k` of half the contraction and column `c` of a block. -/
def rightFactor (L R : ℕ → ℕ → ℝ) (hk : ℕ) (q k c : ℕ) : ℝ :=
  match q with
  | 0 => L k c + R (hk + k) c
  | 1 => L k c
  | 2 => R k c - R (hk + k) c
  | 3 => L (hk + k) c - L k c
  | 4 => R (hk + k) c
  | 5 => L k c + R k c
  | _ => L (hk + k) c + R (hk + k) c

/-- Product `q` of the seven. -/
def product (A L R : ℕ → ℕ → ℝ) (hm hk : ℕ) (q r c : ℕ) : ℝ :=
  ∑ k ∈ range hk, leftFactor A hm hk q r k * rightFactor L R hk q k c

/-- A plain product of `n` terms: row `r` of `A` with column `c` of `W`. -/
def dot (A W : ℕ → ℕ → ℝ) (n r c : ℕ) : ℝ := ∑ k ∈ range n, A r k * W k c

theorem dot_two (A W : ℕ → ℕ → ℝ) (hk r c : ℕ) :
    dot A W (hk + hk) r c = ∑ k ∈ range hk, (A r k * W k c + A r (hk + k) * W (hk + k) c) := by
  unfold dot; rw [sum_range_add, ← sum_add_distrib]

variable (A L R : ℕ → ℕ → ℝ) (hm hk r c : ℕ)

/-- The upper left quarter. -/
theorem upper_left : product A L R hm hk 0 r c + product A L R hm hk 3 r c - product A L R hm hk 4 r c
    + product A L R hm hk 6 r c = dot A L (hk + hk) r c := by
  rw [dot_two]; unfold product
  rw [← sum_add_distrib, ← sum_sub_distrib, ← sum_add_distrib]
  refine sum_congr rfl fun k _ => ?_
  simp only [leftFactor, rightFactor]; ring

/-- The upper right quarter. -/
theorem upper_right : product A L R hm hk 2 r c + product A L R hm hk 4 r c = dot A R (hk + hk) r c := by
  rw [dot_two]; unfold product
  rw [← sum_add_distrib]
  refine sum_congr rfl fun k _ => ?_
  simp only [leftFactor, rightFactor]; ring

/-- The lower left quarter. -/
theorem lower_left : product A L R hm hk 1 r c + product A L R hm hk 3 r c = dot A L (hk + hk) (hm + r) c := by
  rw [dot_two]; unfold product
  rw [← sum_add_distrib]
  refine sum_congr rfl fun k _ => ?_
  simp only [leftFactor, rightFactor]; ring

/-- The lower right quarter. -/
theorem lower_right : product A L R hm hk 0 r c - product A L R hm hk 1 r c + product A L R hm hk 2 r c
    + product A L R hm hk 5 r c = dot A R (hk + hk) (hm + r) c := by
  rw [dot_two]; unfold product
  rw [← sum_sub_distrib, ← sum_add_distrib, ← sum_add_distrib]
  refine sum_congr rfl fun k _ => ?_
  simp only [leftFactor, rightFactor]; ring

/-- A sum of finite numbers, in the extended reals, is the real sum. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [sum_insert ha, sum_insert ha, EReal.coe_add, ih]

/-- A contraction of `n` products of finite numbers. -/
theorem sum_mul_coe (n : ℕ) (f g : ℕ → ℝ) (F G : Fin n → EReal) (hF : ∀ k, F k = (f k : EReal)) (hG : ∀ k, G k = (g k : EReal)) :
    ∑ k : Fin n, F k * G k = ((∑ k ∈ range n, f k * g k : ℝ) : EReal) := by
  rw [coe_sum, ← Fin.sum_univ_eq_sum_range (fun k => ((f k * g k : ℝ) : EReal))]
  exact sum_congr rfl fun k _ => by rw [hF, hG, EReal.coe_mul]

/-- The gated activation of a gate and an up product: both scaled by the row's scale `a` and their own weights' scale,
    the gate clipped at zero and squared. -/
noncomputable def gated (g u : ℝ) (a s0 s1 : EReal) : EReal :=
  max ((g : EReal) * a * s0) 0 * max ((g : EReal) * a * s0) 0 * ((u : EReal) * a * s1)

/-- The columns of `W` from the `p`-th on. -/
def columns (W : ℕ → ℕ → ℝ) (p k c : ℕ) : ℝ := W k (p + c)

/-- A residual plus a product times the scales of the row and of the weights. -/
noncomputable def residual (x : EReal) (d : ℝ) (a s : EReal) : EReal := x + (d : EReal) * a * s

end Ternary
-- ==== Proof.Ternary.Plain.lean ====
/- The plain reading of a ternary weight (the byte widened, shifted, masked, less one) and the plain product over packed
   weights: four partial products, one for each field of the bytes, added up. -/
module

public import proofs.«01_k».proof.Proof.Ternary.Block
public import proofs.«01_k».proof.Proof.Ternary.Strassen

@[expose] public section

noncomputable section

namespace Ternary

open Idealize.ShloMosaic

/-- The plain reading of field `f`. -/
theorem plain_toInt : ∀ (f : Fin 4) (w : BitVec 8), (IntOp.subi (BitVec.setWidth 8 (IntOp.andi (IntOp.shrsi ArithUnit.vector
    (BitVec.setWidth 32 w) (BitVec.ofNat 32 (2 * f.val))) 3#32)) 1#8).toInt = (field f.val w : ℤ) - 1 := by
  decide +kernel

/-- The plain weight, as a number. -/
theorem plain_weight {R C : ℕ} (w : (⟨2, ![R, C]⟩ : Shape).Idx → BitVec 8) (f : ℕ) (hf : f < 4) (b : BitVec 32)
    (hb : b = BitVec.ofNat 32 (2 * f)) (k : Fin R) (l : Fin C) (K : ℕ) (hK : f * R + k.val = K) :
    (FloatOps.sitofp .bf16 (IntOp.subi (BitVec.setWidth 8 (IntOp.andi (IntOp.shrsi ArithUnit.vector
      (BitVec.setWidth 32 (w (ix2 k l))) b) 3#32)) 1#8) : Ideal .bf16) = ((weight w R K l.val : ℝ) : EReal) := by
  show (((IntOp.subi _ _).toInt : ℝ) : EReal) = _
  rw [hb, plain_toInt ⟨f, hf⟩, at2_of w (ix2 k l) k.val l.val rfl rfl, ← hK, weight_of w R f _ _ k.isLt, Int.cast_sub, Int.cast_natCast,
    Int.cast_one]

/-- A code, as a number. -/
theorem plain_code {R C : ℕ} (x : (⟨2, ![R, C]⟩ : Shape).Idx → BitVec 8) (r : Fin R) (k : Fin C) :
    (FloatOps.sitofp .bf16 (x (ix2 r k)) : Ideal .bf16) = ((code x r.val k.val : ℝ) : EReal) := by
  unfold code; rw [at2_of x _ r.val k.val rfl rfl]; rfl

/-- One field's partial product. -/
theorem plain_part {R C k4 N : ℕ} (x : (⟨2, ![R, C]⟩ : Shape).Idx → BitVec 8) (w : (⟨2, ![k4, N]⟩ : Shape).Idx → BitVec 8)
    (r : Fin R) (l : Fin N) (f : ℕ) (hf : f < 4) (b : BitVec 32) (hb : b = BitVec.ofNat 32 (2 * f)) (p : Fin k4 → Fin C)
    (hp : ∀ k, (p k).val = f * k4 + k.val) :
    (∑ k : Fin k4, (FloatOps.sitofp .bf16 (x (ix2 r (p k))) : Ideal .bf16) * FloatOps.sitofp .bf16 (IntOp.subi
      (BitVec.setWidth 8 (IntOp.andi (IntOp.shrsi ArithUnit.vector (BitVec.setWidth 32 (w (ix2 k l))) b) 3#32)) 1#8))
      = ((∑ k ∈ Finset.range k4, code x r.val (f * k4 + k) * weight w k4 (f * k4 + k) l.val : ℝ) : EReal) :=
  sum_mul_coe k4 (fun k => code x r.val (f * k4 + k)) (fun k => weight w k4 (f * k4 + k) l.val) _ _
    (fun k => by rw [plain_code, hp]) (fun k => plain_weight w f hf b hb k l _ rfl)

/-- The four partial products add up to the whole product. -/
theorem plain_dot {R C k4 N o1 o2 o3 n : ℕ} (x : (⟨2, ![R, C]⟩ : Shape).Idx → BitVec 8) (w : (⟨2, ![k4, N]⟩ : Shape).Idx → BitVec 8)
    (h1 : o1 = k4) (h2 : o2 = 2 * k4) (h3 : o3 = 3 * k4) (hn : n = 4 * k4) (r : Fin R) (l : Fin N)
    (q0 : ∀ k : Fin k4, k.val < C) (q1 : ∀ k : Fin k4, o1 + k.val < C) (q2 : ∀ k : Fin k4, o2 + k.val < C)
    (q3 : ∀ k : Fin k4, o3 + k.val < C) :
    (∑ k : Fin k4, (FloatOps.sitofp .bf16 (x (ix2 r ⟨k.val, q0 k⟩)) : Ideal .bf16) * FloatOps.sitofp .bf16 (IntOp.subi
      (BitVec.setWidth 8 (IntOp.andi (IntOp.shrsi ArithUnit.vector (BitVec.setWidth 32 (w (ix2 k l))) 0#32) 3#32)) 1#8))
    + (∑ k : Fin k4, (FloatOps.sitofp .bf16 (x (ix2 r ⟨o1 + k.val, q1 k⟩)) : Ideal .bf16) * FloatOps.sitofp .bf16 (IntOp.subi
      (BitVec.setWidth 8 (IntOp.andi (IntOp.shrsi ArithUnit.vector (BitVec.setWidth 32 (w (ix2 k l))) 2#32) 3#32)) 1#8))
    + (∑ k : Fin k4, (FloatOps.sitofp .bf16 (x (ix2 r ⟨o2 + k.val, q2 k⟩)) : Ideal .bf16) * FloatOps.sitofp .bf16 (IntOp.subi
      (BitVec.setWidth 8 (IntOp.andi (IntOp.shrsi ArithUnit.vector (BitVec.setWidth 32 (w (ix2 k l))) 4#32) 3#32)) 1#8))
    + (∑ k : Fin k4, (FloatOps.sitofp .bf16 (x (ix2 r ⟨o3 + k.val, q3 k⟩)) : Ideal .bf16) * FloatOps.sitofp .bf16 (IntOp.subi
      (BitVec.setWidth 8 (IntOp.andi (IntOp.shrsi ArithUnit.vector (BitVec.setWidth 32 (w (ix2 k l))) 6#32) 3#32)) 1#8))
      = ((dot (code x) (weight w k4) n r.val l.val : ℝ) : EReal) := by
  rw [plain_part x w r l 0 (by decide) 0#32 rfl (fun k => ⟨k.val, q0 k⟩) (fun k => by show k.val = _; omega),
    plain_part x w r l 1 (by decide) 2#32 rfl (fun k => ⟨o1 + k.val, q1 k⟩) (fun k => by show o1 + k.val = _; omega),
    plain_part x w r l 2 (by decide) 4#32 rfl (fun k => ⟨o2 + k.val, q2 k⟩) (fun k => by show o2 + k.val = _; omega),
    plain_part x w r l 3 (by decide) 6#32 rfl (fun k => ⟨o3 + k.val, q3 k⟩) (fun k => by show o3 + k.val = _; omega),
    ← EReal.coe_add, ← EReal.coe_add, ← EReal.coe_add, hn]
  unfold dot
  rw [show 4 * k4 = k4 + k4 + k4 + k4 by omega, Finset.sum_range_add, Finset.sum_range_add, Finset.sum_range_add]
  simp only [Nat.zero_mul, Nat.zero_add, Nat.one_mul, show 2 * k4 = k4 + k4 by omega, show 3 * k4 = k4 + k4 + k4 by omega]

end Ternary
-- ==== Proof.Ternary.QuantInArray.lean ====
/- The input quantiser's kernel: what its payloads compute of a row, and its three result arrays, taken from the
   argument arrays: codes, scales and reciprocal roots. -/
module

public import proofs.«01_k».proof.Proof.Gen.QuantInIdeal.Value
public import proofs.«01_k».proof.Proof.Ternary.Quant
public import proofs.«01_k».proof.Proof.Ternary.Plain
public import Idealize.ShloMosaic.Lib.Pipeline.ValueKit

@[expose] public section

set_option maxRecDepth 16384

noncomputable section

namespace QuantInKernel

open Cert.QuantInIdeal Cert.QuantInIdeal.Gen Cert.QuantInIdeal.Value Idealize.ShloMosaic Idealize.ShloMosaic.TcCoe Idealize.ShloMosaic.Tactic Ternary

/-- The widened block. -/
theorem wide (x0 : Vec Ideal S512x3072 .bf16) : k0_pay1 (F := Ideal) x0 = (x0 : S512x3072.Idx → EReal) := by
  unfold k0_pay1
  rw [shapeCast_self]
  rfl

/-- The reciprocal roots. -/
theorem rstd_eq (x0 : Vec Ideal S512x3072 .bf16) (r : Fin 512) (l : Fin 1) :
    k0_pay2 (F := Ideal) x0 (ix2 r l) = rstd 0x45400000#32 (row (x0 : S512x3072.Idx → EReal) r) := by
  unfold k0_pay2
  rw [wide]
  exact rstd_column (R := 512) (n := 3072) _ _ _ _ _ _ r l

/-- The normalised rows. -/
theorem normed_eq (x0 : Vec Ideal S512x3072 .bf16) (x1 : Vec Ideal S1x3072 .f32) (r : Fin 512) (k : Fin 3072) :
    k0_pay3 (F := Ideal) x0 x1 (ix2 r k) = normedRow 0x45400000#32 (x0 : S512x3072.Idx → EReal) x1 r k := by
  unfold k0_pay3
  rw [wide, shapeCast_self]
  exact normed_column (R := 512) (n := 3072) _ _ _ _ _ _ r (rstd_eq x0 r 0) k

/-- The scales. -/
theorem scale_eq (x0 : Vec Ideal S512x3072 .bf16) (x1 : Vec Ideal S1x3072 .f32) (r : Fin 512) (l : Fin 1) :
    k0_pay4 (F := Ideal) x0 x1 (ix2 r l) = scale (normedRow 0x45400000#32 (x0 : S512x3072.Idx → EReal) x1 r) := by
  unfold k0_pay4
  exact (scale_column (R := 512) (n := 3072) _ _ _ _ _ r l).trans (congrArg scale (funext fun k => normed_eq x0 x1 r k))

/-- The codes. -/
theorem level_eq (x0 : Vec Ideal S512x3072 .bf16) (x1 : Vec Ideal S1x3072 .f32) (r : Fin 512) (k : Fin 3072) :
    k0_pay5 (F := Ideal) x0 x1 (ix2 r k)
      = level (normedRow 0x45400000#32 (x0 : S512x3072.Idx → EReal) x1 r k) (scale (normedRow 0x45400000#32 (x0 : S512x3072.Idx → EReal) x1 r)) := by
  unfold k0_pay5
  exact (level_column (R := 512) (n := 3072) _ _ _ r k).trans (congrArg₂ level (normed_eq x0 x1 r k) (scale_eq x0 x1 r 0))

/-- The stored blocks: codes … -/
theorem out_codes (x0 : Vec Ideal S512x3072 .bf16) (x1 : Vec Ideal S1x3072 .f32) : out0_2 (F := Ideal) x0 x1 = codes 0x45400000#32 (x0 : S512x3072.Idx → EReal) x1 := by
  unfold out0_2
  rw [View.ld_unit_zero zero2, View.ld_unit_zero zero2]
  refine (View.canon_unit_zero zero2 _ _).trans (funext fun y => ?_)
  obtain ⟨r, k, rfl⟩ : ∃ (r : Fin 512) (k : Fin 3072), y = ix2 r k := pair y
  exact level_eq x0 x1 r k

/-- … scales … -/
theorem out_scales (x0 : Vec Ideal S512x3072 .bf16) (x1 : Vec Ideal S1x3072 .f32) : out0_3 (F := Ideal) x0 x1 = scales 0x45400000#32 (x0 : S512x3072.Idx → EReal) x1 := by
  unfold out0_3
  rw [View.ld_unit_zero zero2, View.ld_unit_zero zero2]
  refine (View.canon_unit_zero zero2 _ _).trans (funext fun y => ?_)
  obtain ⟨r, k, rfl⟩ : ∃ (r : Fin 512) (k : Fin 1), y = ix2 r k := pair y
  exact scale_eq x0 x1 r k

/-- … and reciprocal roots. -/
theorem out_rstds (x0 : Vec Ideal S512x3072 .bf16) (x1 : Vec Ideal S1x3072 .f32) : out0_4 (F := Ideal) x0 x1 = rstds 0x45400000#32 (x0 : S512x3072.Idx → EReal) := by
  unfold out0_4
  rw [View.ld_unit_zero zero2]
  refine (View.canon_unit_zero zero2 _ _).trans (funext fun y => ?_)
  obtain ⟨r, k, rfl⟩ : ∃ (r : Fin 512) (k : Fin 1), y = ix2 r k := pair y
  exact rstd_eq x0 r k

variable (m : (ℓ : Loc nD τ sig) → Buf (Elt Ideal) ℓ) (c : Dev nD)

/-- The rows: the reshaped argument. -/
abbrev X : S12288x3072.Idx → EReal := shapeCast S12288x3072 (m ((c : Thread nD τ).loc main_arg0) : S3x4096x3072.Idx → EReal) shapeCasts_S3x4096x3072_S12288x3072

/-- The gains, as one row. -/
abbrev G : S1x3072.Idx → EReal := shapeCast S1x3072 (m ((c : Thread nD τ).loc main_arg1) : S3072.Idx → EReal) shapeCasts_S3072_S1x3072

/-- What the call reads. -/
theorem X_eq : (V m c main_v0 : S12288x3072.Idx → EReal) = X m c := by
  entry_read
  rfl

theorem G_eq : (V m c main_v1 : S1x3072.Idx → EReal) = G m c := by
  entry_read
  rfl

/-- The blocks of point `t`. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

/-- The rows of a block. -/
theorem rows_block (t : Fin cfg0.N) (r : Fin 512) (i : Fin 12288) (h : i.val = 512 * t.val + r.val) :
    row (iblk m c 0 t : S512x3072.Idx → EReal) r = row (X m c) i := by
  have hi : 512 * t.val + r.val < 12288 := h ▸ i.isLt
  rw [show i = ⟨512 * t.val + r.val, hi⟩ from Fin.ext h]
  funext k
  unfold row
  rw [← X_eq]
  refine Eq.trans (b := V m c main_v0 (ix2 ⟨512 * t.val + r.val, hi⟩ k)) ?_ rfl
  blk_ext [iblk, V, idx t]

/-- The gains of a block. -/
theorem gains_block (t : Fin cfg0.N) : (iblk m c 1 t : S1x3072.Idx → EReal) = G m c := by
  funext j
  rw [← G_eq]
  blk_ext [iblk, V, idx t]

/-- The codes after the run. -/
theorem array_codes : (dats m 0 c).arrAt 2 cfg0.N = (codes 0x45400000#32 (X m c) (G m c) : S12288x3072.Idx → _) := by
  refine (dats m 0 c).arrAt_eq_of_covers 2 _ (by decide +kernel) fun t _ y => ?_
  have e0 : (((cfg0.win 2).blk t).view.emb y 0).val = 512 * t.val + (y 0).val := by blk_simp [idx t]; omega
  have e1 : (((cfg0.win 2).blk t).view.emb y 1).val = (y 1).val := by blk_simp [idx t]
  blk_simp
  rw [after0_2, out_codes]
  exact codes_block y _ (rows_block m c t _ _ e0) (gains_block m c t) e1.symm

/-- The scales after the run. -/
theorem array_scales : (dats m 0 c).arrAt 3 cfg0.N = (scales 0x45400000#32 (X m c) (G m c) : S12288x1.Idx → _) := by
  refine (dats m 0 c).arrAt_eq_of_covers 3 _ (by decide +kernel) fun t _ y => ?_
  have e0 : (((cfg0.win 3).blk t).view.emb y 0).val = 512 * t.val + (y 0).val := by blk_simp [idx t]; omega
  blk_simp
  rw [after0_3, out_scales]
  exact scales_block y _ (rows_block m c t _ _ e0) (gains_block m c t)

/-- The reciprocal roots after the run. -/
theorem array_rstds : (dats m 0 c).arrAt 4 cfg0.N = (rstds 0x45400000#32 (X m c) : S12288x1.Idx → _) := by
  refine (dats m 0 c).arrAt_eq_of_covers 4 _ (by decide +kernel) fun t _ y => ?_
  have e0 : (((cfg0.win 4).blk t).view.emb y 0).val = 512 * t.val + (y 0).val := by blk_simp [idx t]; omega
  blk_simp
  rw [after0_4, out_rstds]
  exact rstds_block y _ (rows_block m c t _ _ e0)

end QuantInKernel
-- ==== Proof.Ternary.QuantInReference.lean ====
/- The input quantiser's plain reference: what its payloads compute of a row, and its three result arrays, taken from the
   argument arrays: codes, scales and reciprocal roots. -/
module

public import proofs.«01_k».proof.Proof.Gen.QuantInRefIdeal.Value
public import proofs.«01_k».proof.Proof.Ternary.Quant
public import proofs.«01_k».proof.Proof.Ternary.Plain
public import Idealize.ShloMosaic.Lib.Pipeline.ValueKit

@[expose] public section

set_option maxRecDepth 16384

noncomputable section

namespace QuantInReference

open Cert.QuantInRefIdeal Cert.QuantInRefIdeal.Gen Cert.QuantInRefIdeal.Value Idealize.ShloMosaic Idealize.ShloMosaic.TcCoe Idealize.ShloMosaic.Tactic Ternary

/-- The widened block. -/
theorem wide (x0 : Vec Ideal S12288x3072 .bf16) : k0_pay1 (F := Ideal) x0 = (x0 : S12288x3072.Idx → EReal) := by
  unfold k0_pay1
  rw [shapeCast_self]
  rfl

/-- The reciprocal roots, as a vector … -/
theorem rstd_flat (x0 : Vec Ideal S12288x3072 .bf16) (r : Fin 12288) : k0_pay2 (F := Ideal) x0 (ix1 r) = rstd 0x45400000#32 (row (x0 : S12288x3072.Idx → EReal) r) := by
  unfold k0_pay2
  rw [wide]
  exact rstd_vector (R := 12288) (n := 3072) _ _ _ _ _ r

/-- … and as a column. -/
theorem rstd_eq (x0 : Vec Ideal S12288x3072 .bf16) (r : Fin 12288) (l : Fin 1) :
    k0_pay7 (F := Ideal) x0 (ix2 r l) = rstd 0x45400000#32 (row (x0 : S12288x3072.Idx → EReal) r) := by
  unfold k0_pay7
  exact (column_of (R := 12288) _ _ r l).trans (rstd_flat x0 r)

/-- The normalised rows. -/
theorem normed_eq (x0 : Vec Ideal S12288x3072 .bf16) (x1 : Vec Ideal S1x3072 .f32) (r : Fin 12288) (k : Fin 3072) :
    k0_pay3 (F := Ideal) x0 x1 (ix2 r k) = normedRow 0x45400000#32 (x0 : S12288x3072.Idx → EReal) x1 r k := by
  unfold k0_pay3
  rw [wide, shapeCast_self]
  exact normed_column (R := 12288) (n := 3072) _ _ _ _ _ _ r ((column_of (R := 12288) _ _ r 0).trans (rstd_flat x0 r)) k

/-- The scales, as a vector … -/
theorem scale_flat (x0 : Vec Ideal S12288x3072 .bf16) (x1 : Vec Ideal S1x3072 .f32) (r : Fin 12288) :
    k0_pay4 (F := Ideal) x0 x1 (ix1 r) = scale (normedRow 0x45400000#32 (x0 : S12288x3072.Idx → EReal) x1 r) := by
  unfold k0_pay4
  exact (scale_vector (R := 12288) (n := 3072) _ _ _ _ r).trans (congrArg scale (funext fun k => normed_eq x0 x1 r k))

/-- … and as a column. -/
theorem scale_eq (x0 : Vec Ideal S12288x3072 .bf16) (x1 : Vec Ideal S1x3072 .f32) (r : Fin 12288) (l : Fin 1) :
    k0_pay6 (F := Ideal) x0 x1 (ix2 r l) = scale (normedRow 0x45400000#32 (x0 : S12288x3072.Idx → EReal) x1 r) := by
  unfold k0_pay6
  exact (column_of (R := 12288) _ _ r l).trans (scale_flat x0 x1 r)

/-- The codes. -/
theorem level_eq (x0 : Vec Ideal S12288x3072 .bf16) (x1 : Vec Ideal S1x3072 .f32) (r : Fin 12288) (k : Fin 3072) :
    k0_pay5 (F := Ideal) x0 x1 (ix2 r k)
      = level (normedRow 0x45400000#32 (x0 : S12288x3072.Idx → EReal) x1 r k) (scale (normedRow 0x45400000#32 (x0 : S12288x3072.Idx → EReal) x1 r)) := by
  unfold k0_pay5
  exact (level_column (R := 12288) (n := 3072) _ _ _ r k).trans (congrArg₂ level (normed_eq x0 x1 r k) ((column_of (R := 12288) _ _ r 0).trans (scale_flat x0 x1 r)))

/-- The stored blocks: codes … -/
theorem out_codes (x0 : Vec Ideal S12288x3072 .bf16) (x1 : Vec Ideal S1x3072 .f32) : out0_2 (F := Ideal) x0 x1 = codes 0x45400000#32 (x0 : S12288x3072.Idx → EReal) x1 := by
  unfold out0_2
  rw [View.ld_unit_zero zero2, View.ld_unit_zero zero2]
  refine (View.canon_unit_zero zero2 _ _).trans (funext fun y => ?_)
  obtain ⟨r, k, rfl⟩ : ∃ (r : Fin 12288) (k : Fin 3072), y = ix2 r k := pair y
  exact level_eq x0 x1 r k

/-- … scales … -/
theorem out_scales (x0 : Vec Ideal S12288x3072 .bf16) (x1 : Vec Ideal S1x3072 .f32) : out0_3 (F := Ideal) x0 x1 = scales 0x45400000#32 (x0 : S12288x3072.Idx → EReal) x1 := by
  unfold out0_3
  rw [View.ld_unit_zero zero2, View.ld_unit_zero zero2]
  refine (View.canon_unit_zero zero2 _ _).trans (funext fun y => ?_)
  obtain ⟨r, k, rfl⟩ : ∃ (r : Fin 12288) (k : Fin 1), y = ix2 r k := pair y
  exact scale_eq x0 x1 r k

/-- … and reciprocal roots. -/
theorem out_rstds (x0 : Vec Ideal S12288x3072 .bf16) (x1 : Vec Ideal S1x3072 .f32) : out0_4 (F := Ideal) x0 x1 = rstds 0x45400000#32 (x0 : S12288x3072.Idx → EReal) := by
  unfold out0_4
  rw [View.ld_unit_zero zero2]
  refine (View.canon_unit_zero zero2 _ _).trans (funext fun y => ?_)
  obtain ⟨r, k, rfl⟩ : ∃ (r : Fin 12288) (k : Fin 1), y = ix2 r k := pair y
  exact rstd_eq x0 r k

variable (m : (ℓ : Loc nD τ sig) → Buf (Elt Ideal) ℓ) (c : Dev nD)

/-- The rows: the reshaped argument. -/
abbrev X : S12288x3072.Idx → EReal := shapeCast S12288x3072 (m ((c : Thread nD τ).loc main_arg0) : S3x4096x3072.Idx → EReal) shapeCasts_S3x4096x3072_S12288x3072

/-- The gains, as one row. -/
abbrev G : S1x3072.Idx → EReal := shapeCast S1x3072 (m ((c : Thread nD τ).loc main_arg1) : S3072.Idx → EReal) shapeCasts_S3072_S1x3072

/-- What the call reads. -/
theorem X_eq : (V m c main_v0 : S12288x3072.Idx → EReal) = X m c := by
  entry_read
  rfl

theorem G_eq : (V m c main_v1 : S1x3072.Idx → EReal) = G m c := by
  entry_read
  rfl

/-- The blocks of point `t`. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The rows of a block. -/
theorem rows_block (t : Fin cfg0.N) (r : Fin 12288) (i : Fin 12288) (h : i.val = r.val) :
    row (iblk m c 0 t : S12288x3072.Idx → EReal) r = row (X m c) i := by
  have hi : r.val < 12288 := h ▸ i.isLt
  rw [show i = ⟨r.val, hi⟩ from Fin.ext h]
  funext k
  unfold row
  rw [← X_eq]
  refine Eq.trans (b := V m c main_v0 (ix2 ⟨r.val, hi⟩ k)) ?_ rfl
  blk_ext [iblk, V, idx t]

/-- The gains of a block. -/
theorem gains_block (t : Fin cfg0.N) : (iblk m c 1 t : S1x3072.Idx → EReal) = G m c := by
  funext j
  rw [← G_eq]
  blk_ext [iblk, V, idx t]

/-- The codes after the run. -/
theorem array_codes : (dats m 0 c).arrAt 2 cfg0.N = (codes 0x45400000#32 (X m c) (G m c) : S12288x3072.Idx → _) := by
  refine (dats m 0 c).arrAt_eq_of_covers 2 _ (by decide +kernel) fun t _ y => ?_
  have e0 : (((cfg0.win 2).blk t).view.emb y 0).val = (y 0).val := by blk_simp [idx t]
  have e1 : (((cfg0.win 2).blk t).view.emb y 1).val = (y 1).val := by blk_simp [idx t]
  blk_simp
  rw [after0_2, out_codes]
  exact codes_block y _ (rows_block m c t _ _ e0) (gains_block m c t) e1.symm

/-- The scales after the run. -/
theorem array_scales : (dats m 0 c).arrAt 3 cfg0.N = (scales 0x45400000#32 (X m c) (G m c) : S12288x1.Idx → _) := by
  refine (dats m 0 c).arrAt_eq_of_covers 3 _ (by decide +kernel) fun t _ y => ?_
  have e0 : (((cfg0.win 3).blk t).view.emb y 0).val = (y 0).val := by blk_simp [idx t]
  blk_simp
  rw [after0_3, out_scales]
  exact scales_block y _ (rows_block m c t _ _ e0) (gains_block m c t)

/-- The reciprocal roots after the run. -/
theorem array_rstds : (dats m 0 c).arrAt 4 cfg0.N = (rstds 0x45400000#32 (X m c) : S12288x1.Idx → _) := by
  refine (dats m 0 c).arrAt_eq_of_covers 4 _ (by decide +kernel) fun t _ y => ?_
  have e0 : (((cfg0.win 4).blk t).view.emb y 0).val = (y 0).val := by blk_simp [idx t]
  blk_simp
  rw [after0_4, out_rstds]
  exact rstds_block y _ (rows_block m c t _ _ e0)

end QuantInReference
-- ==== Proof.Ternary.QuantInClaim.lean ====
/- The input quantiser: kernel and reference compute the same three arrays from the same arguments. -/
module

public import proofs.«01_k».proof.Defs
public import proofs.«01_k».proof.Proof.Gen.QuantInIdeal
public import proofs.«01_k».proof.Proof.Gen.QuantInRefIdeal
public import proofs.«01_k».proof.Proof.Ternary.QuantInArray
public import proofs.«01_k».proof.Proof.Ternary.QuantInReference

@[expose] public section

noncomputable section

open Idealize.ShloMosaic Idealize.SL.Sem Ternary

/-- The algebraic claim. -/
theorem QuantInKernel.claim : Cert.algebraic_QuantInIdeal_QuantInRefIdeal (hQuantInIdeal := Cert.QuantInIdeal.Gen.facts)
    (hQuantInRefIdeal := Cert.QuantInRefIdeal.Gen.facts) := by
  intro m g m' g' _ hm
  refine ⟨fun c => codes 0x45400000#32 (QuantInKernel.X m c) (QuantInKernel.G m c), fun c => scales 0x45400000#32 (QuantInKernel.X m c) (QuantInKernel.G m c),
    fun c => rstds 0x45400000#32 (QuantInKernel.X m c), ?_, ?_⟩
  · exact (θ_run _ _ _).mono (fun r h c => ⟨(h c).1.trans (QuantInKernel.array_codes m c), (h c).2.1.trans (QuantInKernel.array_scales m c),
      (h c).2.2.1.trans (QuantInKernel.array_rstds m c), (h c).2.2.2⟩) (Cert.QuantInIdeal.Value.run_blocks m g)
  · refine (θ_run _ _ _).mono (fun r h c => ?_) (Cert.QuantInRefIdeal.Value.run_blocks m' g')
    obtain ⟨h0, h1⟩ := hm c
    have hX : QuantInReference.X m' c = QuantInKernel.X m c := by unfold QuantInReference.X QuantInKernel.X; rw [h0]
    have hG : QuantInReference.G m' c = QuantInKernel.G m c := by unfold QuantInReference.G QuantInKernel.G; rw [h1]
    have e := (h c)
    rw [QuantInReference.array_codes, QuantInReference.array_scales, QuantInReference.array_rstds, hX, hG] at e
    exact e
-- ==== Proof.Ternary.QuantMidArray.lean ====
/- The middle quantiser's kernel: what its payloads compute of a row, and its three result arrays, taken from the
   argument arrays: codes, scales and reciprocal roots. -/
module

public import proofs.«01_k».proof.Proof.Gen.QuantMidIdeal.Value
public import proofs.«01_k».proof.Proof.Ternary.Quant
public import proofs.«01_k».proof.Proof.Ternary.Plain
public import Idealize.ShloMosaic.Lib.Pipeline.ValueKit

@[expose] public section

set_option maxRecDepth 16384

noncomputable section

namespace QuantMidKernel

open Cert.QuantMidIdeal Cert.QuantMidIdeal.Gen Cert.QuantMidIdeal.Value Idealize.ShloMosaic Idealize.ShloMosaic.TcCoe Idealize.ShloMosaic.Tactic Ternary

/-- The reciprocal roots. -/
theorem rstd_eq (x0 : Vec Ideal S512x3072 .f32) (r : Fin 512) (l : Fin 1) :
    k0_pay1 (F := Ideal) x0 (ix2 r l) = rstd 0x45400000#32 (row (x0 : S512x3072.Idx → EReal) r) := by
  unfold k0_pay1
  exact rstd_column (R := 512) (n := 3072) _ _ _ _ _ _ r l

/-- The normalised rows. -/
theorem normed_eq (x0 : Vec Ideal S512x3072 .f32) (x1 : Vec Ideal S1x3072 .f32) (r : Fin 512) (k : Fin 3072) :
    k0_pay2 (F := Ideal) x0 x1 (ix2 r k) = normedRow 0x45400000#32 (x0 : S512x3072.Idx → EReal) x1 r k := by
  unfold k0_pay2
  rw [shapeCast_self]
  exact normed_column (R := 512) (n := 3072) _ _ _ _ _ _ r (rstd_eq x0 r 0) k

/-- The scales. -/
theorem scale_eq (x0 : Vec Ideal S512x3072 .f32) (x1 : Vec Ideal S1x3072 .f32) (r : Fin 512) (l : Fin 1) :
    k0_pay3 (F := Ideal) x0 x1 (ix2 r l) = scale (normedRow 0x45400000#32 (x0 : S512x3072.Idx → EReal) x1 r) := by
  unfold k0_pay3
  exact (scale_column (R := 512) (n := 3072) _ _ _ _ _ r l).trans (congrArg scale (funext fun k => normed_eq x0 x1 r k))

/-- The codes. -/
theorem level_eq (x0 : Vec Ideal S512x3072 .f32) (x1 : Vec Ideal S1x3072 .f32) (r : Fin 512) (k : Fin 3072) :
    k0_pay4 (F := Ideal) x0 x1 (ix2 r k)
      = level (normedRow 0x45400000#32 (x0 : S512x3072.Idx → EReal) x1 r k) (scale (normedRow 0x45400000#32 (x0 : S512x3072.Idx → EReal) x1 r)) := by
  unfold k0_pay4
  exact (level_column (R := 512) (n := 3072) _ _ _ r k).trans (congrArg₂ level (normed_eq x0 x1 r k) (scale_eq x0 x1 r 0))

/-- The stored blocks: codes … -/
theorem out_codes (x0 : Vec Ideal S512x3072 .f32) (x1 : Vec Ideal S1x3072 .f32) : out0_2 (F := Ideal) x0 x1 = codes 0x45400000#32 (x0 : S512x3072.Idx → EReal) x1 := by
  unfold out0_2
  rw [View.ld_unit_zero zero2, View.ld_unit_zero zero2]
  refine (View.canon_unit_zero zero2 _ _).trans (funext fun y => ?_)
  obtain ⟨r, k, rfl⟩ : ∃ (r : Fin 512) (k : Fin 3072), y = ix2 r k := pair y
  exact level_eq x0 x1 r k

/-- … scales … -/
theorem out_scales (x0 : Vec Ideal S512x3072 .f32) (x1 : Vec Ideal S1x3072 .f32) : out0_3 (F := Ideal) x0 x1 = scales 0x45400000#32 (x0 : S512x3072.Idx → EReal) x1 := by
  unfold out0_3
  rw [View.ld_unit_zero zero2, View.ld_unit_zero zero2]
  refine (View.canon_unit_zero zero2 _ _).trans (funext fun y => ?_)
  obtain ⟨r, k, rfl⟩ : ∃ (r : Fin 512) (k : Fin 1), y = ix2 r k := pair y
  exact scale_eq x0 x1 r k

/-- … and reciprocal roots. -/
theorem out_rstds (x0 : Vec Ideal S512x3072 .f32) (x1 : Vec Ideal S1x3072 .f32) : out0_4 (F := Ideal) x0 x1 = rstds 0x45400000#32 (x0 : S512x3072.Idx → EReal) := by
  unfold out0_4
  rw [View.ld_unit_zero zero2]
  refine (View.canon_unit_zero zero2 _ _).trans (funext fun y => ?_)
  obtain ⟨r, k, rfl⟩ : ∃ (r : Fin 512) (k : Fin 1), y = ix2 r k := pair y
  exact rstd_eq x0 r k

variable (m : (ℓ : Loc nD τ sig) → Buf (Elt Ideal) ℓ) (c : Dev nD)

/-- The rows. -/
abbrev X : S12288x3072.Idx → EReal := m ((c : Thread nD τ).loc main_arg0)

/-- The gains, as one row. -/
abbrev G : S1x3072.Idx → EReal := shapeCast S1x3072 (m ((c : Thread nD τ).loc main_arg1) : S3072.Idx → EReal) shapeCasts_S3072_S1x3072

/-- What the call reads. -/
theorem G_eq : (V m c main_v0 : S1x3072.Idx → EReal) = G m c := by
  entry_read
  rfl

/-- The blocks of point `t`. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

/-- The rows of a block. -/
theorem rows_block (t : Fin cfg0.N) (r : Fin 512) (i : Fin 12288) (h : i.val = 512 * t.val + r.val) :
    row (iblk m c 0 t : S512x3072.Idx → EReal) r = row (X m c) i := by
  have hi : 512 * t.val + r.val < 12288 := h ▸ i.isLt
  rw [show i = ⟨512 * t.val + r.val, hi⟩ from Fin.ext h]
  funext k
  unfold row
  refine Eq.trans (b := V m c main_arg0 (ix2 ⟨512 * t.val + r.val, hi⟩ k)) ?_ rfl
  blk_ext [iblk, V, idx t]

/-- The gains of a block. -/
theorem gains_block (t : Fin cfg0.N) : (iblk m c 1 t : S1x3072.Idx → EReal) = G m c := by
  funext j
  rw [← G_eq]
  blk_ext [iblk, V, idx t]

/-- The codes after the run. -/
theorem array_codes : (dats m 0 c).arrAt 2 cfg0.N = (codes 0x45400000#32 (X m c) (G m c) : S12288x3072.Idx → _) := by
  refine (dats m 0 c).arrAt_eq_of_covers 2 _ (by decide +kernel) fun t _ y => ?_
  have e0 : (((cfg0.win 2).blk t).view.emb y 0).val = 512 * t.val + (y 0).val := by blk_simp [idx t]; omega
  have e1 : (((cfg0.win 2).blk t).view.emb y 1).val = (y 1).val := by blk_simp [idx t]
  blk_simp
  rw [after0_2, out_codes]
  exact codes_block y _ (rows_block m c t _ _ e0) (gains_block m c t) e1.symm

/-- The scales after the run. -/
theorem array_scales : (dats m 0 c).arrAt 3 cfg0.N = (scales 0x45400000#32 (X m c) (G m c) : S12288x1.Idx → _) := by
  refine (dats m 0 c).arrAt_eq_of_covers 3 _ (by decide +kernel) fun t _ y => ?_
  have e0 : (((cfg0.win 3).blk t).view.emb y 0).val = 512 * t.val + (y 0).val := by blk_simp [idx t]; omega
  blk_simp
  rw [after0_3, out_scales]
  exact scales_block y _ (rows_block m c t _ _ e0) (gains_block m c t)

/-- The reciprocal roots after the run. -/
theorem array_rstds : (dats m 0 c).arrAt 4 cfg0.N = (rstds 0x45400000#32 (X m c) : S12288x1.Idx → _) := by
  refine (dats m 0 c).arrAt_eq_of_covers 4 _ (by decide +kernel) fun t _ y => ?_
  have e0 : (((cfg0.win 4).blk t).view.emb y 0).val = 512 * t.val + (y 0).val := by blk_simp [idx t]; omega
  blk_simp
  rw [after0_4, out_rstds]
  exact rstds_block y _ (rows_block m c t _ _ e0)

end QuantMidKernel
-- ==== Proof.Ternary.QuantMidReference.lean ====
/- The middle quantiser's plain reference: what its payloads compute of a row, and its three result arrays, taken from the
   argument arrays: codes, scales and reciprocal roots. -/
module

public import proofs.«01_k».proof.Proof.Gen.QuantMidRefIdeal.Value
public import proofs.«01_k».proof.Proof.Ternary.Quant
public import proofs.«01_k».proof.Proof.Ternary.Plain
public import Idealize.ShloMosaic.Lib.Pipeline.ValueKit

@[expose] public section

set_option maxRecDepth 16384

noncomputable section

namespace QuantMidReference

open Cert.QuantMidRefIdeal Cert.QuantMidRefIdeal.Gen Cert.QuantMidRefIdeal.Value Idealize.ShloMosaic Idealize.ShloMosaic.TcCoe Idealize.ShloMosaic.Tactic Ternary

/-- The reciprocal roots, as a vector … -/
theorem rstd_flat (x0 : Vec Ideal S12288x3072 .f32) (r : Fin 12288) : k0_pay1 (F := Ideal) x0 (ix1 r) = rstd 0x45400000#32 (row (x0 : S12288x3072.Idx → EReal) r) := by
  unfold k0_pay1
  exact rstd_vector (R := 12288) (n := 3072) _ _ _ _ _ r

/-- … and as a column. -/
theorem rstd_eq (x0 : Vec Ideal S12288x3072 .f32) (r : Fin 12288) (l : Fin 1) :
    k0_pay6 (F := Ideal) x0 (ix2 r l) = rstd 0x45400000#32 (row (x0 : S12288x3072.Idx → EReal) r) := by
  unfold k0_pay6
  exact (column_of (R := 12288) _ _ r l).trans (rstd_flat x0 r)

/-- The normalised rows. -/
theorem normed_eq (x0 : Vec Ideal S12288x3072 .f32) (x1 : Vec Ideal S1x3072 .f32) (r : Fin 12288) (k : Fin 3072) :
    k0_pay2 (F := Ideal) x0 x1 (ix2 r k) = normedRow 0x45400000#32 (x0 : S12288x3072.Idx → EReal) x1 r k := by
  unfold k0_pay2
  rw [shapeCast_self]
  exact normed_column (R := 12288) (n := 3072) _ _ _ _ _ _ r ((column_of (R := 12288) _ _ r 0).trans (rstd_flat x0 r)) k

/-- The scales, as a vector … -/
theorem scale_flat (x0 : Vec Ideal S12288x3072 .f32) (x1 : Vec Ideal S1x3072 .f32) (r : Fin 12288) :
    k0_pay3 (F := Ideal) x0 x1 (ix1 r) = scale (normedRow 0x45400000#32 (x0 : S12288x3072.Idx → EReal) x1 r) := by
  unfold k0_pay3
  exact (scale_vector (R := 12288) (n := 3072) _ _ _ _ r).trans (congrArg scale (funext fun k => normed_eq x0 x1 r k))

/-- … and as a column. -/
theorem scale_eq (x0 : Vec Ideal S12288x3072 .f32) (x1 : Vec Ideal S1x3072 .f32) (r : Fin 12288) (l : Fin 1) :
    k0_pay5 (F := Ideal) x0 x1 (ix2 r l) = scale (normedRow 0x45400000#32 (x0 : S12288x3072.Idx → EReal) x1 r) := by
  unfold k0_pay5
  exact (column_of (R := 12288) _ _ r l).trans (scale_flat x0 x1 r)

/-- The codes. -/
theorem level_eq (x0 : Vec Ideal S12288x3072 .f32) (x1 : Vec Ideal S1x3072 .f32) (r : Fin 12288) (k : Fin 3072) :
    k0_pay4 (F := Ideal) x0 x1 (ix2 r k)
      = level (normedRow 0x45400000#32 (x0 : S12288x3072.Idx → EReal) x1 r k) (scale (normedRow 0x45400000#32 (x0 : S12288x3072.Idx → EReal) x1 r)) := by
  unfold k0_pay4
  exact (level_column (R := 12288) (n := 3072) _ _ _ r k).trans (congrArg₂ level (normed_eq x0 x1 r k) ((column_of (R := 12288) _ _ r 0).trans (scale_flat x0 x1 r)))

/-- The stored blocks: codes … -/
theorem out_codes (x0 : Vec Ideal S12288x3072 .f32) (x1 : Vec Ideal S1x3072 .f32) : out0_2 (F := Ideal) x0 x1 = codes 0x45400000#32 (x0 : S12288x3072.Idx → EReal) x1 := by
  unfold out0_2
  rw [View.ld_unit_zero zero2, View.ld_unit_zero zero2]
  refine (View.canon_unit_zero zero2 _ _).trans (funext fun y => ?_)
  obtain ⟨r, k, rfl⟩ : ∃ (r : Fin 12288) (k : Fin 3072), y = ix2 r k := pair y
  exact level_eq x0 x1 r k

/-- … scales … -/
theorem out_scales (x0 : Vec Ideal S12288x3072 .f32) (x1 : Vec Ideal S1x3072 .f32) : out0_3 (F := Ideal) x0 x1 = scales 0x45400000#32 (x0 : S12288x3072.Idx → EReal) x1 := by
  unfold out0_3
  rw [View.ld_unit_zero zero2, View.ld_unit_zero zero2]
  refine (View.canon_unit_zero zero2 _ _).trans (funext fun y => ?_)
  obtain ⟨r, k, rfl⟩ : ∃ (r : Fin 12288) (k : Fin 1), y = ix2 r k := pair y
  exact scale_eq x0 x1 r k

/-- … and reciprocal roots. -/
theorem out_rstds (x0 : Vec Ideal S12288x3072 .f32) (x1 : Vec Ideal S1x3072 .f32) : out0_4 (F := Ideal) x0 x1 = rstds 0x45400000#32 (x0 : S12288x3072.Idx → EReal) := by
  unfold out0_4
  rw [View.ld_unit_zero zero2]
  refine (View.canon_unit_zero zero2 _ _).trans (funext fun y => ?_)
  obtain ⟨r, k, rfl⟩ : ∃ (r : Fin 12288) (k : Fin 1), y = ix2 r k := pair y
  exact rstd_eq x0 r k

variable (m : (ℓ : Loc nD τ sig) → Buf (Elt Ideal) ℓ) (c : Dev nD)

/-- The rows. -/
abbrev X : S12288x3072.Idx → EReal := m ((c : Thread nD τ).loc main_arg0)

/-- The gains, as one row. -/
abbrev G : S1x3072.Idx → EReal := shapeCast S1x3072 (m ((c : Thread nD τ).loc main_arg1) : S3072.Idx → EReal) shapeCasts_S3072_S1x3072

/-- What the call reads. -/
theorem G_eq : (V m c main_v0 : S1x3072.Idx → EReal) = G m c := by
  entry_read
  rfl

/-- The blocks of point `t`. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The rows of a block. -/
theorem rows_block (t : Fin cfg0.N) (r : Fin 12288) (i : Fin 12288) (h : i.val = r.val) :
    row (iblk m c 0 t : S12288x3072.Idx → EReal) r = row (X m c) i := by
  have hi : r.val < 12288 := h ▸ i.isLt
  rw [show i = ⟨r.val, hi⟩ from Fin.ext h]
  funext k
  unfold row
  refine Eq.trans (b := V m c main_arg0 (ix2 ⟨r.val, hi⟩ k)) ?_ rfl
  blk_ext [iblk, V, idx t]

/-- The gains of a block. -/
theorem gains_block (t : Fin cfg0.N) : (iblk m c 1 t : S1x3072.Idx → EReal) = G m c := by
  funext j
  rw [← G_eq]
  blk_ext [iblk, V, idx t]

/-- The codes after the run. -/
theorem array_codes : (dats m 0 c).arrAt 2 cfg0.N = (codes 0x45400000#32 (X m c) (G m c) : S12288x3072.Idx → _) := by
  refine (dats m 0 c).arrAt_eq_of_covers 2 _ (by decide +kernel) fun t _ y => ?_
  have e0 : (((cfg0.win 2).blk t).view.emb y 0).val = (y 0).val := by blk_simp [idx t]
  have e1 : (((cfg0.win 2).blk t).view.emb y 1).val = (y 1).val := by blk_simp [idx t]
  blk_simp
  rw [after0_2, out_codes]
  exact codes_block y _ (rows_block m c t _ _ e0) (gains_block m c t) e1.symm

/-- The scales after the run. -/
theorem array_scales : (dats m 0 c).arrAt 3 cfg0.N = (scales 0x45400000#32 (X m c) (G m c) : S12288x1.Idx → _) := by
  refine (dats m 0 c).arrAt_eq_of_covers 3 _ (by decide +kernel) fun t _ y => ?_
  have e0 : (((cfg0.win 3).blk t).view.emb y 0).val = (y 0).val := by blk_simp [idx t]
  blk_simp
  rw [after0_3, out_scales]
  exact scales_block y _ (rows_block m c t _ _ e0) (gains_block m c t)

/-- The reciprocal roots after the run. -/
theorem array_rstds : (dats m 0 c).arrAt 4 cfg0.N = (rstds 0x45400000#32 (X m c) : S12288x1.Idx → _) := by
  refine (dats m 0 c).arrAt_eq_of_covers 4 _ (by decide +kernel) fun t _ y => ?_
  have e0 : (((cfg0.win 4).blk t).view.emb y 0).val = (y 0).val := by blk_simp [idx t]
  blk_simp
  rw [after0_4, out_rstds]
  exact rstds_block y _ (rows_block m c t _ _ e0)

end QuantMidReference
-- ==== Proof.Ternary.QuantMidClaim.lean ====
/- The middle quantiser: kernel and reference compute the same three arrays from the same arguments. -/
module

public import proofs.«01_k».proof.Defs
public import proofs.«01_k».proof.Proof.Gen.QuantMidIdeal
public import proofs.«01_k».proof.Proof.Gen.QuantMidRefIdeal
public import proofs.«01_k».proof.Proof.Ternary.QuantMidArray
public import proofs.«01_k».proof.Proof.Ternary.QuantMidReference

@[expose] public section

noncomputable section

open Idealize.ShloMosaic Idealize.SL.Sem Ternary

/-- The algebraic claim. -/
theorem QuantMidKernel.claim : Cert.algebraic_QuantMidIdeal_QuantMidRefIdeal (hQuantMidIdeal := Cert.QuantMidIdeal.Gen.facts)
    (hQuantMidRefIdeal := Cert.QuantMidRefIdeal.Gen.facts) := by
  intro m g m' g' _ hm
  refine ⟨fun c => codes 0x45400000#32 (QuantMidKernel.X m c) (QuantMidKernel.G m c), fun c => scales 0x45400000#32 (QuantMidKernel.X m c) (QuantMidKernel.G m c),
    fun c => rstds 0x45400000#32 (QuantMidKernel.X m c), ?_, ?_⟩
  · exact (θ_run _ _ _).mono (fun r h c => ⟨(h c).1.trans (QuantMidKernel.array_codes m c), (h c).2.1.trans (QuantMidKernel.array_scales m c),
      (h c).2.2.1.trans (QuantMidKernel.array_rstds m c), (h c).2.2.2⟩) (Cert.QuantMidIdeal.Value.run_blocks m g)
  · refine (θ_run _ _ _).mono (fun r h c => ?_) (Cert.QuantMidRefIdeal.Value.run_blocks m' g')
    obtain ⟨h0, h1⟩ := hm c
    have hX : QuantMidReference.X m' c = QuantMidKernel.X m c := by unfold QuantMidReference.X QuantMidKernel.X; rw [h0]
    have hG : QuantMidReference.G m' c = QuantMidKernel.G m c := by unfold QuantMidReference.G QuantMidKernel.G; rw [h1]
    have e := (h c)
    rw [QuantMidReference.array_codes, QuantMidReference.array_scales, QuantMidReference.array_rstds, hX, hG] at e
    exact e
-- ==== Proof.Ternary.Blocks.lean ====
/- Blocks of larger arrays: an element, a code and a weight of a block are those of the array at the block's place, and
   products and Strassen's left factors depend on the rows and columns in range only. -/
module

public import proofs.«01_k».proof.Proof.Ternary.Block
public import proofs.«01_k».proof.Proof.Ternary.Strassen

@[expose] public section

noncomputable section

namespace Ternary

open Idealize.ShloMosaic

variable {R C r n : ℕ}

/-- An element of a block whose first element is the array's at `(o, p)`. -/
theorem at2_block {α : Type} [Inhabited α] (X : (⟨2, ![R, C]⟩ : Shape).Idx → α) (x : (⟨2, ![r, n]⟩ : Shape).Idx → α) (o p : ℕ)
    (h : ∀ j, x j = at2 X (o + (j 0).val) (p + (j 1).val)) (a b : ℕ) (ha : a < r) (hb : b < n) :
    at2 x a b = at2 X (o + a) (p + b) := by
  unfold at2
  rw [dif_pos ⟨ha, hb⟩, h]
  rfl

/-- A code of a block. -/
theorem code_block (X : (⟨2, ![R, C]⟩ : Shape).Idx → BitVec 8) (x : (⟨2, ![r, n]⟩ : Shape).Idx → BitVec 8) (o p : ℕ)
    (h : ∀ j, x j = at2 X (o + (j 0).val) (p + (j 1).val)) (a b : ℕ) (ha : a < r) (hb : b < n) :
    code x a b = code X (o + a) (p + b) := by
  unfold code; rw [at2_block X x o p h a b ha hb]

/-- A weight of a block of columns. -/
theorem weight_block (X : (⟨2, ![R, C]⟩ : Shape).Idx → BitVec 8) (x : (⟨2, ![r, n]⟩ : Shape).Idx → BitVec 8) (p : ℕ)
    (h : ∀ j, x j = at2 X (j 0).val (p + (j 1).val)) (hr : 0 < r) (k b : ℕ) (hb : b < n) :
    weight x r k b = weight X r k (p + b) := by
  unfold weight
  have := at2_block X x 0 p (by simpa using h) (k % r) b (Nat.mod_lt _ hr) hb
  rw [this, Nat.zero_add]

/-- Products of equal rows and columns. -/
theorem dot_congr {A A' W W' : ℕ → ℕ → ℝ} {n r r' c c' : ℕ} (hA : ∀ k, k < n → A r k = A' r' k) (hW : ∀ k, k < n → W k c = W' k c') :
    dot A W n r c = dot A' W' n r' c' :=
  Finset.sum_congr rfl fun k hk => by rw [hA k (Finset.mem_range.1 hk), hW k (Finset.mem_range.1 hk)]

/-- Left factors of arrays that agree on the rows and the contraction in range. -/
theorem leftFactor_congr {A A' : ℕ → ℕ → ℝ} {hm hk q r k : ℕ} (h : ∀ r k, r < hm + hm → k < hk + hk → A r k = A' r k)
    (hr : r < hm) (hk' : k < hk) : leftFactor A hm hk q r k = leftFactor A' hm hk q r k := by
  unfold leftFactor
  split <;> simp only [h r k (by omega) (by omega), h (hm + r) k (by omega) (by omega), h r (hk + k) (by omega) (by omega),
    h (hm + r) (hk + k) (by omega) (by omega)]

/-- The element of a rank-0 array. -/
def scalar (x : (⟨0, ![]⟩ : Shape).Idx → EReal) : EReal := x fun a => a.elim0

theorem scalar_of (x : (⟨0, ![]⟩ : Shape).Idx → EReal) (j : (⟨0, ![]⟩ : Shape).Idx) : x j = scalar x :=
  congrArg x (funext fun a => a.elim0)

end Ternary
-- ==== Proof.Ternary.OProjLater.lean ====
/- The output projection kernel's later steps of a row block. A step unpacks the left and the right 256 columns of a block of weights into the
   seven right factors, multiplies them with the seven left factors that the row block's first step left in a scratch,
   combines the products, scales them and adds the residual. -/
module

public import proofs.«01_k».proof.Proof.Gen.OProjIdeal.Value
public import proofs.«01_k».proof.Proof.Ternary.Block
public import proofs.«01_k».proof.Proof.Ternary.Blocks
public import proofs.«01_k».proof.Proof.Ternary.Strassen

@[expose] public section

set_option maxRecDepth 16384

noncomputable section

namespace OProjKernel

open Cert.OProjIdeal Cert.OProjIdeal.Gen Idealize.ShloMosaic Idealize.ShloMosaic.TcCoe Idealize.ShloMosaic.Tactic Ternary

/-- The left 256 columns of a block of weights. -/
def left (x : S768x512.Idx → BitVec 8) : S768x256.Idx → BitVec 8 :=
  fun j => x ((Rect.unit (s := S768x512) ![0, 0] S768x256.size inb_S768x512_S768x256_0_0).idx j)

theorem left_weight (x : S768x512.Idx → BitVec 8) (k : ℕ) (j : S768x256.Idx) : weight (left x) 768 k (j 1).val = weight x 768 k (j 1).val := by
  have h := weight_block x (left x) 0 (fun j => at2_of x ((Rect.unit (s := S768x512) ![0, 0] S768x256.size inb_S768x512_S768x256_0_0).idx j) _ _
    ((Nat.zero_add _).trans (Nat.one_mul _)) (congrArg (0 + ·) (Nat.one_mul _))) (by decide) k (j 1).val (j 1).isLt
  rwa [Nat.zero_add] at h

theorem left0 (x : S768x512.Idx → BitVec 8) (j : S768x256.Idx) :
    (FloatOps.sitofp .bf16 (bitcast S768x256 8 (andi (shrui (bitcast S192x256 32 (left x) bitcasts_S768x256_w8_S192x256_w32)
        (broadcast S192x256 0#32)) (broadcast S192x256 50529027#32)) bitcasts_S192x256_w32_S768x256_w8 j) : Ideal .bf16) - 1
      = ((weight x 768 ((j 0).val) (j 1).val : ℝ) : EReal) :=
  (sitofp_weight (by rfl) (left x) _ _ _ 0 (by decide) rfl j _ _ (by omega) rfl).trans (congrArg Real.toEReal (left_weight x _ j))

theorem left1 (x : S768x512.Idx → BitVec 8) (j : S768x256.Idx) :
    (FloatOps.sitofp .bf16 (bitcast S768x256 8 (andi (shrui (bitcast S192x256 32 (left x) bitcasts_S768x256_w8_S192x256_w32)
        (broadcast S192x256 2#32)) (broadcast S192x256 50529027#32)) bitcasts_S192x256_w32_S768x256_w8 j) : Ideal .bf16) - 1
      = ((weight x 768 (768 + (j 0).val) (j 1).val : ℝ) : EReal) :=
  (sitofp_weight (by rfl) (left x) _ _ _ 1 (by decide) rfl j _ _ (by omega) rfl).trans (congrArg Real.toEReal (left_weight x _ j))

theorem left2 (x : S768x512.Idx → BitVec 8) (j : S768x256.Idx) :
    (FloatOps.sitofp .bf16 (bitcast S768x256 8 (andi (shrui (bitcast S192x256 32 (left x) bitcasts_S768x256_w8_S192x256_w32)
        (broadcast S192x256 4#32)) (broadcast S192x256 50529027#32)) bitcasts_S192x256_w32_S768x256_w8 j) : Ideal .bf16) - 1
      = ((weight x 768 (1536 + (j 0).val) (j 1).val : ℝ) : EReal) :=
  (sitofp_weight (by rfl) (left x) _ _ _ 2 (by decide) rfl j _ _ (by omega) rfl).trans (congrArg Real.toEReal (left_weight x _ j))

theorem left3 (x : S768x512.Idx → BitVec 8) (j : S768x256.Idx) :
    (FloatOps.sitofp .bf16 (bitcast S768x256 8 (andi (shrui (bitcast S192x256 32 (left x) bitcasts_S768x256_w8_S192x256_w32)
        (broadcast S192x256 6#32)) (broadcast S192x256 50529027#32)) bitcasts_S192x256_w32_S768x256_w8 j) : Ideal .bf16) - 1
      = ((weight x 768 (2304 + (j 0).val) (j 1).val : ℝ) : EReal) :=
  (sitofp_weight (by rfl) (left x) _ _ _ 3 (by decide) rfl j _ _ (by omega) rfl).trans (congrArg Real.toEReal (left_weight x _ j))

/-- The right 256 columns of a block of weights. -/
def right (x : S768x512.Idx → BitVec 8) : S768x256.Idx → BitVec 8 :=
  fun j => x ((Rect.unit (s := S768x512) ![0, 256] S768x256.size inb_S768x512_S768x256_0_256).idx j)

theorem right_weight (x : S768x512.Idx → BitVec 8) (k : ℕ) (j : S768x256.Idx) : weight (right x) 768 k (j 1).val = columns (weight x 768) 256 k (j 1).val := by
  have h := weight_block x (right x) 256 (fun j => at2_of x ((Rect.unit (s := S768x512) ![0, 256] S768x256.size inb_S768x512_S768x256_0_256).idx j) _ _
    ((Nat.zero_add _).trans (Nat.one_mul _)) (congrArg (256 + ·) (Nat.one_mul _))) (by decide) k (j 1).val (j 1).isLt
  exact h

theorem right0 (x : S768x512.Idx → BitVec 8) (j : S768x256.Idx) :
    (FloatOps.sitofp .bf16 (bitcast S768x256 8 (andi (shrui (bitcast S192x256 32 (right x) bitcasts_S768x256_w8_S192x256_w32)
        (broadcast S192x256 0#32)) (broadcast S192x256 50529027#32)) bitcasts_S192x256_w32_S768x256_w8 j) : Ideal .bf16) - 1
      = ((columns (weight x 768) 256 ((j 0).val) (j 1).val : ℝ) : EReal) :=
  (sitofp_weight (by rfl) (right x) _ _ _ 0 (by decide) rfl j _ _ (by omega) rfl).trans (congrArg Real.toEReal (right_weight x _ j))

theorem right1 (x : S768x512.Idx → BitVec 8) (j : S768x256.Idx) :
    (FloatOps.sitofp .bf16 (bitcast S768x256 8 (andi (shrui (bitcast S192x256 32 (right x) bitcasts_S768x256_w8_S192x256_w32)
        (broadcast S192x256 2#32)) (broadcast S192x256 50529027#32)) bitcasts_S192x256_w32_S768x256_w8 j) : Ideal .bf16) - 1
      = ((columns (weight x 768) 256 (768 + (j 0).val) (j 1).val : ℝ) : EReal) :=
  (sitofp_weight (by rfl) (right x) _ _ _ 1 (by decide) rfl j _ _ (by omega) rfl).trans (congrArg Real.toEReal (right_weight x _ j))

theorem right2 (x : S768x512.Idx → BitVec 8) (j : S768x256.Idx) :
    (FloatOps.sitofp .bf16 (bitcast S768x256 8 (andi (shrui (bitcast S192x256 32 (right x) bitcasts_S768x256_w8_S192x256_w32)
        (broadcast S192x256 4#32)) (broadcast S192x256 50529027#32)) bitcasts_S192x256_w32_S768x256_w8 j) : Ideal .bf16) - 1
      = ((columns (weight x 768) 256 (1536 + (j 0).val) (j 1).val : ℝ) : EReal) :=
  (sitofp_weight (by rfl) (right x) _ _ _ 2 (by decide) rfl j _ _ (by omega) rfl).trans (congrArg Real.toEReal (right_weight x _ j))

theorem right3 (x : S768x512.Idx → BitVec 8) (j : S768x256.Idx) :
    (FloatOps.sitofp .bf16 (bitcast S768x256 8 (andi (shrui (bitcast S192x256 32 (right x) bitcasts_S768x256_w8_S192x256_w32)
        (broadcast S192x256 6#32)) (broadcast S192x256 50529027#32)) bitcasts_S192x256_w32_S768x256_w8 j) : Ideal .bf16) - 1
      = ((columns (weight x 768) 256 (2304 + (j 0).val) (j 1).val : ℝ) : EReal) :=
  (sitofp_weight (by rfl) (right x) _ _ _ 3 (by decide) rfl j _ _ (by omega) rfl).trans (congrArg Real.toEReal (right_weight x _ j))

/-- The seven right factors. -/
theorem u_eq (c : Dev nD) (arg4 : Memref sig Kind.tc Space.vmem S768x512 EltTy.i8) (harg4 : arg4.IsWhole) (x2 : S768x512.Idx → BitVec 8) (y : S7x1536x256.Idx) :
    View.canon (kernelRun0_B.sl.HS1_14 (F := Ideal) c arg4 harg4 x2) y
      = ((rightFactor (weight x2 768) (columns (weight x2 768) 256) 1536 (y 0).val (y 1).val (y 2).val : ℝ) : EReal) := by
  refine canon3 (N0 := 7) (N1 := 1536) (N2 := 256) (e := .bf16) (fun q k n => ((rightFactor (weight x2 768) (columns (weight x2 768) 256) 1536 q k n : ℝ) : EReal)) _ ?_
    (View.cover_of_tiledL (s := S7x1536x256) _ S1x768x256.size (by sl_kernel_rfl)) y
  have e2 : View.readAt (Elt Ideal) arg4.view (Rect.unit (s := S768x512) ![0, 0] S768x256.size inb_S768x512_S768x256_0_0).toLoadRect (harg4.unread (Val := Elt Ideal) x2) = left x2 := by
    rw [View.readAt_eq_ld, harg4.read_unread]; rfl
  have e3 : View.readAt (Elt Ideal) arg4.view (Rect.unit (s := S768x512) ![0, 256] S768x256.size inb_S768x512_S768x256_0_256).toLoadRect (harg4.unread (Val := Elt Ideal) x2) = right x2 := by
    rw [View.readAt_eq_ld, harg4.read_unread]; rfl
  unfold kernelRun0_B.sl.HS1_14 kernelRun0_B.sl.r_12 kernelRun0_B.sl.r_11 kernelRun0_B.sl.r_10 kernelRun0_B.sl.r_9 kernelRun0_B.sl.r_8 kernelRun0_B.sl.r_7 kernelRun0_B.sl.r_6 kernelRun0_B.sl.r_5 kernelRun0_B.sl.r_4 kernelRun0_B.sl.r_3 kernelRun0_B.sl.r_2 kernelRun0_B.sl.r_1 kernelRun0_B.sl.cst_12
  rw [e2, e3]
  simp only [List.forall_mem_cons, List.not_mem_nil, false_imp_iff, implies_true, and_true]
  refine ⟨?_, ?_, ?_, ?_, ?_, ?_, ?_, ?_, ?_, ?_, ?_, ?_, ?_, ?_⟩ <;>
    refine plane (fun q k n => ((rightFactor (weight x2 768) (columns (weight x2 768) 256) 1536 q k n : ℝ) : EReal)) _ _ fun x => ?_
  all_goals
    unfold_payloads
    pointwise
    simp only [left0, left1, left2, left3, right0, right1, right2, right3, rightFactor, ← Nat.add_assoc, Nat.reduceAdd, ix2_0, ix2_1, EReal.coe_add, EReal.coe_sub, Nat.zero_add]
    rfl

/-- The seven products. -/
theorem p_eq (c : Dev nD) (arg4 : Memref sig Kind.tc Space.vmem S768x512 EltTy.i8) (harg4 : arg4.IsWhole) (x2 : S768x512.Idx → BitVec 8)
    (arg8 : Memref sig Kind.tc Space.vmem S7x512x1536 EltTy.bf16) (harg8 : arg8.IsWhole)
    (arg9 : Memref sig Kind.tc Space.vmem S7x1536x256 EltTy.bf16) (xs0 : S7x512x1536.Idx → Ideal .bf16) (A : ℕ → ℕ → ℝ)
    (hA : ∀ j : S7x512x1536.Idx, xs0 j = ((leftFactor A 512 1536 (j 0).val (j 1).val (j 2).val : ℝ) : EReal)) (y : S7x512x256.Idx) :
    View.canon (kernelRun0_B.sl.HS2_7 (F := Ideal) c arg4 harg4 arg8 harg8 arg9 x2 xs0) y
      = ((product A (weight x2 768) (columns (weight x2 768) 256) 512 1536 (y 0).val (y 1).val (y 2).val : ℝ) : EReal) := by
  refine canon3 (N0 := 7) (N1 := 512) (N2 := 256) (e := .f32)
    (fun q r n => ((product A (weight x2 768) (columns (weight x2 768) 256) 512 1536 q r n : ℝ) : EReal)) _ ?_
    (View.cover_of_tiledL (s := S7x512x256) _ S1x512x256.size (by sl_kernel_rfl)) y
  simp only [kernelRun0_B.sl.HS2_7, kernelRun0_B.sl.v174, kernelRun0_B.sl.v166, kernelRun0_B.sl.r_14, kernelRun0_B.sl.r_15, kernelRun0_B.sl.v150, kernelRun0_B.sl.v142, kernelRun0_B.sl.r_13, kernelRun0_B.sl.v134, kernelRun0_B.sl.v126, kernelRun0_B.sl.v158,
    View.readAt_eq_ld, harg8.read_unread, View.readCov_eq_canon', u_eq]
  simp only [List.forall_mem_cons, List.not_mem_nil, false_imp_iff, implies_true, and_true]
  refine ⟨?_, ?_, ?_, ?_, ?_, ?_, ?_⟩ <;>
    refine plane (fun q k n => ((product A (weight x2 768) (columns (weight x2 768) 256) 512 1536 q k n : ℝ) : EReal)) _ _ fun x => ?_
  all_goals
    unfold_payloads
    pointwise
    unfold product
    exact sum_mul_coe 1536 _ _ _ _ (fun k => hA _) (fun k => rfl)

/-- What a later step, its row block’s left factors being those of `A` leaves. -/
theorem out_B (c : Dev nD) (i : grid0.Coords) (arg2 : Memref sig .tc .vmem S1024x3072 .i8) (harg2 : arg2.IsWhole) (arg3 : Memref sig .tc .vmem S1024x1 .f32) (harg3 : arg3.IsWhole)
    (arg4 : Memref sig .tc .vmem S768x512 .i8) (harg4 : arg4.IsWhole) (arg5 : Memref sig .tc .vmem S1024x512 .bf16) (harg5 : arg5.IsWhole) (arg6 : Memref sig .tc .smem S1 .f32) (harg6 : arg6.IsWhole)
    (arg7 : Memref sig .tc .vmem S1024x512 .f32) (harg7 : arg7.IsWhole) (arg8 : Memref sig .tc .vmem S7x512x1536 .bf16) (harg8 : arg8.IsWhole) (arg9 : Memref sig .tc .vmem S7x1536x256 .bf16) (harg9 : arg9.IsWhole)
    (arg10 : Memref sig .tc .vmem S7x512x256 .f32) (harg10 : arg10.IsWhole) (hc0 : ¬cond0_0 i)
    (x0 : S1024x3072.Idx → BitVec 8) (x1 : S1024x1.Idx → EReal) (x2 : S768x512.Idx → BitVec 8) (x3 : S1024x512.Idx → EReal) (x4 : S1.Idx → EReal)
    (xs0 : S7x512x1536.Idx → Ideal .bf16) (A : ℕ → ℕ → ℝ)
    (hA : ∀ j : S7x512x1536.Idx, xs0 j = ((leftFactor A 512 1536 (j 0).val (j 1).val (j 2).val : ℝ) : EReal)) (y : S1024x512.Idx) :
    out0_B_5 (F := Ideal) c i arg2 harg2 arg3 harg3 arg4 harg4 arg5 harg5 arg6 harg6 arg7 harg7 arg8 harg8 arg9 harg9 arg10 harg10 hc0 x0 x1 x2 x3 x4 xs0 y
      = residual (at2 x3 (y 0).val (y 1).val) (dot A (weight x2 768) 3072 (y 0).val (y 1).val) (at2 x1 (y 0).val 0) (x4 (ix1 0)) := by
  have ul : ∀ r n, (((product A (weight x2 768) (columns (weight x2 768) 256) 512 1536 0 r n : ℝ) : EReal) + (product A (weight x2 768) (columns (weight x2 768) 256) 512 1536 3 r n : ℝ) - (product A (weight x2 768) (columns (weight x2 768) 256) 512 1536 4 r n : ℝ) + (product A (weight x2 768) (columns (weight x2 768) 256) 512 1536 6 r n : ℝ)) = ((dot A (weight x2 768) 3072 r n : ℝ) : EReal) := fun r n => by
    rw [← EReal.coe_add, ← EReal.coe_sub, ← EReal.coe_add, upper_left]
  have ur : ∀ r n, (((product A (weight x2 768) (columns (weight x2 768) 256) 512 1536 2 r n : ℝ) : EReal) + (product A (weight x2 768) (columns (weight x2 768) 256) 512 1536 4 r n : ℝ)) = ((dot A (weight x2 768) 3072 r (256 + n) : ℝ) : EReal) := fun r n => by
    rw [← EReal.coe_add, upper_right]; rfl
  have ll : ∀ r n, (((product A (weight x2 768) (columns (weight x2 768) 256) 512 1536 1 r n : ℝ) : EReal) + (product A (weight x2 768) (columns (weight x2 768) 256) 512 1536 3 r n : ℝ)) = ((dot A (weight x2 768) 3072 (512 + r) n : ℝ) : EReal) := fun r n => by
    rw [← EReal.coe_add, lower_left]
  have lr : ∀ r n, (((product A (weight x2 768) (columns (weight x2 768) 256) 512 1536 0 r n : ℝ) : EReal) - (product A (weight x2 768) (columns (weight x2 768) 256) 512 1536 1 r n : ℝ) + (product A (weight x2 768) (columns (weight x2 768) 256) 512 1536 2 r n : ℝ) + (product A (weight x2 768) (columns (weight x2 768) 256) 512 1536 5 r n : ℝ)) = ((dot A (weight x2 768) 3072 (512 + r) (256 + n) : ℝ) : EReal) := fun r n => by
    rw [← EReal.coe_sub, ← EReal.coe_add, ← EReal.coe_add, lower_right]; rfl
  have a1 : ∀ (x : S1024x1.Idx → EReal) (r : Fin 1024) (k : Fin 1), x (ix2 r k) = at2 x r.val k.val := fun x r k => at2_of x _ _ _ rfl rfl
  have a3 : ∀ (x : S1024x512.Idx → EReal) (r : Fin 1024) (k : Fin 512), x (ix2 r k) = at2 x r.val k.val := fun x r k => at2_of x _ _ _ rfl rfl
  unfold out0_B_5
  rw [View.read_writes_eq_canon _ _ _ (cover0_B_5 (F := Ideal) c i arg2 harg2 arg3 harg3 arg4 harg4 arg5 harg5 arg6 harg6 arg7 harg7 arg8 harg8 arg9 harg9 arg10 harg10 hc0 x0 x1 x2 x3 x4 xs0)]
  refine canon2 (N0 := 1024) (N1 := 512) (e := .f32) (fun r n => residual (at2 x3 r n) (dot A (weight x2 768) 3072 r n) (at2 x1 r 0) (x4 (ix1 0))) _ ?_ (cover0_B_5 (F := Ideal) c i arg2 harg2 arg3 harg3 arg4 harg4 arg5 harg5 arg6 harg6 arg7 harg7 arg8 harg8 arg9 harg9 arg10 harg10 hc0 x0 x1 x2 x3 x4 xs0) y
  unfold kernelRun0_B
  dsimp only
  simp only [kernelRun0_B.sl.v126, kernelRun0_B.sl.v412, kernelRun0_B.sl.v298, kernelRun0_B.sl.r_59, kernelRun0_B.sl.r_43, kernelRun0_B.sl.r_21, kernelRun0_B.sl.r_47, kernelRun0_B.sl.v188, kernelRun0_B.sl.v106, kernelRun0_B.sl.r_3, kernelRun0_B.sl.v240, kernelRun0_B.sl.v236, kernelRun0_B.sl.v296, kernelRun0_B.sl.r_34, kernelRun0_B.sl.r_63, kernelRun0_B.sl.r_30, kernelRun0_B.sl.r_2, kernelRun0_B.sl.v190, kernelRun0_B.sl.r_18, kernelRun0_B.sl.v242, kernelRun0_B.sl.v354, kernelRun0_B.sl.v472, kernelRun0_B.sl.v244, kernelRun0_B.sl.r_7, kernelRun0_B.sl.r_50, kernelRun0_B.sl.v248, kernelRun0_B.sl.r_36, kernelRun0_B.sl.r_9, kernelRun0_B.sl.v526, kernelRun0_B.sl.r_12, kernelRun0_B.sl.r_65, kernelRun0_B.sl.r_37, kernelRun0_B.sl.r_32, kernelRun0_B.sl.v174, kernelRun0_B.sl.v158, kernelRun0_B.sl.v2, kernelRun0_B.sl.r_42, kernelRun0_B.sl.r_56, kernelRun0_B.sl.r_40, kernelRun0_B.sl.r_5, kernelRun0_B.sl.r_28, kernelRun0_B.sl.v348, kernelRun0_B.sl.v414, kernelRun0_B.sl.v520, kernelRun0_B.sl.r_55, kernelRun0_B.sl.r_17, kernelRun0_B.sl.cst_12, kernelRun0_B.sl.r_15, kernelRun0_B.sl.v464, kernelRun0_B.sl.v576, kernelRun0_B.sl.v184, kernelRun0_B.sl.v192, kernelRun0_B.sl.v150, kernelRun0_B.sl.v294, kernelRun0_B.sl.r_20, kernelRun0_B.sl.r_62, kernelRun0_B.sl.v360, kernelRun0_B.sl.r_53, kernelRun0_B.sl.r_14, kernelRun0_B.sl.r, kernelRun0_B.sl.r_8, kernelRun0_B.sl.v462, kernelRun0_B.sl.r_38, kernelRun0_B.sl.r_23, kernelRun0_B.sl.v410, kernelRun0_B.sl.r_22, kernelRun0_B.sl.v416, kernelRun0_B.sl.r_4, kernelRun0_B.sl.r_51, kernelRun0_B.sl.v516, kernelRun0_B.sl.v3, kernelRun0_B.sl.v352, kernelRun0_B.sl.v246, kernelRun0_B.sl.v572, kernelRun0_B.sl.v404, kernelRun0_B.sl.v522, kernelRun0_B.sl.v300, kernelRun0_B.sl.v468, kernelRun0_B.sl.r_1, kernelRun0_B.sl.r_31, kernelRun0_B.sl.r_25, kernelRun0_B.sl.v518, kernelRun0_B.sl.r_57, kernelRun0_B.sl.r_60, kernelRun0_B.sl.v524, kernelRun0_B.sl.v460, kernelRun0_B.sl.r_61, kernelRun0_B.sl.r_13, kernelRun0_B.sl.r_46, kernelRun0_B.sl.v528, kernelRun0_B.sl.r_29, kernelRun0_B.sl.v582, kernelRun0_B.sl.v1, kernelRun0_B.sl.v470, kernelRun0_B.sl.r_41, kernelRun0_B.sl.r_11, kernelRun0_B.sl.v182, kernelRun0_B.sl.r_52, kernelRun0_B.sl.r_44, kernelRun0_B.sl.v356, kernelRun0_B.sl.v584, kernelRun0_B.sl.r_10, kernelRun0_B.sl.v578, kernelRun0_B.sl.r_16, kernelRun0_B.sl.r_64, kernelRun0_B.sl.v302, kernelRun0_B.sl.v574, kernelRun0_B.sl.r_39, kernelRun0_B.sl.v304, kernelRun0_B.sl.v186, kernelRun0_B.sl.v406, kernelRun0_B.sl.r_27, kernelRun0_B.sl.v180, kernelRun0_B.sl.v238, kernelRun0_B.sl.r_26, kernelRun0_B.sl.r_48, kernelRun0_B.sl.r_54, kernelRun0_B.sl.v580, kernelRun0_B.sl.r_49, kernelRun0_B.sl.r_45, kernelRun0_B.sl.v466, kernelRun0_B.sl.r_58, kernelRun0_B.sl.v350, kernelRun0_B.sl.r_24, kernelRun0_B.sl.r_33, kernelRun0_B.sl.v142, kernelRun0_B.sl.v166, kernelRun0_B.sl.v358, kernelRun0_B.sl.v292, kernelRun0_B.sl.r_35, kernelRun0_B.sl.v408, kernelRun0_B.sl.r_6, kernelRun0_B.sl.r_19, kernelRun0_B.sl.v134,
    View.readAt_eq_ld, harg3.read_unread, harg5.read_unread, harg6.read_unread, View.readCov_eq_canon', p_eq (A := A) (hA := hA)]
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    refine patch (fun r n => residual (at2 x3 r n) (dot A (weight x2 768) 3072 r n) (at2 x1 r 0) (x4 (ix1 0))) _ _ fun x => ?_
  all_goals
    unfold_payloads
    pointwise
    simp only [ul, ur, ll, lr, a1 x1, a3 x3, ← Nat.add_assoc, Nat.reduceAdd, Nat.zero_add]
    rfl

end OProjKernel
-- ==== Proof.Ternary.OProjFirst.lean ====
/- The output projection kernel's first step of a row block: it also makes the seven left factors from the row block's codes, keeps them
   in the scratch, and then does what a later step does. -/
module

public import proofs.«01_k».proof.Proof.Ternary.OProjLater
public import proofs.«01_k».proof.Proof.Ternary.Plain

@[expose] public section

set_option maxRecDepth 16384

noncomputable section

namespace OProjKernel

open Cert.OProjIdeal Cert.OProjIdeal.Gen Idealize.ShloMosaic Idealize.ShloMosaic.TcCoe Idealize.ShloMosaic.Tactic Ternary

/-- The seven left factors. -/
theorem t_eq (c : Dev nD) (arg2 : Memref sig Kind.tc Space.vmem S1024x3072 EltTy.i8) (harg2 : arg2.IsWhole)
    (x0 : S1024x3072.Idx → BitVec 8) (y : S7x512x1536.Idx) :
    View.canon (kernelRun0_A.sl.HS0_56 (F := Ideal) c arg2 harg2 x0) y
      = ((leftFactor (code x0) 512 1536 (y 0).val (y 1).val (y 2).val : ℝ) : EReal) := by
  refine canon3 (N0 := 7) (N1 := 512) (N2 := 1536) (e := .bf16) (fun q k n => ((leftFactor (code x0) 512 1536 q k n : ℝ) : EReal)) _ ?_
    (View.cover_of_tiledL (s := S7x512x1536) _ S1x64x1536.size (by sl_kernel_rfl)) y
  simp only [kernelRun0_A.sl.HS0_56, kernelRun0_A.sl.r_29, kernelRun0_A.sl.r_31, kernelRun0_A.sl.r_28, kernelRun0_A.sl.r_30, kernelRun0_A.sl.r_32, kernelRun0_A.sl.r_25, kernelRun0_A.sl.r_26, kernelRun0_A.sl.r_27, kernelRun0_A.sl.r_24, kernelRun0_A.sl.r_23, kernelRun0_A.sl.r_19, kernelRun0_A.sl.r_21, kernelRun0_A.sl.r_18, kernelRun0_A.sl.r_20, kernelRun0_A.sl.r_22, kernelRun0_A.sl.r_14, kernelRun0_A.sl.r_16, kernelRun0_A.sl.r_13, kernelRun0_A.sl.r_15, kernelRun0_A.sl.r_17, kernelRun0_A.sl.r_10, kernelRun0_A.sl.r_12, kernelRun0_A.sl.r_9, kernelRun0_A.sl.r_11, kernelRun0_A.sl.r_5, kernelRun0_A.sl.r_7, kernelRun0_A.sl.r_4, kernelRun0_A.sl.r_6, kernelRun0_A.sl.r_8, kernelRun0_A.sl.r_1, kernelRun0_A.sl.r_2, kernelRun0_A.sl.r_3, View.readAt_eq_ld, harg2.read_unread]
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    refine plane (fun q k n => ((leftFactor (code x0) 512 1536 q k n : ℝ) : EReal)) _ _ fun x => ?_
  all_goals
    unfold_payloads
    pointwise
    simp only [sitofp_code x0, leftFactor, ← Nat.add_assoc, Nat.reduceAdd, EReal.coe_add, EReal.coe_sub, Nat.zero_add]
    rfl

/-- The seven right factors, as of a later step. -/
theorem uA_eq (c : Dev nD) (arg4 : Memref sig Kind.tc Space.vmem S768x512 EltTy.i8) (harg4 : arg4.IsWhole) (x2 : S768x512.Idx → BitVec 8) (y : S7x1536x256.Idx) :
    View.canon (kernelRun0_A.sl.HS1_14 (F := Ideal) c arg4 harg4 x2) y
      = ((rightFactor (weight x2 768) (columns (weight x2 768) 256) 1536 (y 0).val (y 1).val (y 2).val : ℝ) : EReal) :=
  u_eq c arg4 harg4 x2 y

/-- The seven products. -/
theorem pA_eq (c : Dev nD) (arg2 : Memref sig Kind.tc Space.vmem S1024x3072 EltTy.i8) (harg2 : arg2.IsWhole) (arg4 : Memref sig Kind.tc Space.vmem S768x512 EltTy.i8) (harg4 : arg4.IsWhole)
    (arg8 : Memref sig Kind.tc Space.vmem S7x512x1536 EltTy.bf16) (arg9 : Memref sig Kind.tc Space.vmem S7x1536x256 EltTy.bf16)
    (x0 : S1024x3072.Idx → BitVec 8) (x2 : S768x512.Idx → BitVec 8) (y : S7x512x256.Idx) :
    View.canon (kernelRun0_A.sl.HS2_7 (F := Ideal) c arg2 harg2 arg4 harg4 arg8 arg9 x0 x2) y
      = ((product (code x0) (weight x2 768) (columns (weight x2 768) 256) 512 1536 (y 0).val (y 1).val (y 2).val : ℝ) : EReal) := by
  refine canon3 (N0 := 7) (N1 := 512) (N2 := 256) (e := .f32)
    (fun q r n => ((product (code x0) (weight x2 768) (columns (weight x2 768) 256) 512 1536 q r n : ℝ) : EReal)) _ ?_
    (View.cover_of_tiledL (s := S7x512x256) _ S1x512x256.size (by sl_kernel_rfl)) y
  simp only [kernelRun0_A.sl.HS2_7, kernelRun0_A.sl.v172, kernelRun0_A.sl.v174, kernelRun0_A.sl.v164, kernelRun0_A.sl.v166, kernelRun0_A.sl.r_46, kernelRun0_A.sl.r_47, kernelRun0_A.sl.v148, kernelRun0_A.sl.v150, kernelRun0_A.sl.v140, kernelRun0_A.sl.v142, kernelRun0_A.sl.r_45, kernelRun0_A.sl.v134, kernelRun0_A.sl.v124, kernelRun0_A.sl.v126, kernelRun0_A.sl.v132, kernelRun0_A.sl.v158, kernelRun0_A.sl.v156,
    View.readAt_eq_ld, View.readCov_eq_canon', uA_eq, t_eq]
  simp only [List.forall_mem_cons, List.not_mem_nil, false_imp_iff, implies_true, and_true]
  refine ⟨?_, ?_, ?_, ?_, ?_, ?_, ?_⟩ <;>
    refine plane (fun q k n => ((product (code x0) (weight x2 768) (columns (weight x2 768) 256) 512 1536 q k n : ℝ) : EReal)) _ _ fun x => ?_
  all_goals
    unfold_payloads
    pointwise
    unfold product
    exact sum_mul_coe 1536 _ _ _ _ (fun k => rfl) (fun k => rfl)

/-- What the first step of a row block leaves. -/
theorem out_A (c : Dev nD) (i : grid0.Coords) (arg2 : Memref sig .tc .vmem S1024x3072 .i8) (harg2 : arg2.IsWhole) (arg3 : Memref sig .tc .vmem S1024x1 .f32) (harg3 : arg3.IsWhole)
    (arg4 : Memref sig .tc .vmem S768x512 .i8) (harg4 : arg4.IsWhole) (arg5 : Memref sig .tc .vmem S1024x512 .bf16) (harg5 : arg5.IsWhole) (arg6 : Memref sig .tc .smem S1 .f32) (harg6 : arg6.IsWhole)
    (arg7 : Memref sig .tc .vmem S1024x512 .f32) (harg7 : arg7.IsWhole) (arg8 : Memref sig .tc .vmem S7x512x1536 .bf16) (harg8 : arg8.IsWhole) (arg9 : Memref sig .tc .vmem S7x1536x256 .bf16) (harg9 : arg9.IsWhole)
    (arg10 : Memref sig .tc .vmem S7x512x256 .f32) (harg10 : arg10.IsWhole) (hc0 : cond0_0 i)
    (x0 : S1024x3072.Idx → BitVec 8) (x1 : S1024x1.Idx → EReal) (x2 : S768x512.Idx → BitVec 8) (x3 : S1024x512.Idx → EReal) (x4 : S1.Idx → EReal) (y : S1024x512.Idx) :
    out0_A_5 (F := Ideal) c i arg2 harg2 arg3 harg3 arg4 harg4 arg5 harg5 arg6 harg6 arg7 harg7 arg8 harg8 arg9 harg9 arg10 harg10 hc0 x0 x1 x2 x3 x4 y
      = residual (at2 x3 (y 0).val (y 1).val) (dot (code x0) (weight x2 768) 3072 (y 0).val (y 1).val) (at2 x1 (y 0).val 0) (x4 (ix1 0)) := by
  have ul : ∀ r n, (((product (code x0) (weight x2 768) (columns (weight x2 768) 256) 512 1536 0 r n : ℝ) : EReal) + (product (code x0) (weight x2 768) (columns (weight x2 768) 256) 512 1536 3 r n : ℝ) - (product (code x0) (weight x2 768) (columns (weight x2 768) 256) 512 1536 4 r n : ℝ) + (product (code x0) (weight x2 768) (columns (weight x2 768) 256) 512 1536 6 r n : ℝ)) = ((dot (code x0) (weight x2 768) 3072 r n : ℝ) : EReal) := fun r n => by
    rw [← EReal.coe_add, ← EReal.coe_sub, ← EReal.coe_add, upper_left]
  have ur : ∀ r n, (((product (code x0) (weight x2 768) (columns (weight x2 768) 256) 512 1536 2 r n : ℝ) : EReal) + (product (code x0) (weight x2 768) (columns (weight x2 768) 256) 512 1536 4 r n : ℝ)) = ((dot (code x0) (weight x2 768) 3072 r (256 + n) : ℝ) : EReal) := fun r n => by
    rw [← EReal.coe_add, upper_right]; rfl
  have ll : ∀ r n, (((product (code x0) (weight x2 768) (columns (weight x2 768) 256) 512 1536 1 r n : ℝ) : EReal) + (product (code x0) (weight x2 768) (columns (weight x2 768) 256) 512 1536 3 r n : ℝ)) = ((dot (code x0) (weight x2 768) 3072 (512 + r) n : ℝ) : EReal) := fun r n => by
    rw [← EReal.coe_add, lower_left]
  have lr : ∀ r n, (((product (code x0) (weight x2 768) (columns (weight x2 768) 256) 512 1536 0 r n : ℝ) : EReal) - (product (code x0) (weight x2 768) (columns (weight x2 768) 256) 512 1536 1 r n : ℝ) + (product (code x0) (weight x2 768) (columns (weight x2 768) 256) 512 1536 2 r n : ℝ) + (product (code x0) (weight x2 768) (columns (weight x2 768) 256) 512 1536 5 r n : ℝ)) = ((dot (code x0) (weight x2 768) 3072 (512 + r) (256 + n) : ℝ) : EReal) := fun r n => by
    rw [← EReal.coe_sub, ← EReal.coe_add, ← EReal.coe_add, lower_right]; rfl
  have a1 : ∀ (x : S1024x1.Idx → EReal) (r : Fin 1024) (k : Fin 1), x (ix2 r k) = at2 x r.val k.val := fun x r k => at2_of x _ _ _ rfl rfl
  have a3 : ∀ (x : S1024x512.Idx → EReal) (r : Fin 1024) (k : Fin 512), x (ix2 r k) = at2 x r.val k.val := fun x r k => at2_of x _ _ _ rfl rfl
  unfold out0_A_5
  rw [View.read_writes_eq_canon _ _ _ (cover0_A_5 (F := Ideal) c i arg2 harg2 arg3 harg3 arg4 harg4 arg5 harg5 arg6 harg6 arg7 harg7 arg8 harg8 arg9 harg9 arg10 harg10 hc0 x0 x1 x2 x3 x4)]
  refine canon2 (N0 := 1024) (N1 := 512) (e := .f32) (fun r n => residual (at2 x3 r n) (dot (code x0) (weight x2 768) 3072 r n) (at2 x1 r 0) (x4 (ix1 0))) _ ?_ (cover0_A_5 (F := Ideal) c i arg2 harg2 arg3 harg3 arg4 harg4 arg5 harg5 arg6 harg6 arg7 harg7 arg8 harg8 arg9 harg9 arg10 harg10 hc0 x0 x1 x2 x3 x4) y
  unfold kernelRun0_A
  dsimp only
  simp only [kernelRun0_A.sl.r_46, kernelRun0_A.sl.v466, kernelRun0_A.sl.v240, kernelRun0_A.sl.r_61, kernelRun0_A.sl.r_96, kernelRun0_A.sl.v416, kernelRun0_A.sl.r_29, kernelRun0_A.sl.v408, kernelRun0_A.sl.r_60, kernelRun0_A.sl.v166, kernelRun0_A.sl.v580, kernelRun0_A.sl.v248, kernelRun0_A.sl.r_79, kernelRun0_A.sl.v292, kernelRun0_A.sl.r_20, kernelRun0_A.sl.v180, kernelRun0_A.sl.v526, kernelRun0_A.sl.v296, kernelRun0_A.sl.v184, kernelRun0_A.sl.r_32, kernelRun0_A.sl.r_85, kernelRun0_A.sl.r_10, kernelRun0_A.sl.r_39, kernelRun0_A.sl.r_86, kernelRun0_A.sl.v134, kernelRun0_A.sl.r_63, kernelRun0_A.sl.v358, kernelRun0_A.sl.r_82, kernelRun0_A.sl.v300, kernelRun0_A.sl.r_43, kernelRun0_A.sl.v294, kernelRun0_A.sl.v352, kernelRun0_A.sl.r_2, kernelRun0_A.sl.r_33, kernelRun0_A.sl.r_68, kernelRun0_A.sl.v1, kernelRun0_A.sl.r_69, kernelRun0_A.sl.r_94, kernelRun0_A.sl.r_74, kernelRun0_A.sl.r_95, kernelRun0_A.sl.v132, kernelRun0_A.sl.r_34, kernelRun0_A.sl.r_5, kernelRun0_A.sl.v412, kernelRun0_A.sl.v410, kernelRun0_A.sl.v190, kernelRun0_A.sl.v360, kernelRun0_A.sl.r_18, kernelRun0_A.sl.v572, kernelRun0_A.sl.v528, kernelRun0_A.sl.v302, kernelRun0_A.sl.v236, kernelRun0_A.sl.v126, kernelRun0_A.sl.r_24, kernelRun0_A.sl.v520, kernelRun0_A.sl.r_76, kernelRun0_A.sl.r, kernelRun0_A.sl.r_7, kernelRun0_A.sl.v470, kernelRun0_A.sl.v158, kernelRun0_A.sl.cst_12, kernelRun0_A.sl.r_23, kernelRun0_A.sl.r_73, kernelRun0_A.sl.r_3, kernelRun0_A.sl.r_89, kernelRun0_A.sl.v414, kernelRun0_A.sl.r_12, kernelRun0_A.sl.r_26, kernelRun0_A.sl.r_88, kernelRun0_A.sl.r_28, kernelRun0_A.sl.r_8, kernelRun0_A.sl.r_19, kernelRun0_A.sl.r_38, kernelRun0_A.sl.r_57, kernelRun0_A.sl.r_14, kernelRun0_A.sl.r_64, kernelRun0_A.sl.r_66, kernelRun0_A.sl.r_21, kernelRun0_A.sl.r_1, kernelRun0_A.sl.r_81, kernelRun0_A.sl.r_52, kernelRun0_A.sl.v192, kernelRun0_A.sl.r_25, kernelRun0_A.sl.r_6, kernelRun0_A.sl.v164, kernelRun0_A.sl.r_59, kernelRun0_A.sl.v464, kernelRun0_A.sl.r_53, kernelRun0_A.sl.v156, kernelRun0_A.sl.v460, kernelRun0_A.sl.v3, kernelRun0_A.sl.v584, kernelRun0_A.sl.v462, kernelRun0_A.sl.v348, kernelRun0_A.sl.v2, kernelRun0_A.sl.r_13, kernelRun0_A.sl.r_47, kernelRun0_A.sl.r_42, kernelRun0_A.sl.v406, kernelRun0_A.sl.v188, kernelRun0_A.sl.v124, kernelRun0_A.sl.r_9, kernelRun0_A.sl.v174, kernelRun0_A.sl.r_44, kernelRun0_A.sl.r_37, kernelRun0_A.sl.r_31, kernelRun0_A.sl.r_71, kernelRun0_A.sl.v582, kernelRun0_A.sl.r_78, kernelRun0_A.sl.r_92, kernelRun0_A.sl.v186, kernelRun0_A.sl.r_72, kernelRun0_A.sl.r_51, kernelRun0_A.sl.v404, kernelRun0_A.sl.v142, kernelRun0_A.sl.r_16, kernelRun0_A.sl.r_27, kernelRun0_A.sl.v182, kernelRun0_A.sl.r_35, kernelRun0_A.sl.r_55, kernelRun0_A.sl.v244, kernelRun0_A.sl.v350, kernelRun0_A.sl.r_36, kernelRun0_A.sl.v472, kernelRun0_A.sl.v574, kernelRun0_A.sl.v524, kernelRun0_A.sl.v140, kernelRun0_A.sl.v522, kernelRun0_A.sl.v148, kernelRun0_A.sl.r_17, kernelRun0_A.sl.r_77, kernelRun0_A.sl.v238, kernelRun0_A.sl.r_65, kernelRun0_A.sl.r_80, kernelRun0_A.sl.v106, kernelRun0_A.sl.v356, kernelRun0_A.sl.r_4, kernelRun0_A.sl.r_50, kernelRun0_A.sl.v150, kernelRun0_A.sl.r_40, kernelRun0_A.sl.r_30, kernelRun0_A.sl.v298, kernelRun0_A.sl.r_90, kernelRun0_A.sl.r_15, kernelRun0_A.sl.r_91, kernelRun0_A.sl.r_62, kernelRun0_A.sl.r_54, kernelRun0_A.sl.r_70, kernelRun0_A.sl.r_97, kernelRun0_A.sl.r_87, kernelRun0_A.sl.v516, kernelRun0_A.sl.r_75, kernelRun0_A.sl.r_48, kernelRun0_A.sl.r_22, kernelRun0_A.sl.v242, kernelRun0_A.sl.r_58, kernelRun0_A.sl.v576, kernelRun0_A.sl.v468, kernelRun0_A.sl.v354, kernelRun0_A.sl.v304, kernelRun0_A.sl.r_83, kernelRun0_A.sl.r_49, kernelRun0_A.sl.r_93, kernelRun0_A.sl.r_41, kernelRun0_A.sl.r_84, kernelRun0_A.sl.r_45, kernelRun0_A.sl.v246, kernelRun0_A.sl.v172, kernelRun0_A.sl.v578, kernelRun0_A.sl.r_67, kernelRun0_A.sl.v518, kernelRun0_A.sl.r_56, kernelRun0_A.sl.r_11,
    View.readAt_eq_ld, harg3.read_unread, harg5.read_unread, harg6.read_unread, View.readCov_eq_canon', pA_eq]
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    refine patch (fun r n => residual (at2 x3 r n) (dot (code x0) (weight x2 768) 3072 r n) (at2 x1 r 0) (x4 (ix1 0))) _ _ fun x => ?_
  all_goals
    unfold_payloads
    pointwise
    simp only [ul, ur, ll, lr, a1 x1, a3 x3, ← Nat.add_assoc, Nat.reduceAdd, Nat.zero_add]
    rfl

/-- What the first step of a row block leaves for the others. -/
theorem scratch_A (c : Dev nD) (i : grid0.Coords) (arg2 : Memref sig .tc .vmem S1024x3072 .i8) (harg2 : arg2.IsWhole) (arg3 : Memref sig .tc .vmem S1024x1 .f32) (harg3 : arg3.IsWhole)
    (arg4 : Memref sig .tc .vmem S768x512 .i8) (harg4 : arg4.IsWhole) (arg5 : Memref sig .tc .vmem S1024x512 .bf16) (harg5 : arg5.IsWhole) (arg6 : Memref sig .tc .smem S1 .f32) (harg6 : arg6.IsWhole)
    (arg7 : Memref sig .tc .vmem S1024x512 .f32) (harg7 : arg7.IsWhole) (arg8 : Memref sig .tc .vmem S7x512x1536 .bf16) (harg8 : arg8.IsWhole) (arg9 : Memref sig .tc .vmem S7x1536x256 .bf16) (harg9 : arg9.IsWhole)
    (arg10 : Memref sig .tc .vmem S7x512x256 .f32) (harg10 : arg10.IsWhole) (hc0 : cond0_0 i)
    (x0 : S1024x3072.Idx → BitVec 8) (x1 : S1024x1.Idx → EReal) (x2 : S768x512.Idx → BitVec 8) (x3 : S1024x512.Idx → EReal) (x4 : S1.Idx → EReal) (y : S7x512x1536.Idx) :
    sout0_A_0 (F := Ideal) c i arg2 harg2 arg3 harg3 arg4 harg4 arg5 harg5 arg6 harg6 arg7 harg7 arg8 harg8 arg9 harg9 arg10 harg10 hc0 x0 x1 x2 x3 x4 y = ((leftFactor (code x0) 512 1536 (y 0).val (y 1).val (y 2).val : ℝ) : EReal) := by
  unfold sout0_A_0
  rw [View.read_writes_eq_canon _ _ _ (scover0_A_0 (F := Ideal) c i arg2 harg2 arg3 harg3 arg4 harg4 arg5 harg5 arg6 harg6 arg7 harg7 arg8 harg8 arg9 harg9 arg10 harg10 hc0 x0 x1 x2 x3 x4)]
  unfold kernelRun0_A
  dsimp only
  exact t_eq c arg2 harg2 x0 y

end OProjKernel
-- ==== Proof.Ternary.OProjArray.lean ====
/- The output projection kernel's result array: every element is the residual plus the scaled plain product over the whole
   contraction, taken from the argument arrays. -/
module

public import proofs.«01_k».proof.Proof.Ternary.OProjFirst
public import proofs.«01_k».proof.Proof.Ternary.Blocks
public import Idealize.ShloMosaic.Lib.Pipeline.ValueKit

@[expose] public section

set_option maxRecDepth 16384

noncomputable section

namespace OProjKernel

open Cert.OProjIdeal Cert.OProjIdeal.Gen Cert.OProjIdeal.Value Idealize.ShloMosaic Idealize.ShloMosaic.TcCoe Idealize.ShloMosaic.Tactic Ternary

variable (m : (ℓ : Loc nD τ sig) → Buf (Elt Ideal) ℓ) (c : Dev nD)

/-- Which blocks point `t` reads. -/
theorem idx : ∀ t : Fin cfg0.N, win0_0.index t = ![t.val / 6, 0] ∧ win0_1.index t = ![t.val / 6, 0]
    ∧ win0_2.index t = ![0, t.val % 6] ∧ win0_3.index t = ![t.val / 6, t.val % 6] ∧ win0_4.index t = ![0]
    ∧ win0_5.index t = ![t.val / 6, t.val % 6] :=
  (by decide +kernel : ∀ t : Fin grid0.N, _)

theorem lt_points (t : Fin cfg0.N) : t.val < 72 := lt_of_lt_of_eq t.isLt N_0

/-- The arguments. -/
abbrev X : S12288x3072.Idx → BitVec 8 := m ((c : Thread nD τ).loc main_arg0)
abbrev Sc : S12288x1.Idx → EReal := m ((c : Thread nD τ).loc main_arg1)
abbrev Wt : S768x3072.Idx → BitVec 8 := m ((c : Thread nD τ).loc main_arg2)
abbrev Re : S12288x3072.Idx → EReal := m ((c : Thread nD τ).loc main_arg3)
abbrev Ws : (⟨0, ![]⟩ : Shape).Idx → EReal := m ((c : Thread nD τ).loc main_arg4)

/-- The blocks point `t` reads, in the arguments. -/
theorem block0 (t : Fin cfg0.N) (j : S1024x3072.Idx) : iblk m c 0 t j = at2 (X m c) (1024 * (t.val / 6) + (j 0).val) (0 + (j 1).val) := by
  have := lt_points t
  have h : (j 0).val < 1024 := (j 0).isLt
  refine Eq.trans ?_ (at2_of (X m c) (ix2 ⟨1024 * (t.val / 6) + (j 0).val, by omega⟩ (j 1)) _ _ rfl (Nat.zero_add _).symm)
  blk_ext [iblk, V, idx t]

theorem block1 (t : Fin cfg0.N) (j : S1024x1.Idx) : iblk m c 1 t j = at2 (Sc m c) (1024 * (t.val / 6) + (j 0).val) (0 + (j 1).val) := by
  have := lt_points t
  have h : (j 0).val < 1024 := (j 0).isLt
  refine Eq.trans ?_ (at2_of (Sc m c) (ix2 ⟨1024 * (t.val / 6) + (j 0).val, by omega⟩ (j 1)) _ _ rfl (Nat.zero_add _).symm)
  blk_ext [iblk, V, idx t]

theorem block2 (t : Fin cfg0.N) (j : S768x512.Idx) : iblk m c 2 t j = at2 (Wt m c) (j 0).val (512 * (t.val % 6) + (j 1).val) := by
  have := lt_points t
  have h : (j 1).val < 512 := (j 1).isLt
  refine Eq.trans ?_ (at2_of (Wt m c) (ix2 (j 0) ⟨512 * (t.val % 6) + (j 1).val, by omega⟩) _ _ rfl rfl)
  blk_ext [iblk, V, idx t]

theorem block3 (t : Fin cfg0.N) (j : S1024x512.Idx) : iblk m c 3 t j = at2 (Re m c) (1024 * (t.val / 6) + (j 0).val) (512 * (t.val % 6) + (j 1).val) := by
  have := lt_points t
  have h0 : (j 0).val < 1024 := (j 0).isLt
  have h1 : (j 1).val < 512 := (j 1).isLt
  refine Eq.trans ?_ (at2_of (Re m c) (ix2 ⟨1024 * (t.val / 6) + (j 0).val, by omega⟩ ⟨512 * (t.val % 6) + (j 1).val, by omega⟩) _ _ rfl rfl)
  blk_ext [iblk, V, idx t]

theorem block4 (t : Fin cfg0.N) (j : S1.Idx) : iblk m c 4 t j = scalar (Ws m c) := by
  refine Eq.trans (b := V m c main_v0 j) ?_ ?_
  · blk_ext [iblk, V, idx t]
  · entry_read
    exact scalar_of (Ws m c) _

/-- The codes of the row block of point `n`. -/
abbrev rows (n : ℕ) (r k : ℕ) : ℝ := code (X m c) (1024 * (n / 6) + r) k

theorem code_rows (t : Fin cfg0.N) (r k : ℕ) (hr : r < 1024) (hk : k < 3072) : code (iblk m c 0 t) r k = rows m c t.val r k := by
  have h := code_block (X m c) (iblk m c 0 t) _ _ (block0 m c t) r k hr hk
  rwa [Nat.zero_add] at h

/-- The carried scratch holds the left factors of the row block: after its first point … -/
theorem scratch_first (t : Fin cfg0.N) (h0 : t.val % 6 = 0) (j : S7x512x1536.Idx) :
    (outsAt0 m c t.val t.isLt).2 j = ((leftFactor (rows m c t.val) 512 1536 (j 0).val (j 1).val (j 2).val : ℝ) : EReal) := by
  rw [outsAt0_A m c t h0]
  dsimp only
  rw [scratch_A, leftFactor_congr (hm := 512) (hk := 1536) (fun r k => code_rows m c t r k) (j 1).isLt (j 2).isLt]

/-- … and a later point keeps it … -/
theorem scratch_later (t : Fin cfg0.N) (h0 : ¬t.val % 6 = 0) :
    (outsAt0 m c t.val t.isLt).2 = (outsAt0 m c (t.val - 1) (Nat.lt_of_le_of_lt (Nat.sub_le _ _) t.isLt)).2 :=
  (congrArg Prod.snd (outsAt0_B m c t h0)).trans rfl

/-- … so after every point. -/
theorem scratch : ∀ (n : ℕ) (h : n < cfg0.N) (j : S7x512x1536.Idx),
    (outsAt0 m c n h).2 j = ((leftFactor (rows m c n) 512 1536 (j 0).val (j 1).val (j 2).val : ℝ) : EReal) := by
  intro n
  induction n with
  | zero => exact fun h j => scratch_first m c ⟨0, h⟩ rfl j
  | succ n ih =>
    intro h j
    by_cases h0 : (n + 1) % 6 = 0
    · exact scratch_first m c ⟨n + 1, h⟩ h0 j
    · refine (congrFun (scratch_later m c ⟨n + 1, h⟩ h0) j).trans ((ih (Nat.lt_of_succ_lt h) j).trans ?_)
      rw [show rows m c n = rows m c (n + 1) by funext r k; unfold rows; rw [show (n + 1) / 6 = n / 6 by omega]]

/-- The result: the residual plus the scaled whole product. -/
def final : S12288x3072.Idx → EReal := fun i =>
  residual (at2 (Re m c) (i 0).val (i 1).val) (dot (code (X m c)) (weight (Wt m c) 768) 3072 (i 0).val (i 1).val)
      (at2 (Sc m c) (i 0).val 0) (scalar (Ws m c))

/-- A step's value, in the arguments. -/
theorem step_final (t : Fin cfg0.N) (A : ℕ → ℕ → ℝ) (hA : ∀ r k, r < 1024 → k < 3072 → A r k = rows m c t.val r k) (y : S1024x512.Idx)
    (i : S12288x3072.Idx) (h0 : (i 0).val = 1024 * (t.val / 6) + (y 0).val) (h1 : (i 1).val = 512 * (t.val % 6) + (y 1).val) :
    residual (at2 (R := 1024) (C := 512) (α := EReal) (iblk m c 3 t) (y 0).val (y 1).val) (dot A (weight (iblk m c 2 t) 768) 3072 (y 0).val (y 1).val)
      (at2 (R := 1024) (C := 1) (α := EReal) (iblk m c 1 t) (y 0).val 0) (iblk m c 4 t (ix1 0)) = final m c i := by
  have hy0 : (y 0).val < 1024 := (y 0).isLt
  have hy1 : (y 1).val < 512 := (y 1).isLt
  have hd : dot A (weight (iblk m c 2 t) 768) 3072 (y 0).val (y 1).val
      = dot (code (X m c)) (weight (Wt m c) 768) 3072 (i 0).val (i 1).val :=
    dot_congr (fun k hk => by rw [hA _ _ hy0 hk, h0])
      (fun k _ => by rw [weight_block (Wt m c) (iblk m c 2 t) _ (block2 m c t) (by decide) k _ hy1, h1])
  have hr : at2 (R := 1024) (C := 512) (α := EReal) (iblk m c 3 t) (y 0).val (y 1).val = at2 (Re m c) (i 0).val (i 1).val := by
    rw [at2_block (Re m c) (iblk m c 3 t) _ _ (block3 m c t) _ _ hy0 hy1, h0, h1]
  have hs : at2 (R := 1024) (C := 1) (α := EReal) (iblk m c 1 t) (y 0).val 0 = at2 (Sc m c) (i 0).val 0 := by
    rw [at2_block (Sc m c) (iblk m c 1 t) _ _ (block1 m c t) _ 0 hy0 (by decide), h0]
  rw [hd, hr, hs, block4]
  rfl

/-- The array after the run. -/
theorem array : (dats m 0 c).arrAt 5 cfg0.N = final m c := by
  refine (dats m 0 c).arrAt_eq_of_covers 5 _ (by decide +kernel) fun t _ y => ?_
  have e0 : (((cfg0.win 5).blk t).view.emb y 0).val = 1024 * (t.val / 6) + (y 0).val := by blk_simp [idx t]; omega
  have e1 : (((cfg0.win 5).blk t).view.emb y 1).val = 512 * (t.val % 6) + (y 1).val := by blk_simp [idx t]; omega
  blk_simp
  rw [after0_5]
  by_cases h0 : t.val % 6 = 0
  · rw [outsAt0_A m c t h0]
    dsimp only
    rw [out_A]
    exact step_final m c t _ (code_rows m c t) y _ e0 e1
  · rw [outsAt0_B m c t h0]
    dsimp only
    rw [out_B (A := rows m c t.val) (hA := fun j => ?_)]
    · exact step_final m c t _ (fun _ _ _ _ => rfl) y _ e0 e1
    rw [scratch, show rows m c (t.val - 1) = rows m c t.val by funext r k; unfold rows; rw [show (t.val - 1) / 6 = t.val / 6 by omega]]

end OProjKernel
-- ==== Proof.Ternary.OProjReference.lean ====
/- The plain output projection reference's result array: the residual plus a scaled product, the product being the sum of four partial
   products of the codes with one field of the weight bytes. -/
module

public import proofs.«01_k».proof.Proof.Gen.OProjRefIdeal.Value
public import proofs.«01_k».proof.Proof.Ternary.Plain
public import Idealize.ShloMosaic.Lib.Pipeline.ValueKit
public import proofs.«01_k».proof.Proof.Ternary.Blocks

@[expose] public section

set_option maxRecDepth 16384

noncomputable section

namespace OProjReference

open Cert.OProjRefIdeal Cert.OProjRefIdeal.Gen Cert.OProjRefIdeal.Value Idealize.ShloMosaic Idealize.ShloMosaic.TcCoe Idealize.ShloMosaic.Tactic Ternary

/-- The stored array. -/
theorem out_eq (c : Dev nD) (arg0 : Memref sig .tc .vmem S12288x3072 .i8) (harg0 : arg0.IsWhole) (arg1 : Memref sig .tc .vmem S12288x1 .f32) (harg1 : arg1.IsWhole)
    (arg2 : Memref sig .tc .vmem S768x3072 .i8) (harg2 : arg2.IsWhole) (arg3 : Memref sig .tc .vmem S12288x3072 .bf16) (harg3 : arg3.IsWhole)
    (arg4 : Memref sig .tc .smem S1 .f32) (harg4 : arg4.IsWhole) (arg5 : Memref sig .tc .vmem S12288x3072 .f32) (harg5 : arg5.IsWhole)
    (x0 : S12288x3072.Idx → BitVec 8) (x1 : S12288x1.Idx → EReal) (x2 : S768x3072.Idx → BitVec 8) (x3 : S12288x3072.Idx → EReal) (x4 : S1.Idx → EReal) (y : S12288x3072.Idx) :
    out0_A_5 (F := Ideal) c arg0 harg0 arg1 harg1 arg2 harg2 arg3 harg3 arg4 harg4 arg5 harg5 x0 x1 x2 x3 x4 y
      = residual (at2 x3 (y 0).val (y 1).val) (dot (code x0) (weight x2 768) 3072 (y 0).val (y 1).val) (at2 x1 (y 0).val 0) (x4 (ix1 0)) := by
  obtain ⟨r, l, rfl⟩ : ∃ (r : Fin 12288) (l : Fin 3072), y = ix2 r l := pair y
  unfold out0_A_5
  rw [View.read_writes_eq_canon _ _ _ (cover0_A_5 (F := Ideal) c arg0 harg0 arg1 harg1 arg2 harg2 arg3 harg3 arg4 harg4 arg5 harg5 x0 x1 x2 x3 x4)]
  unfold kernelRun0_A
  dsimp only
  refine (congrFun (View.canon_unit_zero (S := S12288x3072) zero2 _ _) _).trans ?_
  unfold kernelRun0_A.sl.r kernelRun0_A.sl.r_1 kernelRun0_A.sl.r_2 kernelRun0_A.sl.r_3
  simp only [View.readAt_eq_ld, harg0.read_unread, harg1.read_unread, harg2.read_unread, harg3.read_unread, harg4.read_unread]
  unfold_payloads
  pointwise
  have hl : l.val < 3072 := l.isLt
  have g := plain_dot (k4 := 768) x0 x2 rfl rfl rfl (rfl : 3072 = 4 * 768) r ⟨l.val, by omega⟩ (by omega) (by omega) (by omega) (by omega)
  refine Eq.trans ?_ (congrArg (fun g : EReal => at2 x3 r.val l.val + g * at2 x1 r.val 0 * x4 (ix1 0)) g)
  rw [← at2_of x1 (ix2 r 0) r.val 0 rfl rfl, ← at2_of x3 (ix2 r l) r.val l.val rfl rfl]

/-- The blocks are the whole arrays. -/
theorem idx : ∀ t : Fin cfg0.N, win0_0.index t = ![0, 0] ∧ win0_1.index t = ![0, 0] ∧ win0_2.index t = ![0, 0]
    ∧ win0_3.index t = ![0, 0] ∧ win0_4.index t = ![0] ∧ win0_5.index t = ![0, 0] :=
  (by decide +kernel : ∀ t : Fin grid0.N, _)

/-- The array after the run. -/
theorem array (m : (ℓ : Loc nD τ sig) → Buf (Elt Ideal) ℓ) (c : Dev nD) (X : S12288x3072.Idx → BitVec 8) (Sc : S12288x1.Idx → EReal)
    (Wt : S768x3072.Idx → BitVec 8) (Re : S12288x3072.Idx → EReal) (Ws : (⟨0, ![]⟩ : Shape).Idx → EReal)
    (h0 : m ((c : Thread nD τ).loc main_arg0) = X) (h1 : m ((c : Thread nD τ).loc main_arg1) = Sc)
    (h2 : m ((c : Thread nD τ).loc main_arg2) = Wt) (h3 : m ((c : Thread nD τ).loc main_arg3) = Re)
    (h4 : m ((c : Thread nD τ).loc main_arg4) = Ws) :
    (dats m 0 c).arrAt 5 cfg0.N = fun i : S12288x3072.Idx =>
      residual (at2 Re (i 0).val (i 1).val) (dot (code X) (weight Wt 768) 3072 (i 0).val (i 1).val)
      (at2 Sc (i 0).val 0) (scalar Ws) := by
  subst h0 h1 h2 h3 h4
  refine (dats m 0 c).arrAt_eq_of_covers 5 _ (by decide +kernel) fun t _ y => ?_
  have b0 : iblk m c 0 t = m ((c : Thread nD τ).loc main_arg0) := by funext j; blk_ext [iblk, V, idx t]
  have b1 : iblk m c 1 t = m ((c : Thread nD τ).loc main_arg1) := by funext j; blk_ext [iblk, V, idx t]
  have b2 : iblk m c 2 t = m ((c : Thread nD τ).loc main_arg2) := by funext j; blk_ext [iblk, V, idx t]
  have b3 : iblk m c 3 t = m ((c : Thread nD τ).loc main_arg3) := by funext j; blk_ext [iblk, V, idx t]
  have b4 : iblk m c 4 t (ix1 0) = scalar (m ((c : Thread nD τ).loc main_arg4)) := by
    refine Eq.trans (b := V m c main_v0 (ix1 0)) ?_ ?_
    · blk_ext [iblk, V, idx t]
    · entry_read
      exact scalar_of (m ((c : Thread nD τ).loc main_arg4)) _
  have e : ((cfg0.win 5).blk t).view.emb y = y := by blk_ext [idx t]
  rw [e]
  blk_simp
  rw [after0_5]
  unfold outsAt0
  rw [out_eq, b0, b1, b2, b3, b4]

end OProjReference
-- ==== Proof.Ternary.OProjClaim.lean ====
/- Output projection: kernel and reference compute the same array from the same arguments. -/
module

public import proofs.«01_k».proof.Defs
public import proofs.«01_k».proof.Proof.Gen.OProjIdeal
public import proofs.«01_k».proof.Proof.Gen.OProjRefIdeal
public import proofs.«01_k».proof.Proof.Ternary.OProjArray
public import proofs.«01_k».proof.Proof.Ternary.OProjReference

@[expose] public section

noncomputable section

open Idealize.ShloMosaic Idealize.SL.Sem

/-- The algebraic claim. -/
theorem OProjKernel.claim : Cert.algebraic_OProjIdeal_OProjRefIdeal (hOProjIdeal := Cert.OProjIdeal.Gen.facts)
    (hOProjRefIdeal := Cert.OProjRefIdeal.Gen.facts) := by
  intro m g m' g' _ hm
  refine ⟨fun c => OProjKernel.final m c, ?_, ?_⟩
  · exact (θ_run _ _ _).mono (fun r h c => ⟨(h c).1.trans (OProjKernel.array m c), (h c).2⟩) (Cert.OProjIdeal.Value.run_blocks m g)
  · refine (θ_run _ _ _).mono (fun r h c => ⟨(h c).1.trans ?_, (h c).2⟩) (Cert.OProjRefIdeal.Value.run_blocks m' g')
    obtain ⟨h0, h1, h2, h3, h4⟩ := hm c
    exact OProjReference.array m' c _ _ _ _ _ h0 h1 h2 h3 h4
-- ==== Proof.Ternary.GateUpLater.lean ====
/- The gate-up kernel's later steps of a row block. A step unpacks two blocks of 256 weight columns (a gate block and an
   up block) into the seven right factors, multiplies them with the seven left factors that the row block's first step
   left in a scratch, combines the products and stores the gated activation. -/
module

public import proofs.«01_k».proof.Proof.Gen.GateUpIdeal.Value
public import proofs.«01_k».proof.Proof.Ternary.Block
public import proofs.«01_k».proof.Proof.Ternary.Strassen

@[expose] public section

set_option maxRecDepth 16384

noncomputable section

namespace GateUpKernel

open Cert.GateUpIdeal Cert.GateUpIdeal.Gen Idealize.ShloMosaic Idealize.ShloMosaic.TcCoe Idealize.ShloMosaic.Tactic Ternary

section
variable (c : Dev nD) (arg4 : Memref sig Kind.tc Space.vmem S768x256 EltTy.i8) (harg4 : arg4.IsWhole)
  (arg5 : Memref sig Kind.tc Space.vmem S768x256 EltTy.i8) (harg5 : arg5.IsWhole) (x2 x3 : S768x256.Idx → BitVec 8)

theorem field0 (x : S768x256.Idx → BitVec 8) (j : S768x256.Idx) :
    (FloatOps.sitofp .bf16 (bitcast S768x256 8 (andi (shrui (bitcast S192x256 32 x bitcasts_S768x256_w8_S192x256_w32)
        (broadcast S192x256 0#32)) (broadcast S192x256 50529027#32)) bitcasts_S192x256_w32_S768x256_w8 j) : Ideal .bf16) - 1
      = ((weight x 768 ((j 0).val) (j 1).val : ℝ) : EReal) :=
  sitofp_weight (by rfl) x _ _ _ 0 (by decide) rfl j _ _ (by omega) rfl

theorem field1 (x : S768x256.Idx → BitVec 8) (j : S768x256.Idx) :
    (FloatOps.sitofp .bf16 (bitcast S768x256 8 (andi (shrui (bitcast S192x256 32 x bitcasts_S768x256_w8_S192x256_w32)
        (broadcast S192x256 2#32)) (broadcast S192x256 50529027#32)) bitcasts_S192x256_w32_S768x256_w8 j) : Ideal .bf16) - 1
      = ((weight x 768 (768 + (j 0).val) (j 1).val : ℝ) : EReal) :=
  sitofp_weight (by rfl) x _ _ _ 1 (by decide) rfl j _ _ (by omega) rfl

theorem field2 (x : S768x256.Idx → BitVec 8) (j : S768x256.Idx) :
    (FloatOps.sitofp .bf16 (bitcast S768x256 8 (andi (shrui (bitcast S192x256 32 x bitcasts_S768x256_w8_S192x256_w32)
        (broadcast S192x256 4#32)) (broadcast S192x256 50529027#32)) bitcasts_S192x256_w32_S768x256_w8 j) : Ideal .bf16) - 1
      = ((weight x 768 (1536 + (j 0).val) (j 1).val : ℝ) : EReal) :=
  sitofp_weight (by rfl) x _ _ _ 2 (by decide) rfl j _ _ (by omega) rfl

theorem field3 (x : S768x256.Idx → BitVec 8) (j : S768x256.Idx) :
    (FloatOps.sitofp .bf16 (bitcast S768x256 8 (andi (shrui (bitcast S192x256 32 x bitcasts_S768x256_w8_S192x256_w32)
        (broadcast S192x256 6#32)) (broadcast S192x256 50529027#32)) bitcasts_S192x256_w32_S768x256_w8 j) : Ideal .bf16) - 1
      = ((weight x 768 (2304 + (j 0).val) (j 1).val : ℝ) : EReal) :=
  sitofp_weight (by rfl) x _ _ _ 3 (by decide) rfl j _ _ (by omega) rfl

theorem u_eq (y : S7x1536x256.Idx) :
    View.canon (kernelRun0_B.sl.HS1_14 (F := Ideal) c arg4 harg4 arg5 harg5 x2 x3) y
      = ((rightFactor (weight x2 768) (weight x3 768) 1536 (y 0).val (y 1).val (y 2).val : ℝ) : EReal) := by
  refine canon3 (N0 := 7) (N1 := 1536) (N2 := 256) (e := .bf16) (fun q k n => ((rightFactor (weight x2 768) (weight x3 768) 1536 q k n : ℝ) : EReal)) _ ?_
    (View.cover_of_tiledL (s := S7x1536x256) _ S1x768x256.size (by sl_kernel_rfl)) y
  have e2 := View.readAt_eq_ld (Val := Elt Ideal) arg4.view (harg4.unread (Val := Elt Ideal) x2) (Rect.unit ![0, 0] S768x256.size inb_S768x256_S768x256_0_0)
  rw [harg4.read_unread, View.ld_unit_zero zero2] at e2
  have e3 := View.readAt_eq_ld (Val := Elt Ideal) arg5.view (harg5.unread (Val := Elt Ideal) x3) (Rect.unit ![0, 0] S768x256.size inb_S768x256_S768x256_0_0)
  rw [harg5.read_unread, View.ld_unit_zero zero2] at e3
  unfold kernelRun0_B.sl.HS1_14 kernelRun0_B.sl.r_12 kernelRun0_B.sl.r_11 kernelRun0_B.sl.r_10 kernelRun0_B.sl.r_9
    kernelRun0_B.sl.r_8 kernelRun0_B.sl.r_7 kernelRun0_B.sl.r_6 kernelRun0_B.sl.r_5 kernelRun0_B.sl.r_4
    kernelRun0_B.sl.r_3 kernelRun0_B.sl.r_2
  rw [e2, e3]
  simp only [List.forall_mem_cons, List.not_mem_nil, false_imp_iff, implies_true, and_true]
  refine ⟨?_, ?_, ?_, ?_, ?_, ?_, ?_, ?_, ?_, ?_, ?_, ?_, ?_, ?_⟩ <;>
    refine plane (fun q k n => ((rightFactor (weight x2 768) (weight x3 768) 1536 q k n : ℝ) : EReal)) _ _ fun x => ?_
  all_goals
    unfold_payloads
    pointwise
    simp only [field0, field1, field2, field3, rightFactor, ← Nat.add_assoc, Nat.reduceAdd, ix2_0, ix2_1, EReal.coe_add, EReal.coe_sub, Nat.zero_add]
    rfl

theorem p_eq (arg8 : Memref sig Kind.tc Space.vmem S7x512x1536 EltTy.bf16) (harg8 : arg8.IsWhole)
    (arg9 : Memref sig Kind.tc Space.vmem S7x1536x256 EltTy.bf16) (xs0 : S7x512x1536.Idx → Ideal .bf16) (A : ℕ → ℕ → ℝ)
    (hA : ∀ j : S7x512x1536.Idx, xs0 j = ((leftFactor A 512 1536 (j 0).val (j 1).val (j 2).val : ℝ) : EReal)) (y : S7x512x256.Idx) :
    View.canon (kernelRun0_B.sl.HS2_7 (F := Ideal) c arg4 harg4 arg5 harg5 arg8 harg8 arg9 x2 x3 xs0) y
      = ((product A (weight x2 768) (weight x3 768) 512 1536 (y 0).val (y 1).val (y 2).val : ℝ) : EReal) := by
  refine canon3 (N0 := 7) (N1 := 512) (N2 := 256) (e := .f32)
    (fun q r n => ((product A (weight x2 768) (weight x3 768) 512 1536 q r n : ℝ) : EReal)) _ ?_
    (View.cover_of_tiledL (s := S7x512x256) _ S1x512x256.size (by sl_kernel_rfl)) y
  simp only [kernelRun0_B.sl.HS2_7, kernelRun0_B.sl.r_13, kernelRun0_B.sl.r_14, kernelRun0_B.sl.v127, kernelRun0_B.sl.v135,
    kernelRun0_B.sl.v143, kernelRun0_B.sl.v151, kernelRun0_B.sl.v159, kernelRun0_B.sl.v167, kernelRun0_B.sl.v175,
    View.readAt_eq_ld, harg8.read_unread, View.readCov_eq_canon', u_eq]
  simp only [List.forall_mem_cons, List.not_mem_nil, false_imp_iff, implies_true, and_true]
  refine ⟨?_, ?_, ?_, ?_, ?_, ?_, ?_⟩ <;>
    refine plane (fun q k n => ((product A (weight x2 768) (weight x3 768) 512 1536 q k n : ℝ) : EReal)) _ _ fun x => ?_
  all_goals
    unfold_payloads
    pointwise
    unfold product
    exact sum_mul_coe 1536 _ _ _ _ (fun k => hA _) (fun k => rfl)

/-- What a step leaves, its row block's left factors being `A`'s. -/
theorem out_B (c : Dev nD) (i : grid0.Coords) (arg2 : Memref sig .tc .vmem S1024x3072 .i8) (harg2 : arg2.IsWhole) (arg3 : Memref sig .tc .vmem S1024x1 .f32) (harg3 : arg3.IsWhole) (arg4 : Memref sig .tc .vmem S768x256 .i8) (harg4 : arg4.IsWhole) (arg5 : Memref sig .tc .vmem S768x256 .i8) (harg5 : arg5.IsWhole) (arg6 : Memref sig .tc .smem S2 .f32) (harg6 : arg6.IsWhole) (arg7 : Memref sig .tc .vmem S1024x256 .f32) (harg7 : arg7.IsWhole) (arg8 : Memref sig .tc .vmem S7x512x1536 .bf16) (harg8 : arg8.IsWhole) (arg9 : Memref sig .tc .vmem S7x1536x256 .bf16) (harg9 : arg9.IsWhole) (arg10 : Memref sig .tc .vmem S7x512x256 .f32) (harg10 : arg10.IsWhole) (hc0 : ¬cond0_0 i)
    (x0 : S1024x3072.Idx → BitVec 8) (x1 : S1024x1.Idx → EReal) (x2 : S768x256.Idx → BitVec 8) (x3 : S768x256.Idx → BitVec 8) (x4 : S2.Idx → EReal)
    (xs0 : S7x512x1536.Idx → Ideal .bf16) (A : ℕ → ℕ → ℝ)
    (hA : ∀ j : S7x512x1536.Idx, xs0 j = ((leftFactor A 512 1536 (j 0).val (j 1).val (j 2).val : ℝ) : EReal)) (y : S1024x256.Idx) :
    out0_B_5 (F := Ideal) c i arg2 harg2 arg3 harg3 arg4 harg4 arg5 harg5 arg6 harg6 arg7 harg7 arg8 harg8 arg9 harg9 arg10 harg10 hc0 x0 x1 x2 x3 x4 xs0 y
      = gated (dot A (weight x2 768) 3072 (y 0).val (y 1).val) (dot A (weight x3 768) 3072 (y 0).val (y 1).val)
          (at2 x1 (y 0).val 0) (x4 (ix1 0)) (x4 (ix1 1)) := by
  have ul : ∀ r n, (((product A (weight x2 768) (weight x3 768) 512 1536 0 r n : ℝ) : EReal) + (product A (weight x2 768) (weight x3 768) 512 1536 3 r n : ℝ)
      - (product A (weight x2 768) (weight x3 768) 512 1536 4 r n : ℝ) + (product A (weight x2 768) (weight x3 768) 512 1536 6 r n : ℝ))
      = ((dot A (weight x2 768) 3072 r n : ℝ) : EReal) := fun r n => by
    rw [← EReal.coe_add, ← EReal.coe_sub, ← EReal.coe_add, upper_left]
  have ur : ∀ r n, (((product A (weight x2 768) (weight x3 768) 512 1536 2 r n : ℝ) : EReal) + (product A (weight x2 768) (weight x3 768) 512 1536 4 r n : ℝ))
      = ((dot A (weight x3 768) 3072 r n : ℝ) : EReal) := fun r n => by
    rw [← EReal.coe_add, upper_right]
  have ll : ∀ r n, (((product A (weight x2 768) (weight x3 768) 512 1536 1 r n : ℝ) : EReal) + (product A (weight x2 768) (weight x3 768) 512 1536 3 r n : ℝ))
      = ((dot A (weight x2 768) 3072 (512 + r) n : ℝ) : EReal) := fun r n => by
    rw [← EReal.coe_add, lower_left]
  have lr : ∀ r n, (((product A (weight x2 768) (weight x3 768) 512 1536 0 r n : ℝ) : EReal) - (product A (weight x2 768) (weight x3 768) 512 1536 1 r n : ℝ)
      + (product A (weight x2 768) (weight x3 768) 512 1536 2 r n : ℝ) + (product A (weight x2 768) (weight x3 768) 512 1536 5 r n : ℝ))
      = ((dot A (weight x3 768) 3072 (512 + r) n : ℝ) : EReal) := fun r n => by
    rw [← EReal.coe_sub, ← EReal.coe_add, ← EReal.coe_add, lower_right]
  have a1 : ∀ (x : S1024x1.Idx → EReal) (r : Fin 1024) (k : Fin 1), x (ix2 r k) = at2 x r.val k.val := fun x r k => at2_of x _ _ _ rfl rfl
  unfold out0_B_5
  rw [View.read_writes_eq_canon _ _ _ (cover0_B_5 (F := Ideal) c i arg2 harg2 arg3 harg3 arg4 harg4 arg5 harg5 arg6 harg6 arg7 harg7 arg8 harg8 arg9 harg9 arg10 harg10 hc0 x0 x1 x2 x3 x4 xs0)]
  refine canon2 (N0 := 1024) (N1 := 256) (e := .f32) (fun r n => gated (dot A (weight x2 768) 3072 r n) (dot A (weight x3 768) 3072 r n)
          (at2 x1 r 0) (x4 (ix1 0)) (x4 (ix1 1))) _ ?_ (cover0_B_5 (F := Ideal) c i arg2 harg2 arg3 harg3 arg4 harg4 arg5 harg5 arg6 harg6 arg7 harg7 arg8 harg8 arg9 harg9 arg10 harg10 hc0 x0 x1 x2 x3 x4 xs0) y
  unfold kernelRun0_B
  dsimp only
  simp only [kernelRun0_B.sl.r_23, kernelRun0_B.sl.v535, kernelRun0_B.sl.r_48, kernelRun0_B.sl.r_37, kernelRun0_B.sl.v291, kernelRun0_B.sl.r_3, kernelRun0_B.sl.v333, kernelRun0_B.sl.v285, kernelRun0_B.sl.v237, kernelRun0_B.sl.r_38, kernelRun0_B.sl.r_45, kernelRun0_B.sl.r_9, kernelRun0_B.sl.r_26, kernelRun0_B.sl.v135, kernelRun0_B.sl.v287, kernelRun0_B.sl.v193, kernelRun0_B.sl.v383, kernelRun0_B.sl.v389, kernelRun0_B.sl.v537, kernelRun0_B.sl.v3, kernelRun0_B.sl.v539, kernelRun0_B.sl.v175, kernelRun0_B.sl.r_50, kernelRun0_B.sl.v485, kernelRun0_B.sl.v381, kernelRun0_B.sl.r_30, kernelRun0_B.sl.v385, kernelRun0_B.sl.r_2, kernelRun0_B.sl.v127, kernelRun0_B.sl.r_19, kernelRun0_B.sl.r_25, kernelRun0_B.sl.v343, kernelRun0_B.sl.v235, kernelRun0_B.sl.v483, kernelRun0_B.sl.r_51, kernelRun0_B.sl.r_17, kernelRun0_B.sl.v143, kernelRun0_B.sl.v181, kernelRun0_B.sl.r_6, kernelRun0_B.sl.v331, kernelRun0_B.sl.r_31, kernelRun0_B.sl.r_20, kernelRun0_B.sl.r_7, kernelRun0_B.sl.r_52, kernelRun0_B.sl.v187, kernelRun0_B.sl.r_34, kernelRun0_B.sl.v151, kernelRun0_B.sl.r_46, kernelRun0_B.sl.v393, kernelRun0_B.sl.v443, kernelRun0_B.sl.r_47, kernelRun0_B.sl.v541, kernelRun0_B.sl.r_39, kernelRun0_B.sl.v191, kernelRun0_B.sl.r_29, kernelRun0_B.sl.v233, kernelRun0_B.sl.r_59, kernelRun0_B.sl.v283, kernelRun0_B.sl.r_15, kernelRun0_B.sl.v493, kernelRun0_B.sl.v533, kernelRun0_B.sl.v167, kernelRun0_B.sl.v437, kernelRun0_B.sl.v489, kernelRun0_B.sl.r_18, kernelRun0_B.sl.v341, kernelRun0_B.sl.r_8, kernelRun0_B.sl.r_43, kernelRun0_B.sl.v243, kernelRun0_B.sl.v289, kernelRun0_B.sl.v391, kernelRun0_B.sl.v231, kernelRun0_B.sl.r_21, kernelRun0_B.sl.r_13, kernelRun0_B.sl.v431, kernelRun0_B.sl.r_12, kernelRun0_B.sl.r_27, kernelRun0_B.sl.v185, kernelRun0_B.sl.v183, kernelRun0_B.sl.r_5, kernelRun0_B.sl.r_56, kernelRun0_B.sl.r_24, kernelRun0_B.sl.r_53, kernelRun0_B.sl.r_35, kernelRun0_B.sl.v239, kernelRun0_B.sl.v441, kernelRun0_B.sl.v4, kernelRun0_B.sl.r_40, kernelRun0_B.sl.r_4, kernelRun0_B.sl.v335, kernelRun0_B.sl.v481, kernelRun0_B.sl.r_14, kernelRun0_B.sl.v387, kernelRun0_B.sl.r_44, kernelRun0_B.sl.r_10, kernelRun0_B.sl.r_57, kernelRun0_B.sl.v491, kernelRun0_B.sl.v189, kernelRun0_B.sl.v2, kernelRun0_B.sl.v339, kernelRun0_B.sl.r_16, kernelRun0_B.sl.v543, kernelRun0_B.sl.v435, kernelRun0_B.sl.v487, kernelRun0_B.sl.r_41, kernelRun0_B.sl.r_58, kernelRun0_B.sl.r_49, kernelRun0_B.sl.r_11, kernelRun0_B.sl.r_42, kernelRun0_B.sl.v293, kernelRun0_B.sl.r_36, kernelRun0_B.sl.v281, kernelRun0_B.sl.v241, kernelRun0_B.sl.v159, kernelRun0_B.sl.r, kernelRun0_B.sl.r_33, kernelRun0_B.sl.v433, kernelRun0_B.sl.r_32, kernelRun0_B.sl.r_28, kernelRun0_B.sl.r_55, kernelRun0_B.sl.v531, kernelRun0_B.sl.cst_157, kernelRun0_B.sl.r_22, kernelRun0_B.sl.r_54, kernelRun0_B.sl.r_1, kernelRun0_B.sl.v337, kernelRun0_B.sl.v439, View.readAt_eq_ld, harg2.read_unread, harg3.read_unread, harg4.read_unread, harg5.read_unread,
    harg6.read_unread, View.readCov_eq_canon', p_eq (A := A) (hA := hA)]
  simp only [List.forall_mem_cons, List.not_mem_nil, false_imp_iff, implies_true, and_true]
  refine ⟨?_, ?_, ?_, ?_, ?_, ?_, ?_, ?_, ?_, ?_, ?_, ?_, ?_, ?_, ?_, ?_⟩ <;>
    refine patch (fun r n => gated (dot A (weight x2 768) 3072 r n) (dot A (weight x3 768) 3072 r n)
          (at2 x1 r 0) (x4 (ix1 0)) (x4 (ix1 1))) _ _ fun x => ?_
  all_goals
    unfold_payloads
    pointwise
    simp only [ul, ur, ll, lr, a1 x1, ← Nat.add_assoc, Nat.reduceAdd, Nat.zero_add]
    rfl
end
-- ==== Proof.Ternary.GateUpFirst.lean ====
/- The gate-up kernel's first step of a row block: it also forms the seven left factors from the row block's codes and
   leaves them for the later steps. -/
module

public import proofs.«01_k».proof.Proof.Ternary.GateUpLater

@[expose] public section

set_option maxRecDepth 16384

noncomputable section

namespace GateUpKernel

open Cert.GateUpIdeal Cert.GateUpIdeal.Gen Idealize.ShloMosaic Idealize.ShloMosaic.TcCoe Idealize.ShloMosaic.Tactic Ternary

theorem t_eq (c : Dev nD) (arg2 : Memref sig Kind.tc Space.vmem S1024x3072 EltTy.i8) (harg2 : arg2.IsWhole)
    (x0 : S1024x3072.Idx → BitVec 8) (y : S7x512x1536.Idx) :
    View.canon (kernelRun0_A.sl.HS0_56 (F := Ideal) c arg2 harg2 x0) y
      = ((leftFactor (code x0) 512 1536 (y 0).val (y 1).val (y 2).val : ℝ) : EReal) := by
  refine canon3 (N0 := 7) (N1 := 512) (N2 := 1536) (e := .bf16) (fun q k n => ((leftFactor (code x0) 512 1536 q k n : ℝ) : EReal)) _ ?_
    (View.cover_of_tiledL (s := S7x512x1536) _ S1x64x1536.size (by sl_kernel_rfl)) y
  simp only [kernelRun0_A.sl.HS0_56, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_4, kernelRun0_A.sl.r_5, kernelRun0_A.sl.r_6, kernelRun0_A.sl.r_7, kernelRun0_A.sl.r_8, kernelRun0_A.sl.r_9, View.readAt_eq_ld, harg2.read_unread]
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    refine plane (fun q k n => ((leftFactor (code x0) 512 1536 q k n : ℝ) : EReal)) _ _ fun x => ?_
  all_goals
    unfold_payloads
    pointwise
    simp only [sitofp_code x0, leftFactor, ← Nat.add_assoc, Nat.reduceAdd, EReal.coe_add, EReal.coe_sub, Nat.zero_add]
    rfl

theorem uA_eq (c : Dev nD) (arg4 : Memref sig Kind.tc Space.vmem S768x256 EltTy.i8) (harg4 : arg4.IsWhole)
  (arg5 : Memref sig Kind.tc Space.vmem S768x256 EltTy.i8) (harg5 : arg5.IsWhole) (x2 x3 : S768x256.Idx → BitVec 8) (y : S7x1536x256.Idx) :
    View.canon (kernelRun0_A.sl.HS1_14 (F := Ideal) c arg4 harg4 arg5 harg5 x2 x3) y
      = ((rightFactor (weight x2 768) (weight x3 768) 1536 (y 0).val (y 1).val (y 2).val : ℝ) : EReal) :=
  u_eq c arg4 harg4 arg5 harg5 x2 x3 y

theorem pA_eq (c : Dev nD) (arg2 : Memref sig Kind.tc Space.vmem S1024x3072 EltTy.i8) (harg2 : arg2.IsWhole) (arg4 : Memref sig Kind.tc Space.vmem S768x256 EltTy.i8) (harg4 : arg4.IsWhole)
  (arg5 : Memref sig Kind.tc Space.vmem S768x256 EltTy.i8) (harg5 : arg5.IsWhole) (arg8 : Memref sig Kind.tc Space.vmem S7x512x1536 EltTy.bf16) (x0 : S1024x3072.Idx → BitVec 8) (x2 x3 : S768x256.Idx → BitVec 8)
    (arg9 : Memref sig Kind.tc Space.vmem S7x1536x256 EltTy.bf16) (y : S7x512x256.Idx) :
    View.canon (kernelRun0_A.sl.HS2_7 (F := Ideal) c arg2 harg2 arg4 harg4 arg5 harg5 arg8 arg9 x0 x2 x3) y
      = ((product (code x0) (weight x2 768) (weight x3 768) 512 1536 (y 0).val (y 1).val (y 2).val : ℝ) : EReal) := by
  refine canon3 (N0 := 7) (N1 := 512) (N2 := 256) (e := .f32)
    (fun q r n => ((product (code x0) (weight x2 768) (weight x3 768) 512 1536 q r n : ℝ) : EReal)) _ ?_
    (View.cover_of_tiledL (s := S7x512x256) _ S1x512x256.size (by sl_kernel_rfl)) y
  simp only [kernelRun0_A.sl.HS2_7, kernelRun0_A.sl.r_45, kernelRun0_A.sl.r_46, kernelRun0_A.sl.v125, kernelRun0_A.sl.v133, kernelRun0_A.sl.v141, kernelRun0_A.sl.v149, kernelRun0_A.sl.v157, kernelRun0_A.sl.v165, kernelRun0_A.sl.v173, kernelRun0_A.sl.v127, kernelRun0_A.sl.v135,
    kernelRun0_A.sl.v143, kernelRun0_A.sl.v151, kernelRun0_A.sl.v159, kernelRun0_A.sl.v167, kernelRun0_A.sl.v175,
    View.readAt_eq_ld, View.readCov_eq_canon', uA_eq, t_eq]
  simp only [List.forall_mem_cons, List.not_mem_nil, false_imp_iff, implies_true, and_true]
  refine ⟨?_, ?_, ?_, ?_, ?_, ?_, ?_⟩ <;>
    refine plane (fun q k n => ((product (code x0) (weight x2 768) (weight x3 768) 512 1536 q k n : ℝ) : EReal)) _ _ fun x => ?_
  all_goals
    unfold_payloads
    pointwise
    unfold product
    exact sum_mul_coe 1536 _ _ _ _ (fun k => rfl) (fun k => rfl)

/-- What a step leaves, first of its row block. -/
theorem out_A (c : Dev nD) (i : grid0.Coords) (arg2 : Memref sig .tc .vmem S1024x3072 .i8) (harg2 : arg2.IsWhole) (arg3 : Memref sig .tc .vmem S1024x1 .f32) (harg3 : arg3.IsWhole) (arg4 : Memref sig .tc .vmem S768x256 .i8) (harg4 : arg4.IsWhole) (arg5 : Memref sig .tc .vmem S768x256 .i8) (harg5 : arg5.IsWhole) (arg6 : Memref sig .tc .smem S2 .f32) (harg6 : arg6.IsWhole) (arg7 : Memref sig .tc .vmem S1024x256 .f32) (harg7 : arg7.IsWhole) (arg8 : Memref sig .tc .vmem S7x512x1536 .bf16) (harg8 : arg8.IsWhole) (arg9 : Memref sig .tc .vmem S7x1536x256 .bf16) (harg9 : arg9.IsWhole) (arg10 : Memref sig .tc .vmem S7x512x256 .f32) (harg10 : arg10.IsWhole) (hc0 : cond0_0 i)
    (x0 : S1024x3072.Idx → BitVec 8) (x1 : S1024x1.Idx → EReal) (x2 : S768x256.Idx → BitVec 8) (x3 : S768x256.Idx → BitVec 8) (x4 : S2.Idx → EReal)  (y : S1024x256.Idx) :
    out0_A_5 (F := Ideal) c i arg2 harg2 arg3 harg3 arg4 harg4 arg5 harg5 arg6 harg6 arg7 harg7 arg8 harg8 arg9 harg9 arg10 harg10 hc0 x0 x1 x2 x3 x4 y
      = gated (dot (code x0) (weight x2 768) 3072 (y 0).val (y 1).val) (dot (code x0) (weight x3 768) 3072 (y 0).val (y 1).val)
          (at2 x1 (y 0).val 0) (x4 (ix1 0)) (x4 (ix1 1)) := by
  have ul : ∀ r n, (((product (code x0) (weight x2 768) (weight x3 768) 512 1536 0 r n : ℝ) : EReal) + (product (code x0) (weight x2 768) (weight x3 768) 512 1536 3 r n : ℝ)
      - (product (code x0) (weight x2 768) (weight x3 768) 512 1536 4 r n : ℝ) + (product (code x0) (weight x2 768) (weight x3 768) 512 1536 6 r n : ℝ))
      = ((dot (code x0) (weight x2 768) 3072 r n : ℝ) : EReal) := fun r n => by
    rw [← EReal.coe_add, ← EReal.coe_sub, ← EReal.coe_add, upper_left]
  have ur : ∀ r n, (((product (code x0) (weight x2 768) (weight x3 768) 512 1536 2 r n : ℝ) : EReal) + (product (code x0) (weight x2 768) (weight x3 768) 512 1536 4 r n : ℝ))
      = ((dot (code x0) (weight x3 768) 3072 r n : ℝ) : EReal) := fun r n => by
    rw [← EReal.coe_add, upper_right]
  have ll : ∀ r n, (((product (code x0) (weight x2 768) (weight x3 768) 512 1536 1 r n : ℝ) : EReal) + (product (code x0) (weight x2 768) (weight x3 768) 512 1536 3 r n : ℝ))
      = ((dot (code x0) (weight x2 768) 3072 (512 + r) n : ℝ) : EReal) := fun r n => by
    rw [← EReal.coe_add, lower_left]
  have lr : ∀ r n, (((product (code x0) (weight x2 768) (weight x3 768) 512 1536 0 r n : ℝ) : EReal) - (product (code x0) (weight x2 768) (weight x3 768) 512 1536 1 r n : ℝ)
      + (product (code x0) (weight x2 768) (weight x3 768) 512 1536 2 r n : ℝ) + (product (code x0) (weight x2 768) (weight x3 768) 512 1536 5 r n : ℝ))
      = ((dot (code x0) (weight x3 768) 3072 (512 + r) n : ℝ) : EReal) := fun r n => by
    rw [← EReal.coe_sub, ← EReal.coe_add, ← EReal.coe_add, lower_right]
  have a1 : ∀ (x : S1024x1.Idx → EReal) (r : Fin 1024) (k : Fin 1), x (ix2 r k) = at2 x r.val k.val := fun x r k => at2_of x _ _ _ rfl rfl
  unfold out0_A_5
  rw [View.read_writes_eq_canon _ _ _ (cover0_A_5 (F := Ideal) c i arg2 harg2 arg3 harg3 arg4 harg4 arg5 harg5 arg6 harg6 arg7 harg7 arg8 harg8 arg9 harg9 arg10 harg10 hc0 x0 x1 x2 x3 x4)]
  refine canon2 (N0 := 1024) (N1 := 256) (e := .f32) (fun r n => gated (dot (code x0) (weight x2 768) 3072 r n) (dot (code x0) (weight x3 768) 3072 r n)
          (at2 x1 r 0) (x4 (ix1 0)) (x4 (ix1 1))) _ ?_ (cover0_A_5 (F := Ideal) c i arg2 harg2 arg3 harg3 arg4 harg4 arg5 harg5 arg6 harg6 arg7 harg7 arg8 harg8 arg9 harg9 arg10 harg10 hc0 x0 x1 x2 x3 x4) y
  unfold kernelRun0_A
  dsimp only
  simp only [kernelRun0_A.sl.r_84, kernelRun0_A.sl.v231, kernelRun0_A.sl.v533, kernelRun0_A.sl.r_74, kernelRun0_A.sl.v531, kernelRun0_A.sl.r_15, kernelRun0_A.sl.r_43, kernelRun0_A.sl.v391, kernelRun0_A.sl.r_49, kernelRun0_A.sl.r_19, kernelRun0_A.sl.v159, kernelRun0_A.sl.r_29, kernelRun0_A.sl.r_22, kernelRun0_A.sl.r_77, kernelRun0_A.sl.v435, kernelRun0_A.sl.r_42, kernelRun0_A.sl.v331, kernelRun0_A.sl.r, kernelRun0_A.sl.v281, kernelRun0_A.sl.v291, kernelRun0_A.sl.r_17, kernelRun0_A.sl.v189, kernelRun0_A.sl.r_82, kernelRun0_A.sl.v437, kernelRun0_A.sl.r_68, kernelRun0_A.sl.v441, kernelRun0_A.sl.r_70, kernelRun0_A.sl.r_11, kernelRun0_A.sl.v483, kernelRun0_A.sl.v239, kernelRun0_A.sl.r_24, kernelRun0_A.sl.v433, kernelRun0_A.sl.v293, kernelRun0_A.sl.r_64, kernelRun0_A.sl.v2, kernelRun0_A.sl.r_67, kernelRun0_A.sl.v241, kernelRun0_A.sl.v443, kernelRun0_A.sl.r_56, kernelRun0_A.sl.r_47, kernelRun0_A.sl.v133, kernelRun0_A.sl.v481, kernelRun0_A.sl.v235, kernelRun0_A.sl.r_83, kernelRun0_A.sl.v337, kernelRun0_A.sl.v283, kernelRun0_A.sl.r_13, kernelRun0_A.sl.v4, kernelRun0_A.sl.v381, kernelRun0_A.sl.r_50, kernelRun0_A.sl.v167, kernelRun0_A.sl.r_63, kernelRun0_A.sl.v333, kernelRun0_A.sl.r_48, kernelRun0_A.sl.v237, kernelRun0_A.sl.r_34, kernelRun0_A.sl.v491, kernelRun0_A.sl.v537, kernelRun0_A.sl.v335, kernelRun0_A.sl.r_72, kernelRun0_A.sl.r_73, kernelRun0_A.sl.v165, kernelRun0_A.sl.r_51, kernelRun0_A.sl.v175, kernelRun0_A.sl.r_4, kernelRun0_A.sl.r_20, kernelRun0_A.sl.r_52, kernelRun0_A.sl.r_12, kernelRun0_A.sl.r_25, kernelRun0_A.sl.r_69, kernelRun0_A.sl.v289, kernelRun0_A.sl.r_89, kernelRun0_A.sl.r_2, kernelRun0_A.sl.r_46, kernelRun0_A.sl.r_21, kernelRun0_A.sl.r_28, kernelRun0_A.sl.v243, kernelRun0_A.sl.r_60, kernelRun0_A.sl.r_38, kernelRun0_A.sl.v127, kernelRun0_A.sl.r_3, kernelRun0_A.sl.r_59, kernelRun0_A.sl.v341, kernelRun0_A.sl.v149, kernelRun0_A.sl.v535, kernelRun0_A.sl.r_37, kernelRun0_A.sl.v541, kernelRun0_A.sl.r_44, kernelRun0_A.sl.r_33, kernelRun0_A.sl.r_31, kernelRun0_A.sl.v193, kernelRun0_A.sl.r_16, kernelRun0_A.sl.v543, kernelRun0_A.sl.r_5, kernelRun0_A.sl.r_91, kernelRun0_A.sl.r_71, kernelRun0_A.sl.r_79, kernelRun0_A.sl.r_78, kernelRun0_A.sl.r_45, kernelRun0_A.sl.r_58, kernelRun0_A.sl.v385, kernelRun0_A.sl.r_76, kernelRun0_A.sl.v151, kernelRun0_A.sl.v3, kernelRun0_A.sl.r_35, kernelRun0_A.sl.v173, kernelRun0_A.sl.r_32, kernelRun0_A.sl.r_66, kernelRun0_A.sl.v125, kernelRun0_A.sl.v191, kernelRun0_A.sl.v431, kernelRun0_A.sl.v487, kernelRun0_A.sl.v387, kernelRun0_A.sl.v183, kernelRun0_A.sl.r_85, kernelRun0_A.sl.v135, kernelRun0_A.sl.r_26, kernelRun0_A.sl.v181, kernelRun0_A.sl.r_23, kernelRun0_A.sl.v141, kernelRun0_A.sl.v539, kernelRun0_A.sl.r_87, kernelRun0_A.sl.r_55, kernelRun0_A.sl.r_14, kernelRun0_A.sl.v185, kernelRun0_A.sl.v287, kernelRun0_A.sl.r_57, kernelRun0_A.sl.r_88, kernelRun0_A.sl.v393, kernelRun0_A.sl.v439, kernelRun0_A.sl.r_36, kernelRun0_A.sl.r_40, kernelRun0_A.sl.r_80, kernelRun0_A.sl.r_62, kernelRun0_A.sl.r_6, kernelRun0_A.sl.v187, kernelRun0_A.sl.r_61, kernelRun0_A.sl.v157, kernelRun0_A.sl.v493, kernelRun0_A.sl.r_30, kernelRun0_A.sl.r_9, kernelRun0_A.sl.cst_157, kernelRun0_A.sl.r_27, kernelRun0_A.sl.v343, kernelRun0_A.sl.r_41, kernelRun0_A.sl.r_86, kernelRun0_A.sl.r_39, kernelRun0_A.sl.v489, kernelRun0_A.sl.r_90, kernelRun0_A.sl.v389, kernelRun0_A.sl.r_75, kernelRun0_A.sl.r_53, kernelRun0_A.sl.r_65, kernelRun0_A.sl.r_18, kernelRun0_A.sl.v339, kernelRun0_A.sl.r_8, kernelRun0_A.sl.v383, kernelRun0_A.sl.r_7, kernelRun0_A.sl.v285, kernelRun0_A.sl.v485, kernelRun0_A.sl.r_10, kernelRun0_A.sl.v143, kernelRun0_A.sl.r_54, kernelRun0_A.sl.r_81, kernelRun0_A.sl.v233, kernelRun0_A.sl.r_1, View.readAt_eq_ld, harg2.read_unread, harg3.read_unread, harg4.read_unread, harg5.read_unread,
    harg6.read_unread, View.readCov_eq_canon', pA_eq]
  simp only [List.forall_mem_cons, List.not_mem_nil, false_imp_iff, implies_true, and_true]
  refine ⟨?_, ?_, ?_, ?_, ?_, ?_, ?_, ?_, ?_, ?_, ?_, ?_, ?_, ?_, ?_, ?_⟩ <;>
    refine patch (fun r n => gated (dot (code x0) (weight x2 768) 3072 r n) (dot (code x0) (weight x3 768) 3072 r n)
          (at2 x1 r 0) (x4 (ix1 0)) (x4 (ix1 1))) _ _ fun x => ?_
  all_goals
    unfold_payloads
    pointwise
    simp only [ul, ur, ll, lr, a1 x1, ← Nat.add_assoc, Nat.reduceAdd, Nat.zero_add]
    rfl

/-- What the first step of a row block leaves for the others. -/
theorem scratch_A (c : Dev nD) (i : grid0.Coords) (arg2 : Memref sig .tc .vmem S1024x3072 .i8) (harg2 : arg2.IsWhole) (arg3 : Memref sig .tc .vmem S1024x1 .f32) (harg3 : arg3.IsWhole) (arg4 : Memref sig .tc .vmem S768x256 .i8) (harg4 : arg4.IsWhole) (arg5 : Memref sig .tc .vmem S768x256 .i8) (harg5 : arg5.IsWhole) (arg6 : Memref sig .tc .smem S2 .f32) (harg6 : arg6.IsWhole) (arg7 : Memref sig .tc .vmem S1024x256 .f32) (harg7 : arg7.IsWhole) (arg8 : Memref sig .tc .vmem S7x512x1536 .bf16) (harg8 : arg8.IsWhole) (arg9 : Memref sig .tc .vmem S7x1536x256 .bf16) (harg9 : arg9.IsWhole) (arg10 : Memref sig .tc .vmem S7x512x256 .f32) (harg10 : arg10.IsWhole) (hc0 : cond0_0 i)
    (x0 : S1024x3072.Idx → BitVec 8) (x1 : S1024x1.Idx → EReal) (x2 : S768x256.Idx → BitVec 8) (x3 : S768x256.Idx → BitVec 8) (x4 : S2.Idx → EReal) (y : S7x512x1536.Idx) :
    sout0_A_0 (F := Ideal) c i arg2 harg2 arg3 harg3 arg4 harg4 arg5 harg5 arg6 harg6 arg7 harg7 arg8 harg8 arg9 harg9 arg10 harg10 hc0 x0 x1 x2 x3 x4 y
      = ((leftFactor (code x0) 512 1536 (y 0).val (y 1).val (y 2).val : ℝ) : EReal) := by
  unfold sout0_A_0
  rw [View.read_writes_eq_canon _ _ _ (scover0_A_0 (F := Ideal) c i arg2 harg2 arg3 harg3 arg4 harg4 arg5 harg5 arg6 harg6 arg7 harg7 arg8 harg8 arg9 harg9 arg10 harg10 hc0 x0 x1 x2 x3 x4)]
  unfold kernelRun0_A
  dsimp only
  exact t_eq c arg2 harg2 x0 y
-- ==== Proof.Ternary.GateUpArray.lean ====
/- The gate-up kernel's result array: every element is the gated activation of the two plain products over the whole
   contraction, taken from the argument arrays. -/
module

public import proofs.«01_k».proof.Proof.Ternary.GateUpFirst
public import proofs.«01_k».proof.Proof.Ternary.Blocks
public import Idealize.ShloMosaic.Lib.Pipeline.ValueKit

@[expose] public section

set_option maxRecDepth 16384

noncomputable section

namespace GateUpKernel

open Cert.GateUpIdeal Cert.GateUpIdeal.Gen Cert.GateUpIdeal.Value Idealize.ShloMosaic Idealize.ShloMosaic.TcCoe Idealize.ShloMosaic.Tactic Ternary

variable (m : (ℓ : Loc nD τ sig) → Buf (Elt Ideal) ℓ) (c : Dev nD)

/-- Which blocks point `t` reads. -/
theorem idx : ∀ t : Fin cfg0.N, win0_0.index t = ![t.val / 32, 0] ∧ win0_1.index t = ![t.val / 32, 0]
    ∧ win0_2.index t = ![0, t.val % 32] ∧ win0_3.index t = ![0, 32 + t.val % 32] ∧ win0_4.index t = ![0]
    ∧ win0_5.index t = ![t.val / 32, t.val % 32] :=
  (by decide +kernel : ∀ t : Fin grid0.N, _)

theorem lt_points (t : Fin cfg0.N) : t.val < 384 := lt_of_lt_of_eq t.isLt N_0

/-- The arguments. -/
abbrev X : S12288x3072.Idx → BitVec 8 := m ((c : Thread nD τ).loc main_arg0)
abbrev Sc : S12288x1.Idx → EReal := m ((c : Thread nD τ).loc main_arg1)
abbrev Wt : S768x16384.Idx → BitVec 8 := m ((c : Thread nD τ).loc main_arg2)
abbrev Ws : S2.Idx → EReal := m ((c : Thread nD τ).loc main_arg3)

/-- The blocks point `t` reads, in the arguments. -/
theorem block0 (t : Fin cfg0.N) (j : S1024x3072.Idx) : iblk m c 0 t j = at2 (X m c) (1024 * (t.val / 32) + (j 0).val) (0 + (j 1).val) := by
  have := lt_points t
  have h : (j 0).val < 1024 := (j 0).isLt
  refine Eq.trans ?_ (at2_of (X m c) (ix2 ⟨1024 * (t.val / 32) + (j 0).val, by omega⟩ (j 1)) _ _ rfl (Nat.zero_add _).symm)
  blk_ext [iblk, V, idx t]

theorem block1 (t : Fin cfg0.N) (j : S1024x1.Idx) : iblk m c 1 t j = at2 (Sc m c) (1024 * (t.val / 32) + (j 0).val) (0 + (j 1).val) := by
  have := lt_points t
  have h : (j 0).val < 1024 := (j 0).isLt
  refine Eq.trans ?_ (at2_of (Sc m c) (ix2 ⟨1024 * (t.val / 32) + (j 0).val, by omega⟩ (j 1)) _ _ rfl (Nat.zero_add _).symm)
  blk_ext [iblk, V, idx t]

theorem block2 (t : Fin cfg0.N) (j : S768x256.Idx) : iblk m c 2 t j = at2 (Wt m c) (j 0).val (256 * (t.val % 32) + (j 1).val) := by
  have := lt_points t
  have h : (j 1).val < 256 := (j 1).isLt
  refine Eq.trans ?_ (at2_of (Wt m c) (ix2 (j 0) ⟨256 * (t.val % 32) + (j 1).val, by omega⟩) _ _ rfl rfl)
  blk_ext [iblk, V, idx t]

theorem block3 (t : Fin cfg0.N) (j : S768x256.Idx) : iblk m c 3 t j = at2 (Wt m c) (j 0).val (8192 + 256 * (t.val % 32) + (j 1).val) := by
  have := lt_points t
  have h : (j 1).val < 256 := (j 1).isLt
  refine Eq.trans ?_ (at2_of (Wt m c) (ix2 (j 0) ⟨8192 + 256 * (t.val % 32) + (j 1).val, by omega⟩) _ _ rfl rfl)
  blk_ext [iblk, V, idx t]

theorem block4 (t : Fin cfg0.N) (j : S2.Idx) : iblk m c 4 t j = Ws m c j := by
  blk_ext [iblk, V, idx t]

/-- The codes of the row block of point `n`. -/
abbrev rows (n : ℕ) (r k : ℕ) : ℝ := code (X m c) (1024 * (n / 32) + r) k

theorem code_rows (t : Fin cfg0.N) (r k : ℕ) (hr : r < 1024) (hk : k < 3072) : code (iblk m c 0 t) r k = rows m c t.val r k := by
  have h := code_block (X m c) (iblk m c 0 t) _ _ (block0 m c t) r k hr hk
  rwa [Nat.zero_add] at h

/-- The carried scratch holds the left factors of the row block: after its first point … -/
theorem scratch_first (t : Fin cfg0.N) (h0 : t.val % 32 = 0) (j : S7x512x1536.Idx) :
    (outsAt0 m c t.val t.isLt).2 j = ((leftFactor (rows m c t.val) 512 1536 (j 0).val (j 1).val (j 2).val : ℝ) : EReal) := by
  rw [outsAt0_A m c t h0]
  dsimp only
  rw [scratch_A, leftFactor_congr (hm := 512) (hk := 1536) (fun r k => code_rows m c t r k) (j 1).isLt (j 2).isLt]

/-- … and a later point keeps it … -/
theorem scratch_later (t : Fin cfg0.N) (h0 : ¬t.val % 32 = 0) :
    (outsAt0 m c t.val t.isLt).2 = (outsAt0 m c (t.val - 1) (Nat.lt_of_le_of_lt (Nat.sub_le _ _) t.isLt)).2 :=
  (congrArg Prod.snd (outsAt0_B m c t h0)).trans rfl

/-- … so after every point. -/
theorem scratch : ∀ (n : ℕ) (h : n < cfg0.N) (j : S7x512x1536.Idx),
    (outsAt0 m c n h).2 j = ((leftFactor (rows m c n) 512 1536 (j 0).val (j 1).val (j 2).val : ℝ) : EReal) := by
  intro n
  induction n with
  | zero => exact fun h j => scratch_first m c ⟨0, h⟩ rfl j
  | succ n ih =>
    intro h j
    by_cases h0 : (n + 1) % 32 = 0
    · exact scratch_first m c ⟨n + 1, h⟩ h0 j
    · refine (congrFun (scratch_later m c ⟨n + 1, h⟩ h0) j).trans ((ih (Nat.lt_of_succ_lt h) j).trans ?_)
      rw [show rows m c n = rows m c (n + 1) by funext r k; unfold rows; rw [show (n + 1) / 32 = n / 32 by omega]]

/-- The result: the gated activation of the two whole products. -/
def final : S12288x8192.Idx → EReal := fun i =>
  gated (dot (code (X m c)) (weight (Wt m c) 768) 3072 (i 0).val (i 1).val)
    (dot (code (X m c)) (weight (Wt m c) 768) 3072 (i 0).val (8192 + (i 1).val)) (at2 (Sc m c) (i 0).val 0) (Ws m c (ix1 0)) (Ws m c (ix1 1))

/-- A step's value, in the arguments. -/
theorem step_final (t : Fin cfg0.N) (A : ℕ → ℕ → ℝ) (hA : ∀ r k, r < 1024 → k < 3072 → A r k = rows m c t.val r k) (y : S1024x256.Idx)
    (i : S12288x8192.Idx) (h0 : (i 0).val = 1024 * (t.val / 32) + (y 0).val) (h1 : (i 1).val = 256 * (t.val % 32) + (y 1).val) :
    gated (dot A (weight (iblk m c 2 t) 768) 3072 (y 0).val (y 1).val) (dot A (weight (iblk m c 3 t) 768) 3072 (y 0).val (y 1).val)
      (at2 (R := 1024) (C := 1) (α := EReal) (iblk m c 1 t) (y 0).val 0) (iblk m c 4 t (ix1 0)) (iblk m c 4 t (ix1 1)) = final m c i := by
  have hy0 : (y 0).val < 1024 := (y 0).isLt
  have hy1 : (y 1).val < 256 := (y 1).isLt
  have hd2 : dot A (weight (iblk m c 2 t) 768) 3072 (y 0).val (y 1).val
      = dot (code (X m c)) (weight (Wt m c) 768) 3072 (i 0).val (i 1).val :=
    dot_congr (fun k hk => by rw [hA _ _ hy0 hk, h0])
      (fun k _ => by rw [weight_block (Wt m c) (iblk m c 2 t) _ (block2 m c t) (by decide) k _ hy1, h1])
  have hd3 : dot A (weight (iblk m c 3 t) 768) 3072 (y 0).val (y 1).val
      = dot (code (X m c)) (weight (Wt m c) 768) 3072 (i 0).val (8192 + (i 1).val) :=
    dot_congr (fun k hk => by rw [hA _ _ hy0 hk, h0])
      (fun k _ => by rw [weight_block (Wt m c) (iblk m c 3 t) _ (block3 m c t) (by decide) k _ hy1, h1, Nat.add_assoc])
  have hs : at2 (R := 1024) (C := 1) (α := EReal) (iblk m c 1 t) (y 0).val 0 = at2 (Sc m c) (i 0).val 0 := by
    rw [at2_block (Sc m c) (iblk m c 1 t) _ _ (block1 m c t) _ 0 hy0 (by decide), h0]
  rw [hd2, hd3, hs, block4, block4]
  rfl

/-- The array after the run. -/
theorem array : (dats m 0 c).arrAt 5 cfg0.N = final m c := by
  refine (dats m 0 c).arrAt_eq_of_covers 5 _ (by decide +kernel) fun t _ y => ?_
  have e0 : (((cfg0.win 5).blk t).view.emb y 0).val = 1024 * (t.val / 32) + (y 0).val := by blk_simp [idx t]; omega
  have e1 : (((cfg0.win 5).blk t).view.emb y 1).val = 256 * (t.val % 32) + (y 1).val := by blk_simp [idx t]; omega
  blk_simp
  rw [after0_5]
  by_cases h0 : t.val % 32 = 0
  · rw [outsAt0_A m c t h0]
    dsimp only
    rw [out_A]
    exact step_final m c t _ (code_rows m c t) y _ e0 e1
  · rw [outsAt0_B m c t h0]
    dsimp only
    rw [out_B (A := rows m c t.val) (hA := fun j => ?_)]
    · exact step_final m c t _ (fun _ _ _ _ => rfl) y _ e0 e1
    rw [scratch, show rows m c (t.val - 1) = rows m c t.val by funext r k; unfold rows; rw [show (t.val - 1) / 32 = t.val / 32 by omega]]

end GateUpKernel
-- ==== Proof.Ternary.GateUpReference.lean ====
/- The plain gate-up reference's result array: the gated activation of two products, each the sum of four partial products
   of the codes with one field of the weight bytes. -/
module

public import proofs.«01_k».proof.Proof.Gen.GateUpRefIdeal.Value
public import proofs.«01_k».proof.Proof.Ternary.Plain
public import Idealize.ShloMosaic.Lib.Pipeline.ValueKit
public import proofs.«01_k».proof.Proof.Ternary.Strassen

@[expose] public section

set_option maxRecDepth 16384

noncomputable section

namespace GateUpReference

open Cert.GateUpRefIdeal Cert.GateUpRefIdeal.Gen Cert.GateUpRefIdeal.Value Idealize.ShloMosaic Idealize.ShloMosaic.TcCoe Idealize.ShloMosaic.Tactic Ternary

/-- The stored array. -/
theorem out_eq (c : Dev nD) (arg0 : Memref sig .tc .vmem S12288x3072 .i8) (harg0 : arg0.IsWhole) (arg1 : Memref sig .tc .vmem S12288x1 .f32) (harg1 : arg1.IsWhole) (arg2 : Memref sig .tc .vmem S768x16384 .i8) (harg2 : arg2.IsWhole) (arg3 : Memref sig .tc .smem S2 .f32) (harg3 : arg3.IsWhole) (arg4 : Memref sig .tc .vmem S12288x8192 .f32) (harg4 : arg4.IsWhole)
    (x0 : S12288x3072.Idx → BitVec 8) (x1 : S12288x1.Idx → EReal) (x2 : S768x16384.Idx → BitVec 8) (x3 : S2.Idx → EReal) (y : S12288x8192.Idx) :
    out0_A_4 (F := Ideal) c arg0 harg0 arg1 harg1 arg2 harg2 arg3 harg3 arg4 harg4 x0 x1 x2 x3 y
      = gated (dot (code x0) (weight x2 768) 3072 (y 0).val (y 1).val) (dot (code x0) (weight x2 768) 3072 (y 0).val (8192 + (y 1).val))
          (at2 x1 (y 0).val 0) (x3 (ix1 0)) (x3 (ix1 1)) := by
  obtain ⟨r, l, rfl⟩ : ∃ (r : Fin 12288) (l : Fin 8192), y = ix2 r l := pair y
  unfold out0_A_4
  rw [View.read_writes_eq_canon _ _ _ (cover0_A_4 (F := Ideal) c arg0 harg0 arg1 harg1 arg2 harg2 arg3 harg3 arg4 harg4 x0 x1 x2 x3)]
  unfold kernelRun0_A
  dsimp only
  refine (congrFun (View.canon_unit_zero (S := S12288x8192) zero2 _ _) _).trans ?_
  unfold kernelRun0_A.sl.r kernelRun0_A.sl.r_1 kernelRun0_A.sl.r_2 kernelRun0_A.sl.r_3 kernelRun0_A.sl.r_4
  simp only [View.readAt_eq_ld, harg0.read_unread, harg1.read_unread, harg2.read_unread, harg3.read_unread]
  unfold_payloads
  pointwise
  have hl : l.val < 8192 := l.isLt
  have g := plain_dot (k4 := 768) x0 x2 rfl rfl rfl (rfl : 3072 = 4 * 768) r ⟨l.val, by omega⟩ (by omega) (by omega) (by omega) (by omega)
  have u := plain_dot (k4 := 768) x0 x2 rfl rfl rfl (rfl : 3072 = 4 * 768) r ⟨8192 + l.val, by omega⟩ (by omega) (by omega) (by omega) (by omega)
  refine Eq.trans ?_ (congrArg₂ (fun (g u : EReal) => max (g * at2 x1 r.val 0 * x3 (ix1 0)) 0 * max (g * at2 x1 r.val 0 * x3 (ix1 0)) 0
    * (u * at2 x1 r.val 0 * x3 (ix1 1))) g u)
  rw [← at2_of x1 (ix2 r 0) r.val 0 rfl rfl]

/-- The blocks are the whole arrays. -/
theorem idx : ∀ t : Fin cfg0.N, win0_0.index t = ![0, 0] ∧ win0_1.index t = ![0, 0] ∧ win0_2.index t = ![0, 0]
    ∧ win0_3.index t = ![0] ∧ win0_4.index t = ![0, 0] :=
  (by decide +kernel : ∀ t : Fin grid0.N, _)

/-- The array after the run. -/
theorem array (m : (ℓ : Loc nD τ sig) → Buf (Elt Ideal) ℓ) (c : Dev nD) (X : S12288x3072.Idx → BitVec 8) (Sc : S12288x1.Idx → EReal)
    (Wt : S768x16384.Idx → BitVec 8) (Ws : S2.Idx → EReal)
    (h0 : m ((c : Thread nD τ).loc main_arg0) = X) (h1 : m ((c : Thread nD τ).loc main_arg1) = Sc)
    (h2 : m ((c : Thread nD τ).loc main_arg2) = Wt) (h3 : m ((c : Thread nD τ).loc main_arg3) = Ws) :
    (dats m 0 c).arrAt 4 cfg0.N = fun i : S12288x8192.Idx =>
      gated (dot (code X) (weight Wt 768) 3072 (i 0).val (i 1).val) (dot (code X) (weight Wt 768) 3072 (i 0).val (8192 + (i 1).val))
        (at2 Sc (i 0).val 0) (Ws (ix1 0)) (Ws (ix1 1)) := by
  subst h0 h1 h2 h3
  refine (dats m 0 c).arrAt_eq_of_covers 4 _ (by decide +kernel) fun t _ y => ?_
  have b0 : iblk m c 0 t = m ((c : Thread nD τ).loc main_arg0) := by funext j; blk_ext [iblk, V, idx t]
  have b1 : iblk m c 1 t = m ((c : Thread nD τ).loc main_arg1) := by funext j; blk_ext [iblk, V, idx t]
  have b2 : iblk m c 2 t = m ((c : Thread nD τ).loc main_arg2) := by funext j; blk_ext [iblk, V, idx t]
  have b3 : iblk m c 3 t = m ((c : Thread nD τ).loc main_arg3) := by funext j; blk_ext [iblk, V, idx t]
  have e : ((cfg0.win 4).blk t).view.emb y = y := by blk_ext [idx t]
  rw [e]
  blk_simp
  rw [after0_4]
  unfold outsAt0
  rw [out_eq, b0, b1, b2, b3]

end GateUpReference
-- ==== Proof.Ternary.GateUpClaim.lean ====
/- Gate and up: kernel and reference compute the same array from the same arguments. -/
module

public import proofs.«01_k».proof.Defs
public import proofs.«01_k».proof.Proof.Gen.GateUpIdeal
public import proofs.«01_k».proof.Proof.Gen.GateUpRefIdeal
public import proofs.«01_k».proof.Proof.Ternary.GateUpArray
public import proofs.«01_k».proof.Proof.Ternary.GateUpReference

@[expose] public section

noncomputable section

open Idealize.ShloMosaic Idealize.SL.Sem

/-- The algebraic claim. -/
theorem GateUpKernel.claim : Cert.algebraic_GateUpIdeal_GateUpRefIdeal (hGateUpIdeal := Cert.GateUpIdeal.Gen.facts)
    (hGateUpRefIdeal := Cert.GateUpRefIdeal.Gen.facts) := by
  intro m g m' g' _ hm
  refine ⟨fun c => GateUpKernel.final m c, ?_, ?_⟩
  · exact (θ_run _ _ _).mono (fun r h c => ⟨(h c).1.trans (GateUpKernel.array m c), (h c).2⟩) (Cert.GateUpIdeal.Value.run_blocks m g)
  · refine (θ_run _ _ _).mono (fun r h c => ⟨(h c).1.trans ?_, (h c).2⟩) (Cert.GateUpRefIdeal.Value.run_blocks m' g')
    obtain ⟨h0, h1, h2, h3⟩ := hm c
    exact GateUpReference.array m' c _ _ _ _ h0 h1 h2 h3
-- ==== Proof.Ternary.QuantDownArray.lean ====
/- The quantiser before the down projection's kernel: what its payloads compute of a row, and its three result arrays, taken from the
   argument arrays: codes, scales and reciprocal roots. -/
module

public import proofs.«01_k».proof.Proof.Gen.QuantDownIdeal.Value
public import proofs.«01_k».proof.Proof.Ternary.Quant
public import proofs.«01_k».proof.Proof.Ternary.Plain
public import Idealize.ShloMosaic.Lib.Pipeline.ValueKit

@[expose] public section

set_option maxRecDepth 16384

noncomputable section

namespace QuantDownKernel

open Cert.QuantDownIdeal Cert.QuantDownIdeal.Gen Cert.QuantDownIdeal.Value Idealize.ShloMosaic Idealize.ShloMosaic.TcCoe Idealize.ShloMosaic.Tactic Ternary

/-- The reciprocal roots. -/
theorem rstd_eq (x0 : Vec Ideal S256x8192 .f32) (r : Fin 256) (l : Fin 1) :
    k0_pay1 (F := Ideal) x0 (ix2 r l) = rstd 0x46000000#32 (row (x0 : S256x8192.Idx → EReal) r) := by
  unfold k0_pay1
  exact rstd_column (R := 256) (n := 8192) _ _ _ _ _ _ r l

/-- The normalised rows. -/
theorem normed_eq (x0 : Vec Ideal S256x8192 .f32) (x1 : Vec Ideal S1x8192 .f32) (r : Fin 256) (k : Fin 8192) :
    k0_pay2 (F := Ideal) x0 x1 (ix2 r k) = normedRow 0x46000000#32 (x0 : S256x8192.Idx → EReal) x1 r k := by
  unfold k0_pay2
  rw [shapeCast_self]
  exact normed_column (R := 256) (n := 8192) _ _ _ _ _ _ r (rstd_eq x0 r 0) k

/-- The scales. -/
theorem scale_eq (x0 : Vec Ideal S256x8192 .f32) (x1 : Vec Ideal S1x8192 .f32) (r : Fin 256) (l : Fin 1) :
    k0_pay3 (F := Ideal) x0 x1 (ix2 r l) = scale (normedRow 0x46000000#32 (x0 : S256x8192.Idx → EReal) x1 r) := by
  unfold k0_pay3
  exact (scale_column (R := 256) (n := 8192) _ _ _ _ _ r l).trans (congrArg scale (funext fun k => normed_eq x0 x1 r k))

/-- The codes. -/
theorem level_eq (x0 : Vec Ideal S256x8192 .f32) (x1 : Vec Ideal S1x8192 .f32) (r : Fin 256) (k : Fin 8192) :
    k0_pay4 (F := Ideal) x0 x1 (ix2 r k)
      = level (normedRow 0x46000000#32 (x0 : S256x8192.Idx → EReal) x1 r k) (scale (normedRow 0x46000000#32 (x0 : S256x8192.Idx → EReal) x1 r)) := by
  unfold k0_pay4
  exact (level_column (R := 256) (n := 8192) _ _ _ r k).trans (congrArg₂ level (normed_eq x0 x1 r k) (scale_eq x0 x1 r 0))

/-- The stored blocks: codes … -/
theorem out_codes (x0 : Vec Ideal S256x8192 .f32) (x1 : Vec Ideal S1x8192 .f32) : out0_2 (F := Ideal) x0 x1 = codes 0x46000000#32 (x0 : S256x8192.Idx → EReal) x1 := by
  unfold out0_2
  rw [View.ld_unit_zero zero2, View.ld_unit_zero zero2]
  refine (View.canon_unit_zero zero2 _ _).trans (funext fun y => ?_)
  obtain ⟨r, k, rfl⟩ : ∃ (r : Fin 256) (k : Fin 8192), y = ix2 r k := pair y
  exact level_eq x0 x1 r k

/-- … scales … -/
theorem out_scales (x0 : Vec Ideal S256x8192 .f32) (x1 : Vec Ideal S1x8192 .f32) : out0_3 (F := Ideal) x0 x1 = scales 0x46000000#32 (x0 : S256x8192.Idx → EReal) x1 := by
  unfold out0_3
  rw [View.ld_unit_zero zero2, View.ld_unit_zero zero2]
  refine (View.canon_unit_zero zero2 _ _).trans (funext fun y => ?_)
  obtain ⟨r, k, rfl⟩ : ∃ (r : Fin 256) (k : Fin 1), y = ix2 r k := pair y
  exact scale_eq x0 x1 r k

/-- … and reciprocal roots. -/
theorem out_rstds (x0 : Vec Ideal S256x8192 .f32) (x1 : Vec Ideal S1x8192 .f32) : out0_4 (F := Ideal) x0 x1 = rstds 0x46000000#32 (x0 : S256x8192.Idx → EReal) := by
  unfold out0_4
  rw [View.ld_unit_zero zero2]
  refine (View.canon_unit_zero zero2 _ _).trans (funext fun y => ?_)
  obtain ⟨r, k, rfl⟩ : ∃ (r : Fin 256) (k : Fin 1), y = ix2 r k := pair y
  exact rstd_eq x0 r k

variable (m : (ℓ : Loc nD τ sig) → Buf (Elt Ideal) ℓ) (c : Dev nD)

/-- The rows. -/
abbrev X : S12288x8192.Idx → EReal := m ((c : Thread nD τ).loc main_arg0)

/-- The gains, as one row. -/
abbrev G : S1x8192.Idx → EReal := shapeCast S1x8192 (m ((c : Thread nD τ).loc main_arg1) : S8192.Idx → EReal) shapeCasts_S8192_S1x8192

/-- What the call reads. -/
theorem G_eq : (V m c main_v0 : S1x8192.Idx → EReal) = G m c := by
  entry_read
  rfl

/-- The blocks of point `t`. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

/-- The rows of a block. -/
theorem rows_block (t : Fin cfg0.N) (r : Fin 256) (i : Fin 12288) (h : i.val = 256 * t.val + r.val) :
    row (iblk m c 0 t : S256x8192.Idx → EReal) r = row (X m c) i := by
  have hi : 256 * t.val + r.val < 12288 := h ▸ i.isLt
  rw [show i = ⟨256 * t.val + r.val, hi⟩ from Fin.ext h]
  funext k
  unfold row
  refine Eq.trans (b := V m c main_arg0 (ix2 ⟨256 * t.val + r.val, hi⟩ k)) ?_ rfl
  blk_ext [iblk, V, idx t]

/-- The gains of a block. -/
theorem gains_block (t : Fin cfg0.N) : (iblk m c 1 t : S1x8192.Idx → EReal) = G m c := by
  funext j
  rw [← G_eq]
  blk_ext [iblk, V, idx t]

/-- The codes after the run. -/
theorem array_codes : (dats m 0 c).arrAt 2 cfg0.N = (codes 0x46000000#32 (X m c) (G m c) : S12288x8192.Idx → _) := by
  refine (dats m 0 c).arrAt_eq_of_covers 2 _ (by decide +kernel) fun t _ y => ?_
  have e0 : (((cfg0.win 2).blk t).view.emb y 0).val = 256 * t.val + (y 0).val := by blk_simp [idx t]; omega
  have e1 : (((cfg0.win 2).blk t).view.emb y 1).val = (y 1).val := by blk_simp [idx t]
  blk_simp
  rw [after0_2, out_codes]
  exact codes_block y _ (rows_block m c t _ _ e0) (gains_block m c t) e1.symm

/-- The scales after the run. -/
theorem array_scales : (dats m 0 c).arrAt 3 cfg0.N = (scales 0x46000000#32 (X m c) (G m c) : S12288x1.Idx → _) := by
  refine (dats m 0 c).arrAt_eq_of_covers 3 _ (by decide +kernel) fun t _ y => ?_
  have e0 : (((cfg0.win 3).blk t).view.emb y 0).val = 256 * t.val + (y 0).val := by blk_simp [idx t]; omega
  blk_simp
  rw [after0_3, out_scales]
  exact scales_block y _ (rows_block m c t _ _ e0) (gains_block m c t)

/-- The reciprocal roots after the run. -/
theorem array_rstds : (dats m 0 c).arrAt 4 cfg0.N = (rstds 0x46000000#32 (X m c) : S12288x1.Idx → _) := by
  refine (dats m 0 c).arrAt_eq_of_covers 4 _ (by decide +kernel) fun t _ y => ?_
  have e0 : (((cfg0.win 4).blk t).view.emb y 0).val = 256 * t.val + (y 0).val := by blk_simp [idx t]; omega
  blk_simp
  rw [after0_4, out_rstds]
  exact rstds_block y _ (rows_block m c t _ _ e0)

end QuantDownKernel
-- ==== Proof.Ternary.QuantDownReference.lean ====
/- The quantiser before the down projection's plain reference: what its payloads compute of a row, and its three result arrays, taken from the
   argument arrays: codes, scales and reciprocal roots. -/
module

public import proofs.«01_k».proof.Proof.Gen.QuantDownRefIdeal.Value
public import proofs.«01_k».proof.Proof.Ternary.Quant
public import proofs.«01_k».proof.Proof.Ternary.Plain
public import Idealize.ShloMosaic.Lib.Pipeline.ValueKit

@[expose] public section

set_option maxRecDepth 16384

noncomputable section

namespace QuantDownReference

open Cert.QuantDownRefIdeal Cert.QuantDownRefIdeal.Gen Cert.QuantDownRefIdeal.Value Idealize.ShloMosaic Idealize.ShloMosaic.TcCoe Idealize.ShloMosaic.Tactic Ternary

/-- The reciprocal roots, as a vector … -/
theorem rstd_flat (x0 : Vec Ideal S12288x8192 .f32) (r : Fin 12288) : k0_pay1 (F := Ideal) x0 (ix1 r) = rstd 0x46000000#32 (row (x0 : S12288x8192.Idx → EReal) r) := by
  unfold k0_pay1
  exact rstd_vector (R := 12288) (n := 8192) _ _ _ _ _ r

/-- … and as a column. -/
theorem rstd_eq (x0 : Vec Ideal S12288x8192 .f32) (r : Fin 12288) (l : Fin 1) :
    k0_pay6 (F := Ideal) x0 (ix2 r l) = rstd 0x46000000#32 (row (x0 : S12288x8192.Idx → EReal) r) := by
  unfold k0_pay6
  exact (column_of (R := 12288) _ _ r l).trans (rstd_flat x0 r)

/-- The normalised rows. -/
theorem normed_eq (x0 : Vec Ideal S12288x8192 .f32) (x1 : Vec Ideal S1x8192 .f32) (r : Fin 12288) (k : Fin 8192) :
    k0_pay2 (F := Ideal) x0 x1 (ix2 r k) = normedRow 0x46000000#32 (x0 : S12288x8192.Idx → EReal) x1 r k := by
  unfold k0_pay2
  rw [shapeCast_self]
  exact normed_column (R := 12288) (n := 8192) _ _ _ _ _ _ r ((column_of (R := 12288) _ _ r 0).trans (rstd_flat x0 r)) k

/-- The scales, as a vector … -/
theorem scale_flat (x0 : Vec Ideal S12288x8192 .f32) (x1 : Vec Ideal S1x8192 .f32) (r : Fin 12288) :
    k0_pay3 (F := Ideal) x0 x1 (ix1 r) = scale (normedRow 0x46000000#32 (x0 : S12288x8192.Idx → EReal) x1 r) := by
  unfold k0_pay3
  exact (scale_vector (R := 12288) (n := 8192) _ _ _ _ r).trans (congrArg scale (funext fun k => normed_eq x0 x1 r k))

/-- … and as a column. -/
theorem scale_eq (x0 : Vec Ideal S12288x8192 .f32) (x1 : Vec Ideal S1x8192 .f32) (r : Fin 12288) (l : Fin 1) :
    k0_pay5 (F := Ideal) x0 x1 (ix2 r l) = scale (normedRow 0x46000000#32 (x0 : S12288x8192.Idx → EReal) x1 r) := by
  unfold k0_pay5
  exact (column_of (R := 12288) _ _ r l).trans (scale_flat x0 x1 r)

/-- The codes. -/
theorem level_eq (x0 : Vec Ideal S12288x8192 .f32) (x1 : Vec Ideal S1x8192 .f32) (r : Fin 12288) (k : Fin 8192) :
    k0_pay4 (F := Ideal) x0 x1 (ix2 r k)
      = level (normedRow 0x46000000#32 (x0 : S12288x8192.Idx → EReal) x1 r k) (scale (normedRow 0x46000000#32 (x0 : S12288x8192.Idx → EReal) x1 r)) := by
  unfold k0_pay4
  exact (level_column (R := 12288) (n := 8192) _ _ _ r k).trans (congrArg₂ level (normed_eq x0 x1 r k) ((column_of (R := 12288) _ _ r 0).trans (scale_flat x0 x1 r)))

/-- The stored blocks: codes … -/
theorem out_codes (x0 : Vec Ideal S12288x8192 .f32) (x1 : Vec Ideal S1x8192 .f32) : out0_2 (F := Ideal) x0 x1 = codes 0x46000000#32 (x0 : S12288x8192.Idx → EReal) x1 := by
  unfold out0_2
  rw [View.ld_unit_zero zero2, View.ld_unit_zero zero2]
  refine (View.canon_unit_zero zero2 _ _).trans (funext fun y => ?_)
  obtain ⟨r, k, rfl⟩ : ∃ (r : Fin 12288) (k : Fin 8192), y = ix2 r k := pair y
  exact level_eq x0 x1 r k

/-- … scales … -/
theorem out_scales (x0 : Vec Ideal S12288x8192 .f32) (x1 : Vec Ideal S1x8192 .f32) : out0_3 (F := Ideal) x0 x1 = scales 0x46000000#32 (x0 : S12288x8192.Idx → EReal) x1 := by
  unfold out0_3
  rw [View.ld_unit_zero zero2, View.ld_unit_zero zero2]
  refine (View.canon_unit_zero zero2 _ _).trans (funext fun y => ?_)
  obtain ⟨r, k, rfl⟩ : ∃ (r : Fin 12288) (k : Fin 1), y = ix2 r k := pair y
  exact scale_eq x0 x1 r k

/-- … and reciprocal roots. -/
theorem out_rstds (x0 : Vec Ideal S12288x8192 .f32) (x1 : Vec Ideal S1x8192 .f32) : out0_4 (F := Ideal) x0 x1 = rstds 0x46000000#32 (x0 : S12288x8192.Idx → EReal) := by
  unfold out0_4
  rw [View.ld_unit_zero zero2]
  refine (View.canon_unit_zero zero2 _ _).trans (funext fun y => ?_)
  obtain ⟨r, k, rfl⟩ : ∃ (r : Fin 12288) (k : Fin 1), y = ix2 r k := pair y
  exact rstd_eq x0 r k

variable (m : (ℓ : Loc nD τ sig) → Buf (Elt Ideal) ℓ) (c : Dev nD)

/-- The rows. -/
abbrev X : S12288x8192.Idx → EReal := m ((c : Thread nD τ).loc main_arg0)

/-- The gains, as one row. -/
abbrev G : S1x8192.Idx → EReal := shapeCast S1x8192 (m ((c : Thread nD τ).loc main_arg1) : S8192.Idx → EReal) shapeCasts_S8192_S1x8192

/-- What the call reads. -/
theorem G_eq : (V m c main_v0 : S1x8192.Idx → EReal) = G m c := by
  entry_read
  rfl

/-- The blocks of point `t`. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The rows of a block. -/
theorem rows_block (t : Fin cfg0.N) (r : Fin 12288) (i : Fin 12288) (h : i.val = r.val) :
    row (iblk m c 0 t : S12288x8192.Idx → EReal) r = row (X m c) i := by
  have hi : r.val < 12288 := h ▸ i.isLt
  rw [show i = ⟨r.val, hi⟩ from Fin.ext h]
  funext k
  unfold row
  refine Eq.trans (b := V m c main_arg0 (ix2 ⟨r.val, hi⟩ k)) ?_ rfl
  blk_ext [iblk, V, idx t]

/-- The gains of a block. -/
theorem gains_block (t : Fin cfg0.N) : (iblk m c 1 t : S1x8192.Idx → EReal) = G m c := by
  funext j
  rw [← G_eq]
  blk_ext [iblk, V, idx t]

/-- The codes after the run. -/
theorem array_codes : (dats m 0 c).arrAt 2 cfg0.N = (codes 0x46000000#32 (X m c) (G m c) : S12288x8192.Idx → _) := by
  refine (dats m 0 c).arrAt_eq_of_covers 2 _ (by decide +kernel) fun t _ y => ?_
  have e0 : (((cfg0.win 2).blk t).view.emb y 0).val = (y 0).val := by blk_simp [idx t]
  have e1 : (((cfg0.win 2).blk t).view.emb y 1).val = (y 1).val := by blk_simp [idx t]
  blk_simp
  rw [after0_2, out_codes]
  exact codes_block y _ (rows_block m c t _ _ e0) (gains_block m c t) e1.symm

/-- The scales after the run. -/
theorem array_scales : (dats m 0 c).arrAt 3 cfg0.N = (scales 0x46000000#32 (X m c) (G m c) : S12288x1.Idx → _) := by
  refine (dats m 0 c).arrAt_eq_of_covers 3 _ (by decide +kernel) fun t _ y => ?_
  have e0 : (((cfg0.win 3).blk t).view.emb y 0).val = (y 0).val := by blk_simp [idx t]
  blk_simp
  rw [after0_3, out_scales]
  exact scales_block y _ (rows_block m c t _ _ e0) (gains_block m c t)

/-- The reciprocal roots after the run. -/
theorem array_rstds : (dats m 0 c).arrAt 4 cfg0.N = (rstds 0x46000000#32 (X m c) : S12288x1.Idx → _) := by
  refine (dats m 0 c).arrAt_eq_of_covers 4 _ (by decide +kernel) fun t _ y => ?_
  have e0 : (((cfg0.win 4).blk t).view.emb y 0).val = (y 0).val := by blk_simp [idx t]
  blk_simp
  rw [after0_4, out_rstds]
  exact rstds_block y _ (rows_block m c t _ _ e0)

end QuantDownReference
-- ==== Proof.Ternary.QuantDownClaim.lean ====
/- The quantiser before the down projection: kernel and reference compute the same three arrays from the same arguments. -/
module

public import proofs.«01_k».proof.Defs
public import proofs.«01_k».proof.Proof.Gen.QuantDownIdeal
public import proofs.«01_k».proof.Proof.Gen.QuantDownRefIdeal
public import proofs.«01_k».proof.Proof.Ternary.QuantDownArray
public import proofs.«01_k».proof.Proof.Ternary.QuantDownReference

@[expose] public section

noncomputable section

open Idealize.ShloMosaic Idealize.SL.Sem Ternary

/-- The algebraic claim. -/
theorem QuantDownKernel.claim : Cert.algebraic_QuantDownIdeal_QuantDownRefIdeal (hQuantDownIdeal := Cert.QuantDownIdeal.Gen.facts)
    (hQuantDownRefIdeal := Cert.QuantDownRefIdeal.Gen.facts) := by
  intro m g m' g' _ hm
  refine ⟨fun c => codes 0x46000000#32 (QuantDownKernel.X m c) (QuantDownKernel.G m c), fun c => scales 0x46000000#32 (QuantDownKernel.X m c) (QuantDownKernel.G m c),
    fun c => rstds 0x46000000#32 (QuantDownKernel.X m c), ?_, ?_⟩
  · exact (θ_run _ _ _).mono (fun r h c => ⟨(h c).1.trans (QuantDownKernel.array_codes m c), (h c).2.1.trans (QuantDownKernel.array_scales m c),
      (h c).2.2.1.trans (QuantDownKernel.array_rstds m c), (h c).2.2.2⟩) (Cert.QuantDownIdeal.Value.run_blocks m g)
  · refine (θ_run _ _ _).mono (fun r h c => ?_) (Cert.QuantDownRefIdeal.Value.run_blocks m' g')
    obtain ⟨h0, h1⟩ := hm c
    have hX : QuantDownReference.X m' c = QuantDownKernel.X m c := by unfold QuantDownReference.X QuantDownKernel.X; rw [h0]
    have hG : QuantDownReference.G m' c = QuantDownKernel.G m c := by unfold QuantDownReference.G QuantDownKernel.G; rw [h1]
    have e := (h c)
    rw [QuantDownReference.array_codes, QuantDownReference.array_scales, QuantDownReference.array_rstds, hX, hG] at e
    exact e
-- ==== Proof.Ternary.DownProjLater.lean ====
/- The down projection kernel's later steps of a row block. A step unpacks the left and the right 256 columns of a block of weights into the
   seven right factors, multiplies them with the seven left factors that the row block's first step left in a scratch,
   combines the products, scales them and adds the residual. -/
module

public import proofs.«01_k».proof.Proof.Gen.DownProjIdeal.Value
public import proofs.«01_k».proof.Proof.Ternary.Block
public import proofs.«01_k».proof.Proof.Ternary.Blocks
public import proofs.«01_k».proof.Proof.Ternary.Strassen

@[expose] public section

set_option maxRecDepth 16384

noncomputable section

namespace DownProjKernel

open Cert.DownProjIdeal Cert.DownProjIdeal.Gen Idealize.ShloMosaic Idealize.ShloMosaic.TcCoe Idealize.ShloMosaic.Tactic Ternary

/-- The left 256 columns of a block of weights. -/
def left (x : S2048x512.Idx → BitVec 8) : S2048x256.Idx → BitVec 8 :=
  fun j => x ((Rect.unit (s := S2048x512) ![0, 0] S2048x256.size inb_S2048x512_S2048x256_0_0).idx j)

theorem left_weight (x : S2048x512.Idx → BitVec 8) (k : ℕ) (j : S2048x256.Idx) : weight (left x) 2048 k (j 1).val = weight x 2048 k (j 1).val := by
  have h := weight_block x (left x) 0 (fun j => at2_of x ((Rect.unit (s := S2048x512) ![0, 0] S2048x256.size inb_S2048x512_S2048x256_0_0).idx j) _ _
    ((Nat.zero_add _).trans (Nat.one_mul _)) (congrArg (0 + ·) (Nat.one_mul _))) (by decide) k (j 1).val (j 1).isLt
  rwa [Nat.zero_add] at h

theorem left0 (x : S2048x512.Idx → BitVec 8) (j : S2048x256.Idx) :
    (FloatOps.sitofp .bf16 (bitcast S2048x256 8 (andi (shrui (bitcast S512x256 32 (left x) bitcasts_S2048x256_w8_S512x256_w32)
        (broadcast S512x256 0#32)) (broadcast S512x256 50529027#32)) bitcasts_S512x256_w32_S2048x256_w8 j) : Ideal .bf16) - 1
      = ((weight x 2048 ((j 0).val) (j 1).val : ℝ) : EReal) :=
  (sitofp_weight (by rfl) (left x) _ _ _ 0 (by decide) rfl j _ _ (by omega) rfl).trans (congrArg Real.toEReal (left_weight x _ j))

theorem left1 (x : S2048x512.Idx → BitVec 8) (j : S2048x256.Idx) :
    (FloatOps.sitofp .bf16 (bitcast S2048x256 8 (andi (shrui (bitcast S512x256 32 (left x) bitcasts_S2048x256_w8_S512x256_w32)
        (broadcast S512x256 2#32)) (broadcast S512x256 50529027#32)) bitcasts_S512x256_w32_S2048x256_w8 j) : Ideal .bf16) - 1
      = ((weight x 2048 (2048 + (j 0).val) (j 1).val : ℝ) : EReal) :=
  (sitofp_weight (by rfl) (left x) _ _ _ 1 (by decide) rfl j _ _ (by omega) rfl).trans (congrArg Real.toEReal (left_weight x _ j))

theorem left2 (x : S2048x512.Idx → BitVec 8) (j : S2048x256.Idx) :
    (FloatOps.sitofp .bf16 (bitcast S2048x256 8 (andi (shrui (bitcast S512x256 32 (left x) bitcasts_S2048x256_w8_S512x256_w32)
        (broadcast S512x256 4#32)) (broadcast S512x256 50529027#32)) bitcasts_S512x256_w32_S2048x256_w8 j) : Ideal .bf16) - 1
      = ((weight x 2048 (4096 + (j 0).val) (j 1).val : ℝ) : EReal) :=
  (sitofp_weight (by rfl) (left x) _ _ _ 2 (by decide) rfl j _ _ (by omega) rfl).trans (congrArg Real.toEReal (left_weight x _ j))

theorem left3 (x : S2048x512.Idx → BitVec 8) (j : S2048x256.Idx) :
    (FloatOps.sitofp .bf16 (bitcast S2048x256 8 (andi (shrui (bitcast S512x256 32 (left x) bitcasts_S2048x256_w8_S512x256_w32)
        (broadcast S512x256 6#32)) (broadcast S512x256 50529027#32)) bitcasts_S512x256_w32_S2048x256_w8 j) : Ideal .bf16) - 1
      = ((weight x 2048 (6144 + (j 0).val) (j 1).val : ℝ) : EReal) :=
  (sitofp_weight (by rfl) (left x) _ _ _ 3 (by decide) rfl j _ _ (by omega) rfl).trans (congrArg Real.toEReal (left_weight x _ j))

/-- The right 256 columns of a block of weights. -/
def right (x : S2048x512.Idx → BitVec 8) : S2048x256.Idx → BitVec 8 :=
  fun j => x ((Rect.unit (s := S2048x512) ![0, 256] S2048x256.size inb_S2048x512_S2048x256_0_256).idx j)

theorem right_weight (x : S2048x512.Idx → BitVec 8) (k : ℕ) (j : S2048x256.Idx) : weight (right x) 2048 k (j 1).val = columns (weight x 2048) 256 k (j 1).val := by
  have h := weight_block x (right x) 256 (fun j => at2_of x ((Rect.unit (s := S2048x512) ![0, 256] S2048x256.size inb_S2048x512_S2048x256_0_256).idx j) _ _
    ((Nat.zero_add _).trans (Nat.one_mul _)) (congrArg (256 + ·) (Nat.one_mul _))) (by decide) k (j 1).val (j 1).isLt
  exact h

theorem right0 (x : S2048x512.Idx → BitVec 8) (j : S2048x256.Idx) :
    (FloatOps.sitofp .bf16 (bitcast S2048x256 8 (andi (shrui (bitcast S512x256 32 (right x) bitcasts_S2048x256_w8_S512x256_w32)
        (broadcast S512x256 0#32)) (broadcast S512x256 50529027#32)) bitcasts_S512x256_w32_S2048x256_w8 j) : Ideal .bf16) - 1
      = ((columns (weight x 2048) 256 ((j 0).val) (j 1).val : ℝ) : EReal) :=
  (sitofp_weight (by rfl) (right x) _ _ _ 0 (by decide) rfl j _ _ (by omega) rfl).trans (congrArg Real.toEReal (right_weight x _ j))

theorem right1 (x : S2048x512.Idx → BitVec 8) (j : S2048x256.Idx) :
    (FloatOps.sitofp .bf16 (bitcast S2048x256 8 (andi (shrui (bitcast S512x256 32 (right x) bitcasts_S2048x256_w8_S512x256_w32)
        (broadcast S512x256 2#32)) (broadcast S512x256 50529027#32)) bitcasts_S512x256_w32_S2048x256_w8 j) : Ideal .bf16) - 1
      = ((columns (weight x 2048) 256 (2048 + (j 0).val) (j 1).val : ℝ) : EReal) :=
  (sitofp_weight (by rfl) (right x) _ _ _ 1 (by decide) rfl j _ _ (by omega) rfl).trans (congrArg Real.toEReal (right_weight x _ j))

theorem right2 (x : S2048x512.Idx → BitVec 8) (j : S2048x256.Idx) :
    (FloatOps.sitofp .bf16 (bitcast S2048x256 8 (andi (shrui (bitcast S512x256 32 (right x) bitcasts_S2048x256_w8_S512x256_w32)
        (broadcast S512x256 4#32)) (broadcast S512x256 50529027#32)) bitcasts_S512x256_w32_S2048x256_w8 j) : Ideal .bf16) - 1
      = ((columns (weight x 2048) 256 (4096 + (j 0).val) (j 1).val : ℝ) : EReal) :=
  (sitofp_weight (by rfl) (right x) _ _ _ 2 (by decide) rfl j _ _ (by omega) rfl).trans (congrArg Real.toEReal (right_weight x _ j))

theorem right3 (x : S2048x512.Idx → BitVec 8) (j : S2048x256.Idx) :
    (FloatOps.sitofp .bf16 (bitcast S2048x256 8 (andi (shrui (bitcast S512x256 32 (right x) bitcasts_S2048x256_w8_S512x256_w32)
        (broadcast S512x256 6#32)) (broadcast S512x256 50529027#32)) bitcasts_S512x256_w32_S2048x256_w8 j) : Ideal .bf16) - 1
      = ((columns (weight x 2048) 256 (6144 + (j 0).val) (j 1).val : ℝ) : EReal) :=
  (sitofp_weight (by rfl) (right x) _ _ _ 3 (by decide) rfl j _ _ (by omega) rfl).trans (congrArg Real.toEReal (right_weight x _ j))

/-- The seven right factors. -/
theorem u_eq (c : Dev nD) (arg4 : Memref sig Kind.tc Space.vmem S2048x512 EltTy.i8) (harg4 : arg4.IsWhole) (x2 : S2048x512.Idx → BitVec 8) (y : S7x4096x256.Idx) :
    View.canon (kernelRun0_B.sl.HS1_14 (F := Ideal) c arg4 harg4 x2) y
      = ((rightFactor (weight x2 2048) (columns (weight x2 2048) 256) 4096 (y 0).val (y 1).val (y 2).val : ℝ) : EReal) := by
  refine canon3 (N0 := 7) (N1 := 4096) (N2 := 256) (e := .bf16) (fun q k n => ((rightFactor (weight x2 2048) (columns (weight x2 2048) 256) 4096 q k n : ℝ) : EReal)) _ ?_
    (View.cover_of_tiledL (s := S7x4096x256) _ S1x2048x256.size (by sl_kernel_rfl)) y
  have e2 : View.readAt (Elt Ideal) arg4.view (Rect.unit (s := S2048x512) ![0, 0] S2048x256.size inb_S2048x512_S2048x256_0_0).toLoadRect (harg4.unread (Val := Elt Ideal) x2) = left x2 := by
    rw [View.readAt_eq_ld, harg4.read_unread]; rfl
  have e3 : View.readAt (Elt Ideal) arg4.view (Rect.unit (s := S2048x512) ![0, 256] S2048x256.size inb_S2048x512_S2048x256_0_256).toLoadRect (harg4.unread (Val := Elt Ideal) x2) = right x2 := by
    rw [View.readAt_eq_ld, harg4.read_unread]; rfl
  unfold kernelRun0_B.sl.HS1_14 kernelRun0_B.sl.r_12 kernelRun0_B.sl.r_11 kernelRun0_B.sl.r_10 kernelRun0_B.sl.r_9 kernelRun0_B.sl.r_8 kernelRun0_B.sl.r_7 kernelRun0_B.sl.r_6 kernelRun0_B.sl.r_5 kernelRun0_B.sl.r_4 kernelRun0_B.sl.r_3 kernelRun0_B.sl.r_2 kernelRun0_B.sl.r_1 kernelRun0_B.sl.cst_12
  rw [e2, e3]
  simp only [List.forall_mem_cons, List.not_mem_nil, false_imp_iff, implies_true, and_true]
  refine ⟨?_, ?_, ?_, ?_, ?_, ?_, ?_, ?_, ?_, ?_, ?_, ?_, ?_, ?_⟩ <;>
    refine plane (fun q k n => ((rightFactor (weight x2 2048) (columns (weight x2 2048) 256) 4096 q k n : ℝ) : EReal)) _ _ fun x => ?_
  all_goals
    unfold_payloads
    pointwise
    simp only [left0, left1, left2, left3, right0, right1, right2, right3, rightFactor, ← Nat.add_assoc, Nat.reduceAdd, ix2_0, ix2_1, EReal.coe_add, EReal.coe_sub, Nat.zero_add]
    rfl

/-- The seven products. -/
theorem p_eq (c : Dev nD) (arg4 : Memref sig Kind.tc Space.vmem S2048x512 EltTy.i8) (harg4 : arg4.IsWhole) (x2 : S2048x512.Idx → BitVec 8)
    (arg8 : Memref sig Kind.tc Space.vmem S7x256x4096 EltTy.bf16) (harg8 : arg8.IsWhole)
    (arg9 : Memref sig Kind.tc Space.vmem S7x4096x256 EltTy.bf16) (xs0 : S7x256x4096.Idx → Ideal .bf16) (A : ℕ → ℕ → ℝ)
    (hA : ∀ j : S7x256x4096.Idx, xs0 j = ((leftFactor A 256 4096 (j 0).val (j 1).val (j 2).val : ℝ) : EReal)) (y : S7x256x256.Idx) :
    View.canon (kernelRun0_B.sl.HS2_7 (F := Ideal) c arg4 harg4 arg8 harg8 arg9 x2 xs0) y
      = ((product A (weight x2 2048) (columns (weight x2 2048) 256) 256 4096 (y 0).val (y 1).val (y 2).val : ℝ) : EReal) := by
  refine canon3 (N0 := 7) (N1 := 256) (N2 := 256) (e := .f32)
    (fun q r n => ((product A (weight x2 2048) (columns (weight x2 2048) 256) 256 4096 q r n : ℝ) : EReal)) _ ?_
    (View.cover_of_tiledL (s := S7x256x256) _ S1x256x256.size (by sl_kernel_rfl)) y
  simp only [kernelRun0_B.sl.HS2_7, kernelRun0_B.sl.v174, kernelRun0_B.sl.v166, kernelRun0_B.sl.r_14, kernelRun0_B.sl.r_15, kernelRun0_B.sl.v150, kernelRun0_B.sl.v142, kernelRun0_B.sl.r_13, kernelRun0_B.sl.v134, kernelRun0_B.sl.v126, kernelRun0_B.sl.v158,
    View.readAt_eq_ld, harg8.read_unread, View.readCov_eq_canon', u_eq]
  simp only [List.forall_mem_cons, List.not_mem_nil, false_imp_iff, implies_true, and_true]
  refine ⟨?_, ?_, ?_, ?_, ?_, ?_, ?_⟩ <;>
    refine plane (fun q k n => ((product A (weight x2 2048) (columns (weight x2 2048) 256) 256 4096 q k n : ℝ) : EReal)) _ _ fun x => ?_
  all_goals
    unfold_payloads
    pointwise
    unfold product
    exact sum_mul_coe 4096 _ _ _ _ (fun k => hA _) (fun k => rfl)

/-- What a later step, its row block’s left factors being those of `A` leaves. -/
theorem out_B (c : Dev nD) (i : grid0.Coords) (arg2 : Memref sig .tc .vmem S512x8192 .i8) (harg2 : arg2.IsWhole) (arg3 : Memref sig .tc .vmem S512x1 .f32) (harg3 : arg3.IsWhole)
    (arg4 : Memref sig .tc .vmem S2048x512 .i8) (harg4 : arg4.IsWhole) (arg5 : Memref sig .tc .vmem S512x512 .f32) (harg5 : arg5.IsWhole) (arg6 : Memref sig .tc .smem S1 .f32) (harg6 : arg6.IsWhole)
    (arg7 : Memref sig .tc .vmem S512x512 .bf16) (harg7 : arg7.IsWhole) (arg8 : Memref sig .tc .vmem S7x256x4096 .bf16) (harg8 : arg8.IsWhole) (arg9 : Memref sig .tc .vmem S7x4096x256 .bf16) (harg9 : arg9.IsWhole)
    (arg10 : Memref sig .tc .vmem S7x256x256 .f32) (harg10 : arg10.IsWhole) (hc0 : ¬cond0_0 i)
    (x0 : S512x8192.Idx → BitVec 8) (x1 : S512x1.Idx → EReal) (x2 : S2048x512.Idx → BitVec 8) (x3 : S512x512.Idx → EReal) (x4 : S1.Idx → EReal)
    (xs0 : S7x256x4096.Idx → Ideal .bf16) (A : ℕ → ℕ → ℝ)
    (hA : ∀ j : S7x256x4096.Idx, xs0 j = ((leftFactor A 256 4096 (j 0).val (j 1).val (j 2).val : ℝ) : EReal)) (y : S512x512.Idx) :
    out0_B_5 (F := Ideal) c i arg2 harg2 arg3 harg3 arg4 harg4 arg5 harg5 arg6 harg6 arg7 harg7 arg8 harg8 arg9 harg9 arg10 harg10 hc0 x0 x1 x2 x3 x4 xs0 y
      = residual (at2 x3 (y 0).val (y 1).val) (dot A (weight x2 2048) 8192 (y 0).val (y 1).val) (at2 x1 (y 0).val 0) (x4 (ix1 0)) := by
  have ul : ∀ r n, (((product A (weight x2 2048) (columns (weight x2 2048) 256) 256 4096 0 r n : ℝ) : EReal) + (product A (weight x2 2048) (columns (weight x2 2048) 256) 256 4096 3 r n : ℝ) - (product A (weight x2 2048) (columns (weight x2 2048) 256) 256 4096 4 r n : ℝ) + (product A (weight x2 2048) (columns (weight x2 2048) 256) 256 4096 6 r n : ℝ)) = ((dot A (weight x2 2048) 8192 r n : ℝ) : EReal) := fun r n => by
    rw [← EReal.coe_add, ← EReal.coe_sub, ← EReal.coe_add, upper_left]
  have ur : ∀ r n, (((product A (weight x2 2048) (columns (weight x2 2048) 256) 256 4096 2 r n : ℝ) : EReal) + (product A (weight x2 2048) (columns (weight x2 2048) 256) 256 4096 4 r n : ℝ)) = ((dot A (weight x2 2048) 8192 r (256 + n) : ℝ) : EReal) := fun r n => by
    rw [← EReal.coe_add, upper_right]; rfl
  have ll : ∀ r n, (((product A (weight x2 2048) (columns (weight x2 2048) 256) 256 4096 1 r n : ℝ) : EReal) + (product A (weight x2 2048) (columns (weight x2 2048) 256) 256 4096 3 r n : ℝ)) = ((dot A (weight x2 2048) 8192 (256 + r) n : ℝ) : EReal) := fun r n => by
    rw [← EReal.coe_add, lower_left]
  have lr : ∀ r n, (((product A (weight x2 2048) (columns (weight x2 2048) 256) 256 4096 0 r n : ℝ) : EReal) - (product A (weight x2 2048) (columns (weight x2 2048) 256) 256 4096 1 r n : ℝ) + (product A (weight x2 2048) (columns (weight x2 2048) 256) 256 4096 2 r n : ℝ) + (product A (weight x2 2048) (columns (weight x2 2048) 256) 256 4096 5 r n : ℝ)) = ((dot A (weight x2 2048) 8192 (256 + r) (256 + n) : ℝ) : EReal) := fun r n => by
    rw [← EReal.coe_sub, ← EReal.coe_add, ← EReal.coe_add, lower_right]; rfl
  have a1 : ∀ (x : S512x1.Idx → EReal) (r : Fin 512) (k : Fin 1), x (ix2 r k) = at2 x r.val k.val := fun x r k => at2_of x _ _ _ rfl rfl
  have a3 : ∀ (x : S512x512.Idx → EReal) (r : Fin 512) (k : Fin 512), x (ix2 r k) = at2 x r.val k.val := fun x r k => at2_of x _ _ _ rfl rfl
  unfold out0_B_5
  rw [View.read_writes_eq_canon _ _ _ (cover0_B_5 (F := Ideal) c i arg2 harg2 arg3 harg3 arg4 harg4 arg5 harg5 arg6 harg6 arg7 harg7 arg8 harg8 arg9 harg9 arg10 harg10 hc0 x0 x1 x2 x3 x4 xs0)]
  refine canon2 (N0 := 512) (N1 := 512) (e := .bf16) (fun r n => residual (at2 x3 r n) (dot A (weight x2 2048) 8192 r n) (at2 x1 r 0) (x4 (ix1 0))) _ ?_ (cover0_B_5 (F := Ideal) c i arg2 harg2 arg3 harg3 arg4 harg4 arg5 harg5 arg6 harg6 arg7 harg7 arg8 harg8 arg9 harg9 arg10 harg10 hc0 x0 x1 x2 x3 x4 xs0) y
  unfold kernelRun0_B
  dsimp only
  simp only [kernelRun0_B.sl.r_4, kernelRun0_B.sl.v182, kernelRun0_B.sl.r_24, kernelRun0_B.sl.r_34, kernelRun0_B.sl.r_5, kernelRun0_B.sl.r_10, kernelRun0_B.sl.r_30, kernelRun0_B.sl.r_12, kernelRun0_B.sl.v186, kernelRun0_B.sl.r_1, kernelRun0_B.sl.v304, kernelRun0_B.sl.v360, kernelRun0_B.sl.r_2, kernelRun0_B.sl.v302, kernelRun0_B.sl.r_20, kernelRun0_B.sl.r_27, kernelRun0_B.sl.v246, kernelRun0_B.sl.v174, kernelRun0_B.sl.r_33, kernelRun0_B.sl.cst_12, kernelRun0_B.sl.v354, kernelRun0_B.sl.r_38, kernelRun0_B.sl.v134, kernelRun0_B.sl.v150, kernelRun0_B.sl.v184, kernelRun0_B.sl.v188, kernelRun0_B.sl.v106, kernelRun0_B.sl.v2, kernelRun0_B.sl.r_18, kernelRun0_B.sl.v244, kernelRun0_B.sl.r_26, kernelRun0_B.sl.v296, kernelRun0_B.sl.r_7, kernelRun0_B.sl.v126, kernelRun0_B.sl.r_25, kernelRun0_B.sl.r_13, kernelRun0_B.sl.v158, kernelRun0_B.sl.v348, kernelRun0_B.sl.r_36, kernelRun0_B.sl.r_17, kernelRun0_B.sl.r_28, kernelRun0_B.sl.r_23, kernelRun0_B.sl.v352, kernelRun0_B.sl.r_22, kernelRun0_B.sl.r_9, kernelRun0_B.sl.v292, kernelRun0_B.sl.r_31, kernelRun0_B.sl.r_39, kernelRun0_B.sl.v240, kernelRun0_B.sl.r_19, kernelRun0_B.sl.r_8, kernelRun0_B.sl.r_3, kernelRun0_B.sl.v350, kernelRun0_B.sl.v192, kernelRun0_B.sl.v3, kernelRun0_B.sl.r_15, kernelRun0_B.sl.r_37, kernelRun0_B.sl.r_35, kernelRun0_B.sl.r_29, kernelRun0_B.sl.v236, kernelRun0_B.sl.v300, kernelRun0_B.sl.r_14, kernelRun0_B.sl.v1, kernelRun0_B.sl.r, kernelRun0_B.sl.v294, kernelRun0_B.sl.r_6, kernelRun0_B.sl.v248, kernelRun0_B.sl.v298, kernelRun0_B.sl.v358, kernelRun0_B.sl.v166, kernelRun0_B.sl.r_16, kernelRun0_B.sl.r_21, kernelRun0_B.sl.v238, kernelRun0_B.sl.r_32, kernelRun0_B.sl.v142, kernelRun0_B.sl.v242, kernelRun0_B.sl.r_11, kernelRun0_B.sl.v180, kernelRun0_B.sl.v356, kernelRun0_B.sl.v190,
    View.readAt_eq_ld, harg3.read_unread, harg5.read_unread, harg6.read_unread, View.readCov_eq_canon', p_eq (A := A) (hA := hA)]
  simp only [List.forall_mem_cons, List.not_mem_nil, false_imp_iff, implies_true, and_true]
  refine ⟨?_, ?_, ?_, ?_, ?_, ?_, ?_, ?_, ?_, ?_, ?_, ?_, ?_, ?_, ?_, ?_⟩ <;>
    refine patch (fun r n => residual (at2 x3 r n) (dot A (weight x2 2048) 8192 r n) (at2 x1 r 0) (x4 (ix1 0))) _ _ fun x => ?_
  all_goals
    unfold_payloads
    pointwise
    simp only [ul, ur, ll, lr, a1 x1, a3 x3, ← Nat.add_assoc, Nat.reduceAdd, Nat.zero_add]
    rfl

end DownProjKernel
-- ==== Proof.Ternary.DownProjFirst.lean ====
/- The down projection kernel's first step of a row block: it also makes the seven left factors from the row block's codes, keeps them
   in the scratch, and then does what a later step does. -/
module

public import proofs.«01_k».proof.Proof.Ternary.DownProjLater
public import proofs.«01_k».proof.Proof.Ternary.Plain

@[expose] public section

set_option maxRecDepth 16384

noncomputable section

namespace DownProjKernel

open Cert.DownProjIdeal Cert.DownProjIdeal.Gen Idealize.ShloMosaic Idealize.ShloMosaic.TcCoe Idealize.ShloMosaic.Tactic Ternary

/-- The seven left factors. -/
theorem t_eq (c : Dev nD) (arg2 : Memref sig Kind.tc Space.vmem S512x8192 EltTy.i8) (harg2 : arg2.IsWhole)
    (x0 : S512x8192.Idx → BitVec 8) (y : S7x256x4096.Idx) :
    View.canon (kernelRun0_A.sl.HS0_28 (F := Ideal) c arg2 harg2 x0) y
      = ((leftFactor (code x0) 256 4096 (y 0).val (y 1).val (y 2).val : ℝ) : EReal) := by
  refine canon3 (N0 := 7) (N1 := 256) (N2 := 4096) (e := .bf16) (fun q k n => ((leftFactor (code x0) 256 4096 q k n : ℝ) : EReal)) _ ?_
    (View.cover_of_tiledL (s := S7x256x4096) _ S1x64x4096.size (by sl_kernel_rfl)) y
  simp only [kernelRun0_A.sl.HS0_28, kernelRun0_A.sl.r_14, kernelRun0_A.sl.r_16, kernelRun0_A.sl.r_13, kernelRun0_A.sl.r_15, kernelRun0_A.sl.r_17, kernelRun0_A.sl.r_10, kernelRun0_A.sl.r_12, kernelRun0_A.sl.r_9, kernelRun0_A.sl.r_11, kernelRun0_A.sl.r_5, kernelRun0_A.sl.r_7, kernelRun0_A.sl.r_4, kernelRun0_A.sl.r_6, kernelRun0_A.sl.r_8, kernelRun0_A.sl.r_1, kernelRun0_A.sl.r_2, kernelRun0_A.sl.r_3, View.readAt_eq_ld, harg2.read_unread]
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_⟩ <;>
    refine plane (fun q k n => ((leftFactor (code x0) 256 4096 q k n : ℝ) : EReal)) _ _ fun x => ?_
  all_goals
    unfold_payloads
    pointwise
    simp only [sitofp_code x0, leftFactor, ← Nat.add_assoc, Nat.reduceAdd, EReal.coe_add, EReal.coe_sub, Nat.zero_add]
    rfl

/-- The seven right factors, as of a later step. -/
theorem uA_eq (c : Dev nD) (arg4 : Memref sig Kind.tc Space.vmem S2048x512 EltTy.i8) (harg4 : arg4.IsWhole) (x2 : S2048x512.Idx → BitVec 8) (y : S7x4096x256.Idx) :
    View.canon (kernelRun0_A.sl.HS1_14 (F := Ideal) c arg4 harg4 x2) y
      = ((rightFactor (weight x2 2048) (columns (weight x2 2048) 256) 4096 (y 0).val (y 1).val (y 2).val : ℝ) : EReal) :=
  u_eq c arg4 harg4 x2 y

/-- The seven products. -/
theorem pA_eq (c : Dev nD) (arg2 : Memref sig Kind.tc Space.vmem S512x8192 EltTy.i8) (harg2 : arg2.IsWhole) (arg4 : Memref sig Kind.tc Space.vmem S2048x512 EltTy.i8) (harg4 : arg4.IsWhole)
    (arg8 : Memref sig Kind.tc Space.vmem S7x256x4096 EltTy.bf16) (arg9 : Memref sig Kind.tc Space.vmem S7x4096x256 EltTy.bf16)
    (x0 : S512x8192.Idx → BitVec 8) (x2 : S2048x512.Idx → BitVec 8) (y : S7x256x256.Idx) :
    View.canon (kernelRun0_A.sl.HS2_7 (F := Ideal) c arg2 harg2 arg4 harg4 arg8 arg9 x0 x2) y
      = ((product (code x0) (weight x2 2048) (columns (weight x2 2048) 256) 256 4096 (y 0).val (y 1).val (y 2).val : ℝ) : EReal) := by
  refine canon3 (N0 := 7) (N1 := 256) (N2 := 256) (e := .f32)
    (fun q r n => ((product (code x0) (weight x2 2048) (columns (weight x2 2048) 256) 256 4096 q r n : ℝ) : EReal)) _ ?_
    (View.cover_of_tiledL (s := S7x256x256) _ S1x256x256.size (by sl_kernel_rfl)) y
  simp only [kernelRun0_A.sl.HS2_7, kernelRun0_A.sl.v172, kernelRun0_A.sl.v174, kernelRun0_A.sl.v164, kernelRun0_A.sl.v166, kernelRun0_A.sl.r_31, kernelRun0_A.sl.r_32, kernelRun0_A.sl.v148, kernelRun0_A.sl.v150, kernelRun0_A.sl.v140, kernelRun0_A.sl.v142, kernelRun0_A.sl.r_30, kernelRun0_A.sl.v134, kernelRun0_A.sl.v124, kernelRun0_A.sl.v126, kernelRun0_A.sl.v132, kernelRun0_A.sl.v158, kernelRun0_A.sl.v156,
    View.readAt_eq_ld, View.readCov_eq_canon', uA_eq, t_eq]
  simp only [List.forall_mem_cons, List.not_mem_nil, false_imp_iff, implies_true, and_true]
  refine ⟨?_, ?_, ?_, ?_, ?_, ?_, ?_⟩ <;>
    refine plane (fun q k n => ((product (code x0) (weight x2 2048) (columns (weight x2 2048) 256) 256 4096 q k n : ℝ) : EReal)) _ _ fun x => ?_
  all_goals
    unfold_payloads
    pointwise
    unfold product
    exact sum_mul_coe 4096 _ _ _ _ (fun k => rfl) (fun k => rfl)

/-- What the first step of a row block leaves. -/
theorem out_A (c : Dev nD) (i : grid0.Coords) (arg2 : Memref sig .tc .vmem S512x8192 .i8) (harg2 : arg2.IsWhole) (arg3 : Memref sig .tc .vmem S512x1 .f32) (harg3 : arg3.IsWhole)
    (arg4 : Memref sig .tc .vmem S2048x512 .i8) (harg4 : arg4.IsWhole) (arg5 : Memref sig .tc .vmem S512x512 .f32) (harg5 : arg5.IsWhole) (arg6 : Memref sig .tc .smem S1 .f32) (harg6 : arg6.IsWhole)
    (arg7 : Memref sig .tc .vmem S512x512 .bf16) (harg7 : arg7.IsWhole) (arg8 : Memref sig .tc .vmem S7x256x4096 .bf16) (harg8 : arg8.IsWhole) (arg9 : Memref sig .tc .vmem S7x4096x256 .bf16) (harg9 : arg9.IsWhole)
    (arg10 : Memref sig .tc .vmem S7x256x256 .f32) (harg10 : arg10.IsWhole) (hc0 : cond0_0 i)
    (x0 : S512x8192.Idx → BitVec 8) (x1 : S512x1.Idx → EReal) (x2 : S2048x512.Idx → BitVec 8) (x3 : S512x512.Idx → EReal) (x4 : S1.Idx → EReal) (y : S512x512.Idx) :
    out0_A_5 (F := Ideal) c i arg2 harg2 arg3 harg3 arg4 harg4 arg5 harg5 arg6 harg6 arg7 harg7 arg8 harg8 arg9 harg9 arg10 harg10 hc0 x0 x1 x2 x3 x4 y
      = residual (at2 x3 (y 0).val (y 1).val) (dot (code x0) (weight x2 2048) 8192 (y 0).val (y 1).val) (at2 x1 (y 0).val 0) (x4 (ix1 0)) := by
  have ul : ∀ r n, (((product (code x0) (weight x2 2048) (columns (weight x2 2048) 256) 256 4096 0 r n : ℝ) : EReal) + (product (code x0) (weight x2 2048) (columns (weight x2 2048) 256) 256 4096 3 r n : ℝ) - (product (code x0) (weight x2 2048) (columns (weight x2 2048) 256) 256 4096 4 r n : ℝ) + (product (code x0) (weight x2 2048) (columns (weight x2 2048) 256) 256 4096 6 r n : ℝ)) = ((dot (code x0) (weight x2 2048) 8192 r n : ℝ) : EReal) := fun r n => by
    rw [← EReal.coe_add, ← EReal.coe_sub, ← EReal.coe_add, upper_left]
  have ur : ∀ r n, (((product (code x0) (weight x2 2048) (columns (weight x2 2048) 256) 256 4096 2 r n : ℝ) : EReal) + (product (code x0) (weight x2 2048) (columns (weight x2 2048) 256) 256 4096 4 r n : ℝ)) = ((dot (code x0) (weight x2 2048) 8192 r (256 + n) : ℝ) : EReal) := fun r n => by
    rw [← EReal.coe_add, upper_right]; rfl
  have ll : ∀ r n, (((product (code x0) (weight x2 2048) (columns (weight x2 2048) 256) 256 4096 1 r n : ℝ) : EReal) + (product (code x0) (weight x2 2048) (columns (weight x2 2048) 256) 256 4096 3 r n : ℝ)) = ((dot (code x0) (weight x2 2048) 8192 (256 + r) n : ℝ) : EReal) := fun r n => by
    rw [← EReal.coe_add, lower_left]
  have lr : ∀ r n, (((product (code x0) (weight x2 2048) (columns (weight x2 2048) 256) 256 4096 0 r n : ℝ) : EReal) - (product (code x0) (weight x2 2048) (columns (weight x2 2048) 256) 256 4096 1 r n : ℝ) + (product (code x0) (weight x2 2048) (columns (weight x2 2048) 256) 256 4096 2 r n : ℝ) + (product (code x0) (weight x2 2048) (columns (weight x2 2048) 256) 256 4096 5 r n : ℝ)) = ((dot (code x0) (weight x2 2048) 8192 (256 + r) (256 + n) : ℝ) : EReal) := fun r n => by
    rw [← EReal.coe_sub, ← EReal.coe_add, ← EReal.coe_add, lower_right]; rfl
  have a1 : ∀ (x : S512x1.Idx → EReal) (r : Fin 512) (k : Fin 1), x (ix2 r k) = at2 x r.val k.val := fun x r k => at2_of x _ _ _ rfl rfl
  have a3 : ∀ (x : S512x512.Idx → EReal) (r : Fin 512) (k : Fin 512), x (ix2 r k) = at2 x r.val k.val := fun x r k => at2_of x _ _ _ rfl rfl
  unfold out0_A_5
  rw [View.read_writes_eq_canon _ _ _ (cover0_A_5 (F := Ideal) c i arg2 harg2 arg3 harg3 arg4 harg4 arg5 harg5 arg6 harg6 arg7 harg7 arg8 harg8 arg9 harg9 arg10 harg10 hc0 x0 x1 x2 x3 x4)]
  refine canon2 (N0 := 512) (N1 := 512) (e := .bf16) (fun r n => residual (at2 x3 r n) (dot (code x0) (weight x2 2048) 8192 r n) (at2 x1 r 0) (x4 (ix1 0))) _ ?_ (cover0_A_5 (F := Ideal) c i arg2 harg2 arg3 harg3 arg4 harg4 arg5 harg5 arg6 harg6 arg7 harg7 arg8 harg8 arg9 harg9 arg10 harg10 hc0 x0 x1 x2 x3 x4) y
  unfold kernelRun0_A
  dsimp only
  simp only [kernelRun0_A.sl.v358, kernelRun0_A.sl.v106, kernelRun0_A.sl.v150, kernelRun0_A.sl.v352, kernelRun0_A.sl.r_42, kernelRun0_A.sl.r_48, kernelRun0_A.sl.v172, kernelRun0_A.sl.v156, kernelRun0_A.sl.v142, kernelRun0_A.sl.v348, kernelRun0_A.sl.v2, kernelRun0_A.sl.v182, kernelRun0_A.sl.r_49, kernelRun0_A.sl.r_44, kernelRun0_A.sl.r_43, kernelRun0_A.sl.r_46, kernelRun0_A.sl.r_22, kernelRun0_A.sl.v240, kernelRun0_A.sl.r_2, kernelRun0_A.sl.v302, kernelRun0_A.sl.v192, kernelRun0_A.sl.v188, kernelRun0_A.sl.v292, kernelRun0_A.sl.r_3, kernelRun0_A.sl.r_21, kernelRun0_A.sl.r_20, kernelRun0_A.sl.v132, kernelRun0_A.sl.v246, kernelRun0_A.sl.r_26, kernelRun0_A.sl.r_29, kernelRun0_A.sl.r_37, kernelRun0_A.sl.r_14, kernelRun0_A.sl.r_19, kernelRun0_A.sl.v360, kernelRun0_A.sl.r_18, kernelRun0_A.sl.r_15, kernelRun0_A.sl.r, kernelRun0_A.sl.r_8, kernelRun0_A.sl.r_54, kernelRun0_A.sl.v158, kernelRun0_A.sl.v294, kernelRun0_A.sl.v164, kernelRun0_A.sl.v126, kernelRun0_A.sl.r_45, kernelRun0_A.sl.r_12, kernelRun0_A.sl.v166, kernelRun0_A.sl.v356, kernelRun0_A.sl.r_5, kernelRun0_A.sl.v244, kernelRun0_A.sl.r_47, kernelRun0_A.sl.r_33, kernelRun0_A.sl.r_52, kernelRun0_A.sl.r_23, kernelRun0_A.sl.v298, kernelRun0_A.sl.cst_12, kernelRun0_A.sl.v1, kernelRun0_A.sl.r_56, kernelRun0_A.sl.r_10, kernelRun0_A.sl.v296, kernelRun0_A.sl.v304, kernelRun0_A.sl.r_16, kernelRun0_A.sl.r_11, kernelRun0_A.sl.v180, kernelRun0_A.sl.v186, kernelRun0_A.sl.v354, kernelRun0_A.sl.r_53, kernelRun0_A.sl.v242, kernelRun0_A.sl.r_28, kernelRun0_A.sl.r_51, kernelRun0_A.sl.r_7, kernelRun0_A.sl.r_34, kernelRun0_A.sl.r_38, kernelRun0_A.sl.v190, kernelRun0_A.sl.r_9, kernelRun0_A.sl.r_39, kernelRun0_A.sl.v236, kernelRun0_A.sl.r_32, kernelRun0_A.sl.v134, kernelRun0_A.sl.v238, kernelRun0_A.sl.r_50, kernelRun0_A.sl.r_40, kernelRun0_A.sl.r_31, kernelRun0_A.sl.r_41, kernelRun0_A.sl.r_25, kernelRun0_A.sl.v300, kernelRun0_A.sl.r_17, kernelRun0_A.sl.v124, kernelRun0_A.sl.r_36, kernelRun0_A.sl.v3, kernelRun0_A.sl.v248, kernelRun0_A.sl.r_35, kernelRun0_A.sl.v148, kernelRun0_A.sl.r_27, kernelRun0_A.sl.v350, kernelRun0_A.sl.v140, kernelRun0_A.sl.r_6, kernelRun0_A.sl.v174, kernelRun0_A.sl.r_30, kernelRun0_A.sl.r_13, kernelRun0_A.sl.v184, kernelRun0_A.sl.r_24, kernelRun0_A.sl.r_1, kernelRun0_A.sl.r_55, kernelRun0_A.sl.r_4,
    View.readAt_eq_ld, harg3.read_unread, harg5.read_unread, harg6.read_unread, View.readCov_eq_canon', pA_eq]
  simp only [List.forall_mem_cons, List.not_mem_nil, false_imp_iff, implies_true, and_true]
  refine ⟨?_, ?_, ?_, ?_, ?_, ?_, ?_, ?_, ?_, ?_, ?_, ?_, ?_, ?_, ?_, ?_⟩ <;>
    refine patch (fun r n => residual (at2 x3 r n) (dot (code x0) (weight x2 2048) 8192 r n) (at2 x1 r 0) (x4 (ix1 0))) _ _ fun x => ?_
  all_goals
    unfold_payloads
    pointwise
    simp only [ul, ur, ll, lr, a1 x1, a3 x3, ← Nat.add_assoc, Nat.reduceAdd, Nat.zero_add]
    rfl

/-- What the first step of a row block leaves for the others. -/
theorem scratch_A (c : Dev nD) (i : grid0.Coords) (arg2 : Memref sig .tc .vmem S512x8192 .i8) (harg2 : arg2.IsWhole) (arg3 : Memref sig .tc .vmem S512x1 .f32) (harg3 : arg3.IsWhole)
    (arg4 : Memref sig .tc .vmem S2048x512 .i8) (harg4 : arg4.IsWhole) (arg5 : Memref sig .tc .vmem S512x512 .f32) (harg5 : arg5.IsWhole) (arg6 : Memref sig .tc .smem S1 .f32) (harg6 : arg6.IsWhole)
    (arg7 : Memref sig .tc .vmem S512x512 .bf16) (harg7 : arg7.IsWhole) (arg8 : Memref sig .tc .vmem S7x256x4096 .bf16) (harg8 : arg8.IsWhole) (arg9 : Memref sig .tc .vmem S7x4096x256 .bf16) (harg9 : arg9.IsWhole)
    (arg10 : Memref sig .tc .vmem S7x256x256 .f32) (harg10 : arg10.IsWhole) (hc0 : cond0_0 i)
    (x0 : S512x8192.Idx → BitVec 8) (x1 : S512x1.Idx → EReal) (x2 : S2048x512.Idx → BitVec 8) (x3 : S512x512.Idx → EReal) (x4 : S1.Idx → EReal) (y : S7x256x4096.Idx) :
    sout0_A_0 (F := Ideal) c i arg2 harg2 arg3 harg3 arg4 harg4 arg5 harg5 arg6 harg6 arg7 harg7 arg8 harg8 arg9 harg9 arg10 harg10 hc0 x0 x1 x2 x3 x4 y = ((leftFactor (code x0) 256 4096 (y 0).val (y 1).val (y 2).val : ℝ) : EReal) := by
  unfold sout0_A_0
  rw [View.read_writes_eq_canon _ _ _ (scover0_A_0 (F := Ideal) c i arg2 harg2 arg3 harg3 arg4 harg4 arg5 harg5 arg6 harg6 arg7 harg7 arg8 harg8 arg9 harg9 arg10 harg10 hc0 x0 x1 x2 x3 x4)]
  unfold kernelRun0_A
  dsimp only
  exact t_eq c arg2 harg2 x0 y

end DownProjKernel
-- ==== Proof.Ternary.DownProjArray.lean ====
/- The down projection kernel's result array: every element is the residual plus the scaled plain product over the whole
   contraction, taken from the argument arrays. -/
module

public import proofs.«01_k».proof.Proof.Ternary.DownProjFirst
public import proofs.«01_k».proof.Proof.Ternary.Blocks
public import Idealize.ShloMosaic.Lib.Pipeline.ValueKit

@[expose] public section

set_option maxRecDepth 16384

noncomputable section

namespace DownProjKernel

open Cert.DownProjIdeal Cert.DownProjIdeal.Gen Cert.DownProjIdeal.Value Idealize.ShloMosaic Idealize.ShloMosaic.TcCoe Idealize.ShloMosaic.Tactic Ternary

variable (m : (ℓ : Loc nD τ sig) → Buf (Elt Ideal) ℓ) (c : Dev nD)

/-- Which blocks point `t` reads. -/
theorem idx : ∀ t : Fin cfg0.N, win0_0.index t = ![t.val / 6, 0] ∧ win0_1.index t = ![t.val / 6, 0]
    ∧ win0_2.index t = ![0, t.val % 6] ∧ win0_3.index t = ![t.val / 6, t.val % 6] ∧ win0_4.index t = ![0]
    ∧ win0_5.index t = ![t.val / 6, t.val % 6] :=
  (by decide +kernel : ∀ t : Fin grid0.N, _)

theorem lt_points (t : Fin cfg0.N) : t.val < 144 := lt_of_lt_of_eq t.isLt N_0

/-- The arguments. -/
abbrev X : S12288x8192.Idx → BitVec 8 := m ((c : Thread nD τ).loc main_arg0)
abbrev Sc : S12288x1.Idx → EReal := m ((c : Thread nD τ).loc main_arg1)
abbrev Wt : S2048x3072.Idx → BitVec 8 := m ((c : Thread nD τ).loc main_arg2)
abbrev Re : S12288x3072.Idx → EReal := m ((c : Thread nD τ).loc main_arg3)
abbrev Ws : (⟨0, ![]⟩ : Shape).Idx → EReal := m ((c : Thread nD τ).loc main_arg4)

/-- The blocks point `t` reads, in the arguments. -/
theorem block0 (t : Fin cfg0.N) (j : S512x8192.Idx) : iblk m c 0 t j = at2 (X m c) (512 * (t.val / 6) + (j 0).val) (0 + (j 1).val) := by
  have := lt_points t
  have h : (j 0).val < 512 := (j 0).isLt
  refine Eq.trans ?_ (at2_of (X m c) (ix2 ⟨512 * (t.val / 6) + (j 0).val, by omega⟩ (j 1)) _ _ rfl (Nat.zero_add _).symm)
  blk_ext [iblk, V, idx t]

theorem block1 (t : Fin cfg0.N) (j : S512x1.Idx) : iblk m c 1 t j = at2 (Sc m c) (512 * (t.val / 6) + (j 0).val) (0 + (j 1).val) := by
  have := lt_points t
  have h : (j 0).val < 512 := (j 0).isLt
  refine Eq.trans ?_ (at2_of (Sc m c) (ix2 ⟨512 * (t.val / 6) + (j 0).val, by omega⟩ (j 1)) _ _ rfl (Nat.zero_add _).symm)
  blk_ext [iblk, V, idx t]

theorem block2 (t : Fin cfg0.N) (j : S2048x512.Idx) : iblk m c 2 t j = at2 (Wt m c) (j 0).val (512 * (t.val % 6) + (j 1).val) := by
  have := lt_points t
  have h : (j 1).val < 512 := (j 1).isLt
  refine Eq.trans ?_ (at2_of (Wt m c) (ix2 (j 0) ⟨512 * (t.val % 6) + (j 1).val, by omega⟩) _ _ rfl rfl)
  blk_ext [iblk, V, idx t]

theorem block3 (t : Fin cfg0.N) (j : S512x512.Idx) : iblk m c 3 t j = at2 (Re m c) (512 * (t.val / 6) + (j 0).val) (512 * (t.val % 6) + (j 1).val) := by
  have := lt_points t
  have h0 : (j 0).val < 512 := (j 0).isLt
  have h1 : (j 1).val < 512 := (j 1).isLt
  refine Eq.trans ?_ (at2_of (Re m c) (ix2 ⟨512 * (t.val / 6) + (j 0).val, by omega⟩ ⟨512 * (t.val % 6) + (j 1).val, by omega⟩) _ _ rfl rfl)
  blk_ext [iblk, V, idx t]

theorem block4 (t : Fin cfg0.N) (j : S1.Idx) : iblk m c 4 t j = scalar (Ws m c) := by
  refine Eq.trans (b := V m c main_v0 j) ?_ ?_
  · blk_ext [iblk, V, idx t]
  · entry_read
    exact scalar_of (Ws m c) _

/-- The codes of the row block of point `n`. -/
abbrev rows (n : ℕ) (r k : ℕ) : ℝ := code (X m c) (512 * (n / 6) + r) k

theorem code_rows (t : Fin cfg0.N) (r k : ℕ) (hr : r < 512) (hk : k < 8192) : code (iblk m c 0 t) r k = rows m c t.val r k := by
  have h := code_block (X m c) (iblk m c 0 t) _ _ (block0 m c t) r k hr hk
  rwa [Nat.zero_add] at h

/-- The carried scratch holds the left factors of the row block: after its first point … -/
theorem scratch_first (t : Fin cfg0.N) (h0 : t.val % 6 = 0) (j : S7x256x4096.Idx) :
    (outsAt0 m c t.val t.isLt).2 j = ((leftFactor (rows m c t.val) 256 4096 (j 0).val (j 1).val (j 2).val : ℝ) : EReal) := by
  rw [outsAt0_A m c t h0]
  dsimp only
  rw [scratch_A, leftFactor_congr (hm := 256) (hk := 4096) (fun r k => code_rows m c t r k) (j 1).isLt (j 2).isLt]

/-- … and a later point keeps it … -/
theorem scratch_later (t : Fin cfg0.N) (h0 : ¬t.val % 6 = 0) :
    (outsAt0 m c t.val t.isLt).2 = (outsAt0 m c (t.val - 1) (Nat.lt_of_le_of_lt (Nat.sub_le _ _) t.isLt)).2 :=
  (congrArg Prod.snd (outsAt0_B m c t h0)).trans rfl

/-- … so after every point. -/
theorem scratch : ∀ (n : ℕ) (h : n < cfg0.N) (j : S7x256x4096.Idx),
    (outsAt0 m c n h).2 j = ((leftFactor (rows m c n) 256 4096 (j 0).val (j 1).val (j 2).val : ℝ) : EReal) := by
  intro n
  induction n with
  | zero => exact fun h j => scratch_first m c ⟨0, h⟩ rfl j
  | succ n ih =>
    intro h j
    by_cases h0 : (n + 1) % 6 = 0
    · exact scratch_first m c ⟨n + 1, h⟩ h0 j
    · refine (congrFun (scratch_later m c ⟨n + 1, h⟩ h0) j).trans ((ih (Nat.lt_of_succ_lt h) j).trans ?_)
      rw [show rows m c n = rows m c (n + 1) by funext r k; unfold rows; rw [show (n + 1) / 6 = n / 6 by omega]]

/-- The result: the residual plus the scaled whole product. -/
def final : S12288x3072.Idx → EReal := fun i =>
  residual (at2 (Re m c) (i 0).val (i 1).val) (dot (code (X m c)) (weight (Wt m c) 2048) 8192 (i 0).val (i 1).val)
      (at2 (Sc m c) (i 0).val 0) (scalar (Ws m c))

/-- A step's value, in the arguments. -/
theorem step_final (t : Fin cfg0.N) (A : ℕ → ℕ → ℝ) (hA : ∀ r k, r < 512 → k < 8192 → A r k = rows m c t.val r k) (y : S512x512.Idx)
    (i : S12288x3072.Idx) (h0 : (i 0).val = 512 * (t.val / 6) + (y 0).val) (h1 : (i 1).val = 512 * (t.val % 6) + (y 1).val) :
    residual (at2 (R := 512) (C := 512) (α := EReal) (iblk m c 3 t) (y 0).val (y 1).val) (dot A (weight (iblk m c 2 t) 2048) 8192 (y 0).val (y 1).val)
      (at2 (R := 512) (C := 1) (α := EReal) (iblk m c 1 t) (y 0).val 0) (iblk m c 4 t (ix1 0)) = final m c i := by
  have hy0 : (y 0).val < 512 := (y 0).isLt
  have hy1 : (y 1).val < 512 := (y 1).isLt
  have hd : dot A (weight (iblk m c 2 t) 2048) 8192 (y 0).val (y 1).val
      = dot (code (X m c)) (weight (Wt m c) 2048) 8192 (i 0).val (i 1).val :=
    dot_congr (fun k hk => by rw [hA _ _ hy0 hk, h0])
      (fun k _ => by rw [weight_block (Wt m c) (iblk m c 2 t) _ (block2 m c t) (by decide) k _ hy1, h1])
  have hr : at2 (R := 512) (C := 512) (α := EReal) (iblk m c 3 t) (y 0).val (y 1).val = at2 (Re m c) (i 0).val (i 1).val := by
    rw [at2_block (Re m c) (iblk m c 3 t) _ _ (block3 m c t) _ _ hy0 hy1, h0, h1]
  have hs : at2 (R := 512) (C := 1) (α := EReal) (iblk m c 1 t) (y 0).val 0 = at2 (Sc m c) (i 0).val 0 := by
    rw [at2_block (Sc m c) (iblk m c 1 t) _ _ (block1 m c t) _ 0 hy0 (by decide), h0]
  rw [hd, hr, hs, block4]
  rfl

/-- The array after the run. -/
theorem array : (dats m 0 c).arrAt 5 cfg0.N = final m c := by
  refine (dats m 0 c).arrAt_eq_of_covers 5 _ (by decide +kernel) fun t _ y => ?_
  have e0 : (((cfg0.win 5).blk t).view.emb y 0).val = 512 * (t.val / 6) + (y 0).val := by blk_simp [idx t]; omega
  have e1 : (((cfg0.win 5).blk t).view.emb y 1).val = 512 * (t.val % 6) + (y 1).val := by blk_simp [idx t]; omega
  blk_simp
  rw [after0_5]
  by_cases h0 : t.val % 6 = 0
  · rw [outsAt0_A m c t h0]
    dsimp only
    rw [out_A]
    exact step_final m c t _ (code_rows m c t) y _ e0 e1
  · rw [outsAt0_B m c t h0]
    dsimp only
    rw [out_B (A := rows m c t.val) (hA := fun j => ?_)]
    · exact step_final m c t _ (fun _ _ _ _ => rfl) y _ e0 e1
    rw [scratch, show rows m c (t.val - 1) = rows m c t.val by funext r k; unfold rows; rw [show (t.val - 1) / 6 = t.val / 6 by omega]]

end DownProjKernel
-- ==== Proof.Ternary.DownProjReference.lean ====
/- The plain down projection reference's result array: the residual plus a scaled product, the product being the sum of four partial
   products of the codes with one field of the weight bytes. -/
module

public import proofs.«01_k».proof.Proof.Gen.DownProjRefIdeal.Value
public import proofs.«01_k».proof.Proof.Ternary.Plain
public import Idealize.ShloMosaic.Lib.Pipeline.ValueKit
public import proofs.«01_k».proof.Proof.Ternary.Blocks

@[expose] public section

set_option maxRecDepth 16384

noncomputable section

namespace DownProjReference

open Cert.DownProjRefIdeal Cert.DownProjRefIdeal.Gen Cert.DownProjRefIdeal.Value Idealize.ShloMosaic Idealize.ShloMosaic.TcCoe Idealize.ShloMosaic.Tactic Ternary

/-- The stored array. -/
theorem out_eq (c : Dev nD) (arg0 : Memref sig .tc .vmem S12288x8192 .i8) (harg0 : arg0.IsWhole) (arg1 : Memref sig .tc .vmem S12288x1 .f32) (harg1 : arg1.IsWhole)
    (arg2 : Memref sig .tc .vmem S2048x3072 .i8) (harg2 : arg2.IsWhole) (arg3 : Memref sig .tc .vmem S12288x3072 .f32) (harg3 : arg3.IsWhole)
    (arg4 : Memref sig .tc .smem S1 .f32) (harg4 : arg4.IsWhole) (arg5 : Memref sig .tc .vmem S12288x3072 .bf16) (harg5 : arg5.IsWhole)
    (x0 : S12288x8192.Idx → BitVec 8) (x1 : S12288x1.Idx → EReal) (x2 : S2048x3072.Idx → BitVec 8) (x3 : S12288x3072.Idx → EReal) (x4 : S1.Idx → EReal) (y : S12288x3072.Idx) :
    out0_A_5 (F := Ideal) c arg0 harg0 arg1 harg1 arg2 harg2 arg3 harg3 arg4 harg4 arg5 harg5 x0 x1 x2 x3 x4 y
      = residual (at2 x3 (y 0).val (y 1).val) (dot (code x0) (weight x2 2048) 8192 (y 0).val (y 1).val) (at2 x1 (y 0).val 0) (x4 (ix1 0)) := by
  obtain ⟨r, l, rfl⟩ : ∃ (r : Fin 12288) (l : Fin 3072), y = ix2 r l := pair y
  unfold out0_A_5
  rw [View.read_writes_eq_canon _ _ _ (cover0_A_5 (F := Ideal) c arg0 harg0 arg1 harg1 arg2 harg2 arg3 harg3 arg4 harg4 arg5 harg5 x0 x1 x2 x3 x4)]
  unfold kernelRun0_A
  dsimp only
  refine (congrFun (View.canon_unit_zero (S := S12288x3072) zero2 _ _) _).trans ?_
  unfold kernelRun0_A.sl.r kernelRun0_A.sl.r_1 kernelRun0_A.sl.r_2 kernelRun0_A.sl.r_3
  simp only [View.readAt_eq_ld, harg0.read_unread, harg1.read_unread, harg2.read_unread, harg3.read_unread, harg4.read_unread]
  unfold_payloads
  pointwise
  have hl : l.val < 3072 := l.isLt
  have g := plain_dot (k4 := 2048) x0 x2 rfl rfl rfl (rfl : 8192 = 4 * 2048) r ⟨l.val, by omega⟩ (by omega) (by omega) (by omega) (by omega)
  refine Eq.trans ?_ (congrArg (fun g : EReal => at2 x3 r.val l.val + g * at2 x1 r.val 0 * x4 (ix1 0)) g)
  rw [← at2_of x1 (ix2 r 0) r.val 0 rfl rfl, ← at2_of x3 (ix2 r l) r.val l.val rfl rfl]

/-- The blocks are the whole arrays. -/
theorem idx : ∀ t : Fin cfg0.N, win0_0.index t = ![0, 0] ∧ win0_1.index t = ![0, 0] ∧ win0_2.index t = ![0, 0]
    ∧ win0_3.index t = ![0, 0] ∧ win0_4.index t = ![0] ∧ win0_5.index t = ![0, 0] :=
  (by decide +kernel : ∀ t : Fin grid0.N, _)

/-- The array after the run. -/
theorem array (m : (ℓ : Loc nD τ sig) → Buf (Elt Ideal) ℓ) (c : Dev nD) (X : S12288x8192.Idx → BitVec 8) (Sc : S12288x1.Idx → EReal)
    (Wt : S2048x3072.Idx → BitVec 8) (Re : S12288x3072.Idx → EReal) (Ws : (⟨0, ![]⟩ : Shape).Idx → EReal)
    (h0 : m ((c : Thread nD τ).loc main_arg0) = X) (h1 : m ((c : Thread nD τ).loc main_arg1) = Sc)
    (h2 : m ((c : Thread nD τ).loc main_arg2) = Wt) (h3 : m ((c : Thread nD τ).loc main_arg3) = Re)
    (h4 : m ((c : Thread nD τ).loc main_arg4) = Ws) :
    (dats m 0 c).arrAt 5 cfg0.N = fun i : S12288x3072.Idx =>
      residual (at2 Re (i 0).val (i 1).val) (dot (code X) (weight Wt 2048) 8192 (i 0).val (i 1).val)
      (at2 Sc (i 0).val 0) (scalar Ws) := by
  subst h0 h1 h2 h3 h4
  refine (dats m 0 c).arrAt_eq_of_covers 5 _ (by decide +kernel) fun t _ y => ?_
  have b0 : iblk m c 0 t = m ((c : Thread nD τ).loc main_arg0) := by funext j; blk_ext [iblk, V, idx t]
  have b1 : iblk m c 1 t = m ((c : Thread nD τ).loc main_arg1) := by funext j; blk_ext [iblk, V, idx t]
  have b2 : iblk m c 2 t = m ((c : Thread nD τ).loc main_arg2) := by funext j; blk_ext [iblk, V, idx t]
  have b3 : iblk m c 3 t = m ((c : Thread nD τ).loc main_arg3) := by funext j; blk_ext [iblk, V, idx t]
  have b4 : iblk m c 4 t (ix1 0) = scalar (m ((c : Thread nD τ).loc main_arg4)) := by
    refine Eq.trans (b := V m c main_v0 (ix1 0)) ?_ ?_
    · blk_ext [iblk, V, idx t]
    · entry_read
      exact scalar_of (m ((c : Thread nD τ).loc main_arg4)) _
  have e : ((cfg0.win 5).blk t).view.emb y = y := by blk_ext [idx t]
  rw [e]
  blk_simp
  rw [after0_5]
  unfold outsAt0
  rw [out_eq, b0, b1, b2, b3, b4]

end DownProjReference
-- ==== Proof.Ternary.DownProjClaim.lean ====
/- Down projection: kernel and reference compute the same array from the same arguments. -/
module

public import proofs.«01_k».proof.Defs
public import proofs.«01_k».proof.Proof.Gen.DownProjIdeal
public import proofs.«01_k».proof.Proof.Gen.DownProjRefIdeal
public import proofs.«01_k».proof.Proof.Ternary.DownProjArray
public import proofs.«01_k».proof.Proof.Ternary.DownProjReference

@[expose] public section

noncomputable section

open Idealize.ShloMosaic Idealize.SL.Sem

/-- The algebraic claim. -/
theorem DownProjKernel.claim : Cert.algebraic_DownProjIdeal_DownProjRefIdeal (hDownProjIdeal := Cert.DownProjIdeal.Gen.facts)
    (hDownProjRefIdeal := Cert.DownProjRefIdeal.Gen.facts) := by
  intro m g m' g' _ hm
  refine ⟨fun c => DownProjKernel.final m c, ?_, ?_⟩
  · exact (θ_run _ _ _).mono (fun r h c => ⟨(h c).1.trans (DownProjKernel.array m c), (h c).2⟩) (Cert.DownProjIdeal.Value.run_blocks m g)
  · refine (θ_run _ _ _).mono (fun r h c => ⟨(h c).1.trans ?_, (h c).2⟩) (Cert.DownProjRefIdeal.Value.run_blocks m' g')
    obtain ⟨h0, h1, h2, h3, h4⟩ := hm c
    exact DownProjReference.array m' c _ _ _ _ _ h0 h1 h2 h3 h4
-- ==== Proof.lean ====
module

public import proofs.«01_k».proof.Defs
public import proofs.«01_k».proof.Proof.Gen.QuantIn
public import proofs.«01_k».proof.Proof.Gen.QuantIn.Frame
public import proofs.«01_k».proof.Proof.Gen.QuantInIdeal
public import proofs.«01_k».proof.Proof.Gen.QuantInIdeal.Frame
public import proofs.«01_k».proof.Proof.Gen.QuantInRefIdeal
public import proofs.«01_k».proof.Proof.Gen.QuantInRefIdeal.Frame
public import proofs.«01_k».proof.Proof.Gen.QuantMid
public import proofs.«01_k».proof.Proof.Gen.QuantMid.Frame
public import proofs.«01_k».proof.Proof.Gen.QuantMidIdeal
public import proofs.«01_k».proof.Proof.Gen.QuantMidIdeal.Frame
public import proofs.«01_k».proof.Proof.Gen.QuantMidRefIdeal
public import proofs.«01_k».proof.Proof.Gen.QuantMidRefIdeal.Frame
public import proofs.«01_k».proof.Proof.Gen.OProj
public import proofs.«01_k».proof.Proof.Gen.OProj.Frame
public import proofs.«01_k».proof.Proof.Gen.OProjIdeal
public import proofs.«01_k».proof.Proof.Gen.OProjIdeal.Frame
public import proofs.«01_k».proof.Proof.Gen.OProjRefIdeal
public import proofs.«01_k».proof.Proof.Gen.OProjRefIdeal.Frame
public import proofs.«01_k».proof.Proof.Gen.GateUp
public import proofs.«01_k».proof.Proof.Gen.GateUp.Frame
public import proofs.«01_k».proof.Proof.Gen.GateUpIdeal
public import proofs.«01_k».proof.Proof.Gen.GateUpIdeal.Frame
public import proofs.«01_k».proof.Proof.Gen.GateUpRefIdeal
public import proofs.«01_k».proof.Proof.Gen.GateUpRefIdeal.Frame
public import proofs.«01_k».proof.Proof.Gen.QuantDown
public import proofs.«01_k».proof.Proof.Gen.QuantDown.Frame
public import proofs.«01_k».proof.Proof.Gen.QuantDownIdeal
public import proofs.«01_k».proof.Proof.Gen.QuantDownIdeal.Frame
public import proofs.«01_k».proof.Proof.Gen.QuantDownRefIdeal
public import proofs.«01_k».proof.Proof.Gen.QuantDownRefIdeal.Frame
public import proofs.«01_k».proof.Proof.Gen.DownProj
public import proofs.«01_k».proof.Proof.Gen.DownProj.Frame
public import proofs.«01_k».proof.Proof.Gen.DownProjIdeal
public import proofs.«01_k».proof.Proof.Gen.DownProjIdeal.Frame
public import proofs.«01_k».proof.Proof.Gen.DownProjRefIdeal
public import proofs.«01_k».proof.Proof.Gen.DownProjRefIdeal.Frame
public import proofs.«01_k».proof.Proof.Gen.QuantInIdeal.Value
public import proofs.«01_k».proof.Proof.Gen.QuantInRefIdeal.Value
public import proofs.«01_k».proof.Proof.Gen.QuantMidIdeal.Value
public import proofs.«01_k».proof.Proof.Gen.QuantMidRefIdeal.Value
public import proofs.«01_k».proof.Proof.Gen.OProjIdeal.Value
public import proofs.«01_k».proof.Proof.Gen.OProjRefIdeal.Value
public import proofs.«01_k».proof.Proof.Gen.GateUpIdeal.Value
public import proofs.«01_k».proof.Proof.Gen.GateUpRefIdeal.Value
public import proofs.«01_k».proof.Proof.Gen.QuantDownIdeal.Value
public import proofs.«01_k».proof.Proof.Gen.QuantDownRefIdeal.Value
public import proofs.«01_k».proof.Proof.Gen.DownProjIdeal.Value
public import proofs.«01_k».proof.Proof.Gen.DownProjRefIdeal.Value
public import proofs.«01_k».proof.Proof.Ternary.QuantInClaim
public import proofs.«01_k».proof.Proof.Ternary.QuantMidClaim
public import proofs.«01_k».proof.Proof.Ternary.OProjClaim
public import proofs.«01_k».proof.Proof.Ternary.GateUpClaim
public import proofs.«01_k».proof.Proof.Ternary.QuantDownClaim
public import proofs.«01_k».proof.Proof.Ternary.DownProjClaim
public import Idealize.ShloMosaic.Adequacy
public import Idealize.ShloMosaic.Init

@[expose] public section

noncomputable section

namespace Cert.Proof

open Idealize.ShloMosaic Idealize.SL.Sem

/-- All the claims. -/
theorem claim : Cert.Claim := ⟨Cert.QuantIn.Gen.facts, Cert.QuantInIdeal.Gen.facts, Cert.QuantInRefIdeal.Gen.facts, Cert.QuantMid.Gen.facts, Cert.QuantMidIdeal.Gen.facts, Cert.QuantMidRefIdeal.Gen.facts, Cert.OProj.Gen.facts, Cert.OProjIdeal.Gen.facts, Cert.OProjRefIdeal.Gen.facts, Cert.GateUp.Gen.facts, Cert.GateUpIdeal.Gen.facts, Cert.GateUpRefIdeal.Gen.facts, Cert.QuantDown.Gen.facts, Cert.QuantDownIdeal.Gen.facts, Cert.QuantDownRefIdeal.Gen.facts, Cert.DownProj.Gen.facts, Cert.DownProjIdeal.Gen.facts, Cert.DownProjRefIdeal.Gen.facts,
  fun m ρ _ => Cert.QuantIn.Gen.frame m ρ,
  fun m ρ _ => Cert.QuantInIdeal.Gen.frame m ρ,
  fun m ρ _ => Cert.QuantInRefIdeal.Gen.frame m ρ,
  fun m ρ _ => Cert.QuantMid.Gen.frame m ρ,
  fun m ρ _ => Cert.QuantMidIdeal.Gen.frame m ρ,
  fun m ρ _ => Cert.QuantMidRefIdeal.Gen.frame m ρ,
  fun m ρ _ => Cert.OProj.Gen.frame m ρ,
  fun m ρ _ => Cert.OProjIdeal.Gen.frame m ρ,
  fun m ρ _ => Cert.OProjRefIdeal.Gen.frame m ρ,
  fun m ρ _ => Cert.GateUp.Gen.frame m ρ,
  fun m ρ _ => Cert.GateUpIdeal.Gen.frame m ρ,
  fun m ρ _ => Cert.GateUpRefIdeal.Gen.frame m ρ,
  fun m ρ _ => Cert.QuantDown.Gen.frame m ρ,
  fun m ρ _ => Cert.QuantDownIdeal.Gen.frame m ρ,
  fun m ρ _ => Cert.QuantDownRefIdeal.Gen.frame m ρ,
  fun m ρ _ => Cert.DownProj.Gen.frame m ρ,
  fun m ρ _ => Cert.DownProjIdeal.Gen.frame m ρ,
  fun m ρ _ => Cert.DownProjRefIdeal.Gen.frame m ρ,
  trivial, QuantInKernel.claim,
  trivial, QuantMidKernel.claim,
  trivial, OProjKernel.claim,
  trivial, GateUpKernel.claim,
  trivial, QuantDownKernel.claim,
  trivial, DownProjKernel.claim⟩

end Cert.Proof

end
